-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "q_fold" .f32 0x3E0293EE#32 (((11863283 * 134217728⁻¹) * (Real.log 2)⁻¹ : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v11) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S8192x2048 : Shape := ⟨2, ![8192, 2048]⟩
abbrev S16x8192 : Shape := ⟨2, ![16, 8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_arg4 : FVec F S8192x2048 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S8192x2048 .f32) (main_arg3 : FVec F S16x8192 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_v13 main_v16
-- ==== Kernel.lean ====
abbrev S8192x2048 : Shape := ⟨2, ![8192, 2048]⟩
abbrev S16x8192 : Shape := ⟨2, ![16, 8192]⟩
abbrev S_ : Shape := ⟨0, ![]⟩
abbrev S8192x6144 : Shape := ⟨2, ![8192, 6144]⟩
abbrev S8192x16 : Shape := ⟨2, ![8192, 16]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x1 : Shape := ⟨3, ![16, 8192, 1]⟩
abbrev S4x8192x2048 : Shape := ⟨3, ![4, 8192, 2048]⟩
abbrev S1024x128 : Shape := ⟨2, ![1024, 128]⟩
abbrev S8192x128 : Shape := ⟨2, ![8192, 128]⟩
abbrev S1x1x8192 : Shape := ⟨3, ![1, 1, 8192]⟩
abbrev S4x8192x128 : Shape := ⟨3, ![4, 8192, 128]⟩
abbrev S1024x1 : Shape := ⟨2, ![1024, 1]⟩
abbrev S128x8192 : Shape := ⟨2, ![128, 8192]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S128x1024 : Shape := ⟨2, ![128, 1024]⟩
abbrev S1x1024x128 : Shape := ⟨3, ![1, 1024, 128]⟩
abbrev S1x8192x128 : Shape := ⟨3, ![1, 8192, 128]⟩

abbrev nBuf : Space → Nat
  | .hbm => 77
  | .vmem => 27
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S8192x6144, .bf16⟩
  | .hbm, ⟨17, _⟩ => ⟨S16x8192, .f32⟩
  | .hbm, ⟨18, _⟩ => ⟨S16x8192, .f32⟩
  | .hbm, ⟨19, _⟩ => ⟨S8192x16, .f32⟩
  | .hbm, ⟨20, _⟩ => ⟨S8192x16x128, .f32⟩
  | .hbm, ⟨21, _⟩ => ⟨S8192x2048, .f32⟩
  | .hbm, ⟨22, _⟩ => ⟨S8192x16x128, .f32⟩
  | .hbm, ⟨23, _⟩ => ⟨S16x8192x128, .f32⟩
  | .hbm, ⟨24, _⟩ => ⟨S8192x16x128, .f32⟩
  | .hbm, ⟨25, _⟩ => ⟨S16x8192x128, .f32⟩
  | .hbm, ⟨26, _⟩ => ⟨S16x8192x8192, .f32⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S16x1x8192, .f32⟩
  | .hbm, ⟨31, _⟩ => ⟨S16x8192x8192, .f32⟩
  | .hbm, ⟨32, _⟩ => ⟨S16x8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S16x8192x8192, .i1⟩
  | .hbm, ⟨42, _⟩ => ⟨S16x8192x8192, .f32⟩
  | .hbm, ⟨43, _⟩ => ⟨S16x8192x8192, .f32⟩
  | .hbm, ⟨44, _⟩ => ⟨S_, .f32⟩
  | .hbm, ⟨45, _⟩ => ⟨S16x8192, .f32⟩
  | .hbm, ⟨46, _⟩ => ⟨S16x8192x1, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S_, .f32⟩
  | .hbm, ⟨51, _⟩ => ⟨S16x8192, .f32⟩
  | .hbm, ⟨52, _⟩ => ⟨S16x8192x1, .f32⟩
  | .hbm, ⟨53, _⟩ => ⟨S16x8192x8192, .f32⟩
  | .hbm, ⟨54, _⟩ => ⟨S16x8192x8192, .f32⟩
  | .hbm, ⟨55, _⟩ => ⟨S8192x16x128, .f32⟩
  | .hbm, ⟨56, _⟩ => ⟨S16x8192x128, .f32⟩
  | .hbm, ⟨57, _⟩ => ⟨S16x8192x128, .f32⟩
  | .hbm, ⟨58, _⟩ => ⟨S16x8192x1, .f32⟩
  | .hbm, ⟨59, _⟩ => ⟨S16x8192x1, .f32⟩
  | .hbm, ⟨60, _⟩ => ⟨S16x8192, .f32⟩
  | .hbm, ⟨61, _⟩ => ⟨S_, .f32⟩
  | .hbm, ⟨62, _⟩ => ⟨S_, .f32⟩
  | .hbm, ⟨63, _⟩ => ⟨S16x8192, .f32⟩
  | .hbm, ⟨64, _⟩ => ⟨S16x8192, .f32⟩
  | .hbm, ⟨65, _⟩ => ⟨S8192x16x128, .f32⟩
  | .hbm, ⟨66, _⟩ => ⟨S16x8192x128, .f32⟩
  | .hbm, ⟨67, _⟩ => ⟨S16x8192x128, .f32⟩
  | .hbm, ⟨68, _⟩ => ⟨S_, .f32⟩
  | .hbm, ⟨69, _⟩ => ⟨S16x8192, .f32⟩
  | .hbm, ⟨70, _⟩ => ⟨S8192x2048, .bf16⟩
  | .hbm, ⟨71, _⟩ => ⟨S8192x2048, .bf16⟩
  | .hbm, ⟨72, _⟩ => ⟨S16x1x8192, .f32⟩
  | .hbm, ⟨73, _⟩ => ⟨S16x1x8192, .f32⟩
  | .hbm, ⟨74, _⟩ => ⟨S4x8192x2048, .bf16⟩
  | .hbm, ⟨75, _⟩ => ⟨S8192x2048, .f32⟩
  | .hbm, ⟨76, _⟩ => ⟨S16x1x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1x1x8192, .f32⟩
  | .local _ .vmem, ⟨9, _⟩ => ⟨S1x1x8192, .f32⟩
  | .local _ .vmem, ⟨10, _⟩ => ⟨S1x1x8192, .f32⟩
  | .local _ .vmem, ⟨11, _⟩ => ⟨S1x1x8192, .f32⟩
  | .local _ .vmem, ⟨12, _⟩ => ⟨S1024x128, .f32⟩
  | .local _ .vmem, ⟨13, _⟩ => ⟨S1024x128, .f32⟩
  | .local _ .vmem, ⟨14, _⟩ => ⟨S8192x128, .bf16⟩
  | .local _ .vmem, ⟨15, _⟩ => ⟨S8192x128, .bf16⟩
  | .local _ .vmem, ⟨16, _⟩ => ⟨S4x8192x128, .bf16⟩
  | .local _ .vmem, ⟨17, _⟩ => ⟨S4x8192x128, .bf16⟩
  | .local _ .vmem, ⟨18, _⟩ => ⟨S1024x128, .f32⟩
  | .local _ .vmem, ⟨19, _⟩ => ⟨S1024x128, .f32⟩
  | .local _ .vmem, ⟨20, _⟩ => ⟨S1x1x8192, .f32⟩
  | .local _ .vmem, ⟨21, _⟩ => ⟨S1x1x8192, .f32⟩
  | .local _ .vmem, ⟨22, _⟩ => ⟨S1024x128, .f32⟩
  | .local _ .vmem, ⟨23, _⟩ => ⟨S1024x128, .f32⟩
  | .local _ .vmem, ⟨24, _⟩ => ⟨S1024x1, .f32⟩
  | .local _ .vmem, ⟨25, _⟩ => ⟨S128x8192, .f32⟩
  | .local _ .vmem, ⟨26, _⟩ => ⟨S1x8192, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev main_v57_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v22 : BitVec 32 := Scalar.muli arg1 c1024_i32
  v22
def k0_off1 (i : grid0.Coords) : Fin 2 → Nat :=
  let arg1 : BitVec 32 := BitVec.ofNat 32 (i 1).val
  let c1024_i32 : BitVec 32 := 1024#32
  let v22 : BitVec 32 := Scalar.muli arg1 c1024_i32
  let v23 : BitVec 32 := v22
  let v24 : Index := Scalar.indexCast v23
  let c0_14 : Index := 0#32
  ![v24.toNat, 0]
def k0_off2 (i : grid0.Coords) : Fin 3 → Nat :=
  let c0_17 : Index := 0#32
  let c0_18 : Index := 0#32
  let arg1 : BitVec 32 := BitVec.ofNat 32 (i 1).val
  let c1024_i32 : BitVec 32 := 1024#32
  let v22 : BitVec 32 := Scalar.muli arg1 c1024_i32
  let v23 : BitVec 32 := v22
  let v32 : Index := Scalar.indexCast v23
  ![0, 0, v32.toNat]
def k0_off3 (i : grid0.Coords) : Fin 2 → Nat :=
  let c0_38 : Index := 0#32
  let arg1 : BitVec 32 := BitVec.ofNat 32 (i 1).val
  let c1024_i32 : BitVec 32 := 1024#32
  let v22 : BitVec 32 := Scalar.muli arg1 c1024_i32
  let v23 : BitVec 32 := v22
  let v71 : Index := Scalar.indexCast v23
  ![0, v71.toNat]
def k0_off4 (i : grid0.Coords) : Fin 2 → Nat :=
  let c0_41 : Index := 0#32
  let arg1 : BitVec 32 := BitVec.ofNat 32 (i 1).val
  let c1024_i32 : BitVec 32 := 1024#32
  let v22 : BitVec 32 := Scalar.muli arg1 c1024_i32
  let v23 : BitVec 32 := v22
  let v79 : Index := Scalar.indexCast v23
  ![0, v79.toNat]
@[reducible] def k0_t1_loop (i : grid0.Coords) : Scf.Loop 32 :=
  let arg1 : BitVec 32 := BitVec.ofNat 32 (i 1).val
  let c1_i32 : BitVec 32 := 1#32
  let v88 : BitVec 32 := Scalar.addi arg1 c1_i32
  let c8_i32 : BitVec 32 := 8#32
  let v89 : BitVec 32 := Scalar.subi c8_i32 v88
  let c1_i32_45 : BitVec 32 := 1#32
  let v91 : BitVec 32 := Scalar.divsi v89 c1_i32_45
  let v92 : BitVec 32 := Scalar.muli v91 c1_i32_45
  let v93 : BitVec 32 := Scalar.addi v88 v92
  let c1_i32_46 : BitVec 32 := 1#32
  ⟨v88, v93, c1_i32_46⟩
def k0_mult2 (i : grid0.Coords) (k0_t1 : Fin (k0_t1_loop i).trips) : BitVec 32 :=
  let arg1 : BitVec 32 := BitVec.ofNat 32 (i 1).val
  let c1_i32 : BitVec 32 := 1#32
  let v88 : BitVec 32 := Scalar.addi arg1 c1_i32
  let c1_i32_46 : BitVec 32 := 1#32
  let arg18 : BitVec 32 := Scf.iv v88 c1_i32_46 k0_t1
  let c1024_i32_62 : BitVec 32 := 1024#32
  let v119 : BitVec 32 := Scalar.muli arg18 c1024_i32_62
  v119
def k0_off5 (i : grid0.Coords) (k0_t1 : Fin (k0_t1_loop i).trips) : Fin 2 → Nat :=
  let arg1 : BitVec 32 := BitVec.ofNat 32 (i 1).val
  let c1_i32 : BitVec 32 := 1#32
  let v88 : BitVec 32 := Scalar.addi arg1 c1_i32
  let c1_i32_46 : BitVec 32 := 1#32
  let arg18 : BitVec 32 := Scf.iv v88 c1_i32_46 k0_t1
  let c1024_i32_62 : BitVec 32 := 1024#32
  let v119 : BitVec 32 := Scalar.muli arg18 c1024_i32_62
  let v120 : BitVec 32 := v119
  let v121 : Index := Scalar.indexCast v120
  let c0_63 : Index := 0#32
  ![v121.toNat, 0]
def k0_off6 (i : grid0.Coords) (k0_t1 : Fin (k0_t1_loop i).trips) : Fin 3 → Nat :=
  let c0_66 : Index := 0#32
  let c0_67 : Index := 0#32
  let arg1 : BitVec 32 := BitVec.ofNat 32 (i 1).val
  let c1_i32 : BitVec 32 := 1#32
  let v88 : BitVec 32 := Scalar.addi arg1 c1_i32
  let c1_i32_46 : BitVec 32 := 1#32
  let arg18 : BitVec 32 := Scf.iv v88 c1_i32_46 k0_t1
  let c1024_i32_62 : BitVec 32 := 1024#32
  let v119 : BitVec 32 := Scalar.muli arg18 c1024_i32_62
  let v120 : BitVec 32 := v119
  let v129 : Index := Scalar.indexCast v120
  ![0, 0, v129.toNat]
def k0_off7 (i : grid0.Coords) (k0_t1 : Fin (k0_t1_loop i).trips) : Fin 2 → Nat :=
  let c0_86 : Index := 0#32
  let arg1 : BitVec 32 := BitVec.ofNat 32 (i 1).val
  let c1_i32 : BitVec 32 := 1#32
  let v88 : BitVec 32 := Scalar.addi arg1 c1_i32
  let c1_i32_46 : BitVec 32 := 1#32
  let arg18 : BitVec 32 := Scf.iv v88 c1_i32_46 k0_t1
  let c1024_i32_62 : BitVec 32 := 1024#32
  let v119 : BitVec 32 := Scalar.muli arg18 c1024_i32_62
  let v120 : BitVec 32 := v119
  let v163 : Index := Scalar.indexCast v120
  ![0, v163.toNat]
def k0_off8 (i : grid0.Coords) (k0_t1 : Fin (k0_t1_loop i).trips) : Fin 2 → Nat :=
  let c0_89 : Index := 0#32
  let arg1 : BitVec 32 := BitVec.ofNat 32 (i 1).val
  let c1_i32 : BitVec 32 := 1#32
  let v88 : BitVec 32 := Scalar.addi arg1 c1_i32
  let c1_i32_46 : BitVec 32 := 1#32
  let arg18 : BitVec 32 := Scf.iv v88 c1_i32_46 k0_t1
  let c1024_i32_62 : BitVec 32 := 1024#32
  let v119 : BitVec 32 := Scalar.muli arg18 c1024_i32_62
  let v120 : BitVec 32 := v119
  let v171 : Index := Scalar.indexCast v120
  ![0, v171.toNat]
@[reducible] def k0_t2_loop (i : grid0.Coords) : Scf.Loop 32 :=
  let arg1 : BitVec 32 := BitVec.ofNat 32 (i 1).val
  let c1_i32 : BitVec 32 := 1#32
  let v88 : BitVec 32 := Scalar.addi arg1 c1_i32
  let c8_i32 : BitVec 32 := 8#32
  let v89 : BitVec 32 := Scalar.subi c8_i32 v88
  let c1_i32_45 : BitVec 32 := 1#32
  let v91 : BitVec 32 := Scalar.divsi v89 c1_i32_45
  let v92 : BitVec 32 := Scalar.muli v91 c1_i32_45
  let v93 : BitVec 32 := Scalar.addi v88 v92
  let v90 : BitVec 32 := Scalar.addi v88 v89
  let c1_i32_47 : BitVec 32 := 1#32
  ⟨v93, v90, c1_i32_47⟩
def k0_mult3 (i : grid0.Coords) (k0_t2 : Fin (k0_t2_loop i).trips) : BitVec 32 :=
  let arg1 : BitVec 32 := BitVec.ofNat 32 (i 1).val
  let c1_i32 : BitVec 32 := 1#32
  let v88 : BitVec 32 := Scalar.addi arg1 c1_i32
  let c8_i32 : BitVec 32 := 8#32
  let v89 : BitVec 32 := Scalar.subi c8_i32 v88
  let c1_i32_45 : BitVec 32 := 1#32
  let v91 : BitVec 32 := Scalar.divsi v89 c1_i32_45
  let v92 : BitVec 32 := Scalar.muli v91 c1_i32_45
  let v93 : BitVec 32 := Scalar.addi v88 v92
  let c1_i32_47 : BitVec 32 := 1#32
  let arg18 : BitVec 32 := Scf.iv v93 c1_i32_47 k0_t2
  let c1024_i32_62 : BitVec 32 := 1024#32
  let v119 : BitVec 32 := Scalar.muli arg18 c1024_i32_62
  v119
def k0_off9 (i : grid0.Coords) (k0_t2 : Fin (k0_t2_loop i).trips) : Fin 2 → Nat :=
  let arg1 : BitVec 32 := BitVec.ofNat 32 (i 1).val
  let c1_i32 : BitVec 32 := 1#32
  let v88 : BitVec 32 := Scalar.addi arg1 c1_i32
  let c8_i32 : BitVec 32 := 8#32
  let v89 : BitVec 32 := Scalar.subi c8_i32 v88
  let c1_i32_45 : BitVec 32 := 1#32
  let v91 : BitVec 32 := Scalar.divsi v89 c1_i32_45
  let v92 : BitVec 32 := Scalar.muli v91 c1_i32_45
  let v93 : BitVec 32 := Scalar.addi v88 v92
  let c1_i32_47 : BitVec 32 := 1#32
  let arg18 : BitVec 32 := Scf.iv v93 c1_i32_47 k0_t2
  let c1024_i32_62 : BitVec 32 := 1024#32
  let v119 : BitVec 32 := Scalar.muli arg18 c1024_i32_62
  let v120 : BitVec 32 := v119
  let v121 : Index := Scalar.indexCast v120
  let c0_63 : Index := 0#32
  ![v121.toNat, 0]
def k0_off10 (i : grid0.Coords) (k0_t2 : Fin (k0_t2_loop i).trips) : Fin 3 → Nat :=
  let c0_66 : Index := 0#32
  let c0_67 : Index := 0#32
  let arg1 : BitVec 32 := BitVec.ofNat 32 (i 1).val
  let c1_i32 : BitVec 32 := 1#32
  let v88 : BitVec 32 := Scalar.addi arg1 c1_i32
  let c8_i32 : BitVec 32 := 8#32
  let v89 : BitVec 32 := Scalar.subi c8_i32 v88
  let c1_i32_45 : BitVec 32 := 1#32
  let v91 : BitVec 32 := Scalar.divsi v89 c1_i32_45
  let v92 : BitVec 32 := Scalar.muli v91 c1_i32_45
  let v93 : BitVec 32 := Scalar.addi v88 v92
  let c1_i32_47 : BitVec 32 := 1#32
  let arg18 : BitVec 32 := Scf.iv v93 c1_i32_47 k0_t2
  let c1024_i32_62 : BitVec 32 := 1024#32
  let v119 : BitVec 32 := Scalar.muli arg18 c1024_i32_62
  let v120 : BitVec 32 := v119
  let v129 : Index := Scalar.indexCast v120
  ![0, 0, v129.toNat]
def k0_off11 (i : grid0.Coords) (k0_t2 : Fin (k0_t2_loop i).trips) : Fin 2 → Nat :=
  let c0_86 : Index := 0#32
  let arg1 : BitVec 32 := BitVec.ofNat 32 (i 1).val
  let c1_i32 : BitVec 32 := 1#32
  let v88 : BitVec 32 := Scalar.addi arg1 c1_i32
  let c8_i32 : BitVec 32 := 8#32
  let v89 : BitVec 32 := Scalar.subi c8_i32 v88
  let c1_i32_45 : BitVec 32 := 1#32
  let v91 : BitVec 32 := Scalar.divsi v89 c1_i32_45
  let v92 : BitVec 32 := Scalar.muli v91 c1_i32_45
  let v93 : BitVec 32 := Scalar.addi v88 v92
  let c1_i32_47 : BitVec 32 := 1#32
  let arg18 : BitVec 32 := Scf.iv v93 c1_i32_47 k0_t2
  let c1024_i32_62 : BitVec 32 := 1024#32
  let v119 : BitVec 32 := Scalar.muli arg18 c1024_i32_62
  let v120 : BitVec 32 := v119
  let v163 : Index := Scalar.indexCast v120
  ![0, v163.toNat]
def k0_off12 (i : grid0.Coords) (k0_t2 : Fin (k0_t2_loop i).trips) : Fin 2 → Nat :=
  let c0_89 : Index := 0#32
  let arg1 : BitVec 32 := BitVec.ofNat 32 (i 1).val
  let c1_i32 : BitVec 32 := 1#32
  let v88 : BitVec 32 := Scalar.addi arg1 c1_i32
  let c8_i32 : BitVec 32 := 8#32
  let v89 : BitVec 32 := Scalar.subi c8_i32 v88
  let c1_i32_45 : BitVec 32 := 1#32
  let v91 : BitVec 32 := Scalar.divsi v89 c1_i32_45
  let v92 : BitVec 32 := Scalar.muli v91 c1_i32_45
  let v93 : BitVec 32 := Scalar.addi v88 v92
  let c1_i32_47 : BitVec 32 := 1#32
  let arg18 : BitVec 32 := Scf.iv v93 c1_i32_47 k0_t2
  let c1024_i32_62 : BitVec 32 := 1024#32
  let v119 : BitVec 32 := Scalar.muli arg18 c1024_i32_62
  let v120 : BitVec 32 := v119
  let v171 : Index := Scalar.indexCast v120
  ![0, v171.toNat]
def k0_mult4 (i : grid0.Coords) : BitVec 32 :=
  let arg1 : BitVec 32 := BitVec.ofNat 32 (i 1).val
  let c1024_i32_48 : BitVec 32 := 1024#32
  let v94 : BitVec 32 := Scalar.muli arg1 c1024_i32_48
  v94
def k0_off13 (i : grid0.Coords) : Fin 3 → Nat :=
  let c1 : Index := 1#32
  let arg1 : BitVec 32 := BitVec.ofNat 32 (i 1).val
  let c1024_i32_48 : BitVec 32 := 1024#32
  let v94 : BitVec 32 := Scalar.muli arg1 c1024_i32_48
  let v95 : BitVec 32 := v94
  let v100 : Index := Scalar.indexCast v95
  let c0_52 : Index := 0#32
  ![1, v100.toNat, 0]
def k0_off14 (i : grid0.Coords) : Fin 3 → Nat :=
  let c2 : Index := 2#32
  let arg1 : BitVec 32 := BitVec.ofNat 32 (i 1).val
  let c1024_i32_48 : BitVec 32 := 1024#32
  let v94 : BitVec 32 := Scalar.muli arg1 c1024_i32_48
  let v95 : BitVec 32 := v94
  let v106 : Index := Scalar.indexCast v95
  let c0_55 : Index := 0#32
  ![2, v106.toNat, 0]
def k0_cond2 (i : grid0.Coords) : BitVec 1 :=
  let arg1 : BitVec 32 := BitVec.ofNat 32 (i 1).val
  let c7_i32 : BitVec 32 := 7#32
  let v116 : BitVec 1 := Scalar.cmpi .eq arg1 c7_i32
  let v117 : BitVec 32 := Scalar.extui v116
  let c0_i32_61 : BitVec 32 := 0#32
  let v118 : BitVec 1 := Scalar.cmpi .ne v117 c0_i32_61
  v118

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x2048 : Shape := ⟨2, ![8192, 2048]⟩
abbrev S16x8192 : Shape := ⟨2, ![16, 8192]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩
abbrev S1x8192x2048 : Shape := ⟨3, ![1, 8192, 2048]⟩
abbrev S4x8192x2048 : Shape := ⟨3, ![4, 8192, 2048]⟩
abbrev S8192x16 : Shape := ⟨2, ![8192, 16]⟩

abbrev nBuf : Space → Nat
  | .hbm => 130
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S16x8192, .f32⟩
  | 4 => ⟨S8192x2048, .f32⟩
  | 5 => ⟨S8192x2048, .f32⟩
  | 6 => ⟨S8192x16x128, .f32⟩
  | 7 => ⟨S16x8192x128, .f32⟩
  | 8 => ⟨S8192x16x128, .f32⟩
  | 9 => ⟨S16x8192x128, .f32⟩
  | 10 => ⟨S16x8192x8192, .f32⟩
  | 11 => ⟨S_, .f32⟩
  | 12 => ⟨S16x8192x8192, .f32⟩
  | 13 => ⟨S16x8192x8192, .f32⟩
  | 14 => ⟨S16x8192x1, .f32⟩
  | 15 => ⟨S16x1x8192, .f32⟩
  | 16 => ⟨S16x8192x8192, .f32⟩
  | 17 => ⟨S16x8192x8192, .f32⟩
  | 18 => ⟨S16x8192x8192, .f32⟩
  | 19 => ⟨S16x8192x8192, .f32⟩
  | 20 => ⟨S8192, .i32⟩
  | 21 => ⟨S1x8192, .i32⟩
  | 22 => ⟨S8192x1, .i32⟩
  | 23 => ⟨S8192x8192, .i32⟩
  | 24 => ⟨S8192x8192, .i32⟩
  | 25 => ⟨S8192x8192, .i1⟩
  | 26 => ⟨S_, .f32⟩
  | 27 => ⟨S_, .f32⟩
  | 28 => ⟨S16x8192x8192, .i1⟩
  | 29 => ⟨S16x8192x8192, .f32⟩
  | 30 => ⟨S16x8192x8192, .f32⟩
  | 31 => ⟨S_, .f32⟩
  | 32 => ⟨S16x8192x8192, .f32⟩
  | 33 => ⟨S_, .f32⟩
  | 34 => ⟨S16x8192, .f32⟩
  | 35 => ⟨S16x8192x1, .f32⟩
  | 36 => ⟨S16x8192x8192, .f32⟩
  | 37 => ⟨S16x8192x8192, .i1⟩
  | 38 => ⟨S16x8192x8192, .f32⟩
  | 39 => ⟨S_, .f32⟩
  | 40 => ⟨S16x8192, .f32⟩
  | 41 => ⟨S_, .f32⟩
  | 42 => ⟨S16x8192, .f32⟩
  | 43 => ⟨S16x8192, .f32⟩
  | 44 => ⟨S_, .f32⟩
  | 45 => ⟨S16x8192, .f32⟩
  | 46 => ⟨S16x8192, .i1⟩
  | 47 => ⟨S_, .f32⟩
  | 48 => ⟨S16x8192, .f32⟩
  | 49 => ⟨S16x8192, .i1⟩
  | 50 => ⟨S_, .f32⟩
  | 51 => ⟨S16x8192, .f32⟩
  | 52 => ⟨S_, .f32⟩
  | 53 => ⟨S16x8192, .f32⟩
  | 54 => ⟨S_, .f32⟩
  | 55 => ⟨S16x8192, .f32⟩
  | 56 => ⟨S16x8192, .f32⟩
  | 57 => ⟨S16x8192, .f32⟩
  | 58 => ⟨S16x8192x1, .f32⟩
  | 59 => ⟨S16x8192x8192, .f32⟩
  | 60 => ⟨S16x8192x8192, .f32⟩
  | 61 => ⟨S16x8192x8192, .f32⟩
  | 62 => ⟨S_, .f32⟩
  | 63 => ⟨S16x8192, .f32⟩
  | 64 => ⟨S16x8192x1, .f32⟩
  | 65 => ⟨S16x8192x8192, .f32⟩
  | 66 => ⟨S16x8192x8192, .f32⟩
  | 67 => ⟨S16x8192x1, .f32⟩
  | 68 => ⟨S_, .f32⟩
  | 69 => ⟨S16x8192x1, .f32⟩
  | 70 => ⟨S16x8192x1, .f32⟩
  | 71 => ⟨S8192x16x128, .f32⟩
  | 72 => ⟨S16x8192x128, .f32⟩
  | 73 => ⟨S16x8192x128, .f32⟩
  | 74 => ⟨S8192x16x128, .f32⟩
  | 75 => ⟨S8192x2048, .f32⟩
  | 76 => ⟨S8192x16x128, .f32⟩
  | 77 => ⟨S16x8192x128, .f32⟩
  | 78 => ⟨S16x128x8192, .f32⟩
  | 79 => ⟨S16x8192x128, .f32⟩
  | 80 => ⟨S16x8192x8192, .f32⟩
  | 81 => ⟨S8192x16x128, .f32⟩
  | 82 => ⟨S8192x2048, .f32⟩
  | 83 => ⟨S16x8192x8192, .f32⟩
  | 84 => ⟨S16x8192x8192, .f32⟩
  | 85 => ⟨S16x8192x8192, .f32⟩
  | 86 => ⟨S_, .f32⟩
  | 87 => ⟨S16x8192, .f32⟩
  | 88 => ⟨S16x8192x1, .f32⟩
  | 89 => ⟨S16x8192x1, .f32⟩
  | 90 => ⟨S16x8192x8192, .f32⟩
  | 91 => ⟨S16x8192x8192, .f32⟩
  | 92 => ⟨S_, .f32⟩
  | 93 => ⟨S16x8192, .f32⟩
  | 94 => ⟨S16x8192x8192, .f32⟩
  | 95 => ⟨S16x8192x8192, .f32⟩
  | 96 => ⟨S16x8192x8192, .f32⟩
  | 97 => ⟨S_, .f32⟩
  | 98 => ⟨S16x8192x8192, .f32⟩
  | 99 => ⟨S16x8192x8192, .f32⟩
  | 100 => ⟨S_, .f32⟩
  | 101 => ⟨S16x8192, .f32⟩
  | 102 => ⟨S16x8192x1, .f32⟩
  | 103 => ⟨S16x8192x8192, .f32⟩
  | 104 => ⟨S_, .f32⟩
  | 105 => ⟨S16x8192, .f32⟩
  | 106 => ⟨S16x1x8192, .f32⟩
  | 107 => ⟨S_, .f32⟩
  | 108 => ⟨S16x8192, .f32⟩
  | 109 => ⟨S_, .f32⟩
  | 110 => ⟨S16x8192, .f32⟩
  | 111 => ⟨S_, .f32⟩
  | 112 => ⟨S16x8192x8192, .f32⟩
  | 113 => ⟨S16x8192x8192, .f32⟩
  | 114 => ⟨S16x8192x128, .f32⟩
  | 115 => ⟨S16x8192x128, .f32⟩
  | 116 => ⟨S8192x16x128, .f32⟩
  | 117 => ⟨S8192x2048, .f32⟩
  | 118 => ⟨S8192x16x128, .f32⟩
  | 119 => ⟨S8192x2048, .f32⟩
  | 120 => ⟨S1x8192x2048, .f32⟩
  | 121 => ⟨S1x8192x2048, .f32⟩
  | 122 => ⟨S1x8192x2048, .f32⟩
  | 123 => ⟨S1x8192x2048, .f32⟩
  | 124 => ⟨S4x8192x2048, .f32⟩
  | 125 => ⟨S4x8192x2048, .bf16⟩
  | 126 => ⟨S8192x16, .f32⟩
  | 127 => ⟨S8192x16x128, .f32⟩
  | _ => ⟨S8192x2048, .f32⟩

abbrev hbmTy0_1 (i : Nat) : BufTy := match i % 128 with
  | 0 => ⟨S8192x2048, .f32⟩
  | 1 => ⟨S16x1x8192, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_v19_1 : Ref sig .tc := ⟨.hbm, 28, rfl⟩
abbrev main_call0_v2 : Ref sig .tc := ⟨.hbm, 29, rfl⟩
abbrev main_v19_0 : Ref sig .tc := ⟨.hbm, 30, rfl⟩
abbrev main_call0_cst : Ref sig .tc := ⟨.hbm, 31, rfl⟩
abbrev main_v19_2 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]
-- ==== Kernel2.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4x8192x2048 : Shape := ⟨3, ![4, 8192, 2048]⟩
abbrev S2x4x1024x2048 : Shape := ⟨4, ![2, 4, 1024, 2048]⟩
abbrev S8192x2048 : Shape := ⟨2, ![8192, 2048]⟩
abbrev S1x1024x2048 : Shape := ⟨3, ![1, 1024, 2048]⟩
abbrev S1x1x1024x2048 : Shape := ⟨4, ![1, 1, 1024, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x2048, .bf16⟩
  | .hbm, ⟨1, _⟩ => ⟨S2x4x1024x2048, .bf16⟩
  | .hbm, ⟨2, _⟩ => ⟨S8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_9 : BitVec 32 := 3#32
  let v13 : BitVec 1 := Scalar.cmpi .eq arg2 c3_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg2 c1_i32_5
  let c0_i32_6 : BitVec 32 := 0#32
  let v18 : BitVec 1 := Scalar.cmpi .sgt arg2 c0_i32_6
  let v19 : BitVec 32 := Scalar.extui v18
  let c0_i32_7 : BitVec 32 := 0#32
  let v20 : BitVec 1 := Scalar.cmpi .slt arg2 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg2 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x8192x2048 : Shape := ⟨3, ![4, 8192, 2048]⟩
abbrev S2x4x1024x2048 : Shape := ⟨4, ![2, 4, 1024, 2048]⟩
abbrev S_ : Shape := ⟨0, ![]⟩
abbrev S8192x2048 : Shape := ⟨2, ![8192, 2048]⟩
abbrev S2x1024x4x2048 : Shape := ⟨4, ![2, 1024, 4, 2048]⟩
abbrev S2048x8192 : Shape := ⟨2, ![2048, 8192]⟩
abbrev S8192x8192 : Shape := ⟨2, ![8192, 8192]⟩
abbrev S8192x4x2048 : Shape := ⟨3, ![8192, 4, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S2x4x1024x2048, .bf16⟩
  | .hbm, ⟨2, _⟩ => ⟨S_, .f32⟩
  | .hbm, ⟨3, _⟩ => ⟨S8192x2048, .f32⟩
  | .hbm, ⟨4, _⟩ => ⟨S2x4x1024x2048, .f32⟩
  | .hbm, ⟨5, _⟩ => ⟨S2x1024x4x2048, .f32⟩
  | .hbm, ⟨6, _⟩ => ⟨S2048x8192, .f32⟩
  | .hbm, ⟨7, _⟩ => ⟨S8192x8192, .f32⟩
  | .hbm, ⟨8, _⟩ => ⟨S8192x4x2048, .f32⟩
  | .hbm, ⟨9, _⟩ => ⟨S4x8192x2048, .f32⟩
  | .hbm, ⟨10, _⟩ => ⟨S4x8192x2048, .f32⟩
  | .hbm, ⟨11, _⟩ => ⟨S8192x4x2048, .f32⟩
  | .hbm, ⟨12, _⟩ => ⟨S8192x8192, .f32⟩
  | .hbm, ⟨13, _⟩ => ⟨S8192x2048, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8192x2048 : Shape := ⟨2, ![8192, 2048]⟩
abbrev S4x8192x2048 : Shape := ⟨3, ![4, 8192, 2048]⟩
abbrev S2x4x1024x2048 : Shape := ⟨4, ![2, 4, 1024, 2048]⟩
abbrev S2048x1024 : Shape := ⟨2, ![2048, 1024]⟩
abbrev S1x2048x1024 : Shape := ⟨3, ![1, 2048, 1024]⟩
abbrev S1x1x1024x1024 : Shape := ⟨4, ![1, 1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S2x4x1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg1 c2_i32
  let c0_i32_5 : BitVec 32 := 0#32
  let v18 : BitVec 1 := Scalar.cmpi .sgt arg1 c0_i32_5
  let v19 : BitVec 32 := Scalar.extui v18
  let c0_i32_6 : BitVec 32 := 0#32
  let v20 : BitVec 1 := Scalar.cmpi .slt arg1 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg1 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S4x8192x2048 : Shape := ⟨3, ![4, 8192, 2048]⟩
abbrev S_ : Shape := ⟨0, ![]⟩
abbrev S2x4x1024x2048 : Shape := ⟨4, ![2, 4, 1024, 2048]⟩
abbrev S2x1024x4x2048 : Shape := ⟨4, ![2, 1024, 4, 2048]⟩
abbrev S2048x8192 : Shape := ⟨2, ![2048, 8192]⟩
abbrev S8192x8192 : Shape := ⟨2, ![8192, 8192]⟩
abbrev S8192x4x2048 : Shape := ⟨3, ![8192, 4, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S_, .f32⟩
  | .hbm, ⟨3, _⟩ => ⟨S2x4x1024x2048, .f32⟩
  | .hbm, ⟨4, _⟩ => ⟨S8192x2048, .f32⟩
  | .hbm, ⟨5, _⟩ => ⟨S2x1024x4x2048, .f32⟩
  | .hbm, ⟨6, _⟩ => ⟨S2048x8192, .f32⟩
  | .hbm, ⟨7, _⟩ => ⟨S8192x8192, .f32⟩
  | .hbm, ⟨8, _⟩ => ⟨S8192x4x2048, .f32⟩
  | .hbm, ⟨9, _⟩ => ⟨S4x8192x2048, .f32⟩
  | .hbm, ⟨10, _⟩ => ⟨S4x8192x2048, .f32⟩
  | .hbm, ⟨11, _⟩ => ⟨S8192x4x2048, .f32⟩
  | .hbm, ⟨12, _⟩ => ⟨S8192x8192, .f32⟩
  | .hbm, ⟨13, _⟩ => ⟨S8192x2048, .f32⟩
  | .hbm, ⟨14, _⟩ => ⟨S2048x8192, .f32⟩
  | .hbm, ⟨15, _⟩ => ⟨S2x1024x4x2048, .f32⟩
  | .hbm, ⟨16, _⟩ => ⟨S2x4x1024x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S8192x2048 : Shape := ⟨2, ![8192, 2048]⟩
abbrev S4x8192x2048 : Shape := ⟨3, ![4, 8192, 2048]⟩
abbrev S2048x8192 : Shape := ⟨2, ![2048, 8192]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S4x8192x2048 : Shape := ⟨3, ![4, 8192, 2048]⟩
abbrev S_ : Shape := ⟨0, ![]⟩
abbrev S2048x8192 : Shape := ⟨2, ![2048, 8192]⟩
abbrev S8192x8192 : Shape := ⟨2, ![8192, 8192]⟩
abbrev S8192x4x2048 : Shape := ⟨3, ![8192, 4, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x4x2048, .f32⟩
  | .hbm, ⟨7, _⟩ => ⟨S4x8192x2048, .f32⟩
  | .hbm, ⟨8, _⟩ => ⟨S4x8192x2048, .f32⟩
  | .hbm, ⟨9, _⟩ => ⟨S8192x4x2048, .f32⟩
  | .hbm, ⟨10, _⟩ => ⟨S8192x8192, .f32⟩
  | .hbm, ⟨11, _⟩ => ⟨S8192x2048, .f32⟩
  | .hbm, ⟨12, _⟩ => ⟨S2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S4x8192x2048 : Shape := ⟨3, ![4, 8192, 2048]⟩
abbrev S2048x8192 : Shape := ⟨2, ![2048, 8192]⟩
abbrev S8192x2048 : Shape := ⟨2, ![8192, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4x8192x2048, .bf16⟩
  | .hbm, ⟨1, _⟩ => ⟨S2048x8192, .bf16⟩
  | .hbm, ⟨2, _⟩ => ⟨S8192x2048, .f32⟩
  | .hbm, ⟨3, _⟩ => ⟨S8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4x8192x2048 : Shape := ⟨3, ![4, 8192, 2048]⟩
abbrev S2048x8192 : Shape := ⟨2, ![2048, 8192]⟩
abbrev S8192x2048 : Shape := ⟨2, ![8192, 2048]⟩
abbrev S_ : Shape := ⟨0, ![]⟩
abbrev S8192x8192 : Shape := ⟨2, ![8192, 8192]⟩
abbrev S8192x4x2048 : Shape := ⟨3, ![8192, 4, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S2048x8192, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x4x2048, .f32⟩
  | .hbm, ⟨8, _⟩ => ⟨S4x8192x2048, .f32⟩
  | .hbm, ⟨9, _⟩ => ⟨S4x8192x2048, .f32⟩
  | .hbm, ⟨10, _⟩ => ⟨S8192x4x2048, .f32⟩
  | .hbm, ⟨11, _⟩ => ⟨S8192x8192, .f32⟩
  | .hbm, ⟨12, _⟩ => ⟨S8192x2048, .f32⟩
  | .hbm, ⟨13, _⟩ => ⟨S8192x2048, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S8192x2048 : Shape := ⟨2, ![8192, 2048]⟩
abbrev S2x4x1024x2048 : Shape := ⟨4, ![2, 4, 1024, 2048]⟩
abbrev S8192x8192 : Shape := ⟨2, ![8192, 8192]⟩
abbrev S1024x2048 : Shape := ⟨2, ![1024, 2048]⟩
abbrev S2x1x1024x1024 : Shape := ⟨4, ![2, 1, 1024, 1024]⟩
abbrev S1024x1024 : Shape := ⟨2, ![1024, 1024]⟩
abbrev S8x128 : Shape := ⟨2, ![8, 128]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x4x1024x2048, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2x1x1024x1024, .bf16⟩
  | .local _ .vmem, ⟨3, _⟩ => ⟨S2x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2x4x1024x2048 : Shape := ⟨4, ![2, 4, 1024, 2048]⟩
abbrev S2x1024x4x2048 : Shape := ⟨4, ![2, 1024, 4, 2048]⟩
abbrev S2048x8192 : Shape := ⟨2, ![2048, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x4x1024x2048, .bf16⟩
  | .hbm, ⟨2, _⟩ => ⟨S8192x2048, .f32⟩
  | .hbm, ⟨3, _⟩ => ⟨S2x4x1024x2048, .f32⟩
  | .hbm, ⟨4, _⟩ => ⟨S2x1024x4x2048, .f32⟩
  | .hbm, ⟨5, _⟩ => ⟨S2048x8192, .f32⟩
  | .hbm, ⟨6, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2048x2052 : Shape := ⟨2, ![2048, 2052]⟩
abbrev S128x2052 : Shape := ⟨2, ![128, 2052]⟩

abbrev nBuf : Space → Nat
  | .hbm => 7
  | .vmem => 14
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S2048x2052, .f32⟩
  | .hbm, ⟨4, _⟩ => ⟨S2048x2052, .f32⟩
  | .hbm, ⟨5, _⟩ => ⟨S2048x2052, .f32⟩
  | .hbm, ⟨6, _⟩ => ⟨S2048x2052, .f32⟩
  | .local _ .vmem, ⟨0, _⟩ => ⟨S128x2052, .f32⟩
  | .local _ .vmem, ⟨1, _⟩ => ⟨S128x2052, .f32⟩
  | .local _ .vmem, ⟨2, _⟩ => ⟨S128x2052, .f32⟩
  | .local _ .vmem, ⟨3, _⟩ => ⟨S128x2052, .f32⟩
  | .local _ .vmem, ⟨4, _⟩ => ⟨S128x2052, .f32⟩
  | .local _ .vmem, ⟨5, _⟩ => ⟨S128x2052, .f32⟩
  | .local _ .vmem, ⟨6, _⟩ => ⟨S128x2052, .f32⟩
  | .local _ .vmem, ⟨7, _⟩ => ⟨S128x2052, .f32⟩
  | .local _ .vmem, ⟨8, _⟩ => ⟨S128x2052, .f32⟩
  | .local _ .vmem, ⟨9, _⟩ => ⟨S128x2052, .f32⟩
  | .local _ .vmem, ⟨10, _⟩ => ⟨S128x2052, .f32⟩
  | .local _ .vmem, ⟨11, _⟩ => ⟨S128x2052, .f32⟩
  | .local _ .vmem, ⟨12, _⟩ => ⟨S128x2052, .f32⟩
  | .local _ .vmem, ⟨13, _⟩ => ⟨S128x2052, .f32⟩
  | _, _ => ⟨S2048x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2048x2052 : Shape := ⟨2, ![2048, 2052]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S2048x2052, .f32⟩
  | .hbm, ⟨4, _⟩ => ⟨S_, .f32⟩
  | .hbm, ⟨5, _⟩ => ⟨S2048x2052, .f32⟩
  | .hbm, ⟨6, _⟩ => ⟨S2048x2052, .f32⟩
  | .hbm, ⟨7, _⟩ => ⟨S_, .f32⟩
  | .hbm, ⟨8, _⟩ => ⟨S2048x2052, .f32⟩
  | .hbm, ⟨9, _⟩ => ⟨S2048x2052, .f32⟩
  | .hbm, ⟨10, _⟩ => ⟨S2048x2052, .f32⟩
  | .hbm, ⟨11, _⟩ => ⟨S_, .f32⟩
  | .hbm, ⟨12, _⟩ => ⟨S2048x2052, .f32⟩
  | .hbm, ⟨13, _⟩ => ⟨S2048x2052, .f32⟩
  | .hbm, ⟨14, _⟩ => ⟨S2048x2052, .f32⟩
  | .hbm, ⟨15, _⟩ => ⟨S_, .f32⟩
  | .hbm, ⟨16, _⟩ => ⟨S2048x2052, .f32⟩
  | .hbm, ⟨17, _⟩ => ⟨S2048x2052, .f32⟩
  | .hbm, ⟨18, _⟩ => ⟨S2048x2052, .f32⟩
  | .hbm, ⟨19, _⟩ => ⟨S_, .f32⟩
  | .hbm, ⟨20, _⟩ => ⟨S2048x2052, .f32⟩
  | .hbm, ⟨21, _⟩ => ⟨S2048x2052, .f32⟩
  | .hbm, ⟨22, _⟩ => ⟨S_, .f32⟩
  | .hbm, ⟨23, _⟩ => ⟨S2048x2052, .f32⟩
  | .hbm, ⟨24, _⟩ => ⟨S2048x2052, .f32⟩
  | .hbm, ⟨25, _⟩ => ⟨S2048x2052, .f32⟩
  | .hbm, ⟨26, _⟩ => ⟨S_, .f32⟩
  | .hbm, ⟨27, _⟩ => ⟨S2048x2052, .f32⟩
  | .hbm, ⟨28, _⟩ => ⟨S2048x2052, .f32⟩
  | .hbm, ⟨29, _⟩ => ⟨S2048x2052, .f32⟩
  | .hbm, ⟨30, _⟩ => ⟨S_, .f32⟩
  | .hbm, ⟨31, _⟩ => ⟨S2048x2052, .f32⟩
  | .hbm, ⟨32, _⟩ => ⟨S2048x2052, .f32⟩
  | .hbm, ⟨33, _⟩ => ⟨S2048x2052, .f32⟩
  | .hbm, ⟨34, _⟩ => ⟨S_, .f32⟩
  | .hbm, ⟨35, _⟩ => ⟨S2048x2052, .f32⟩
  | .hbm, ⟨36, _⟩ => ⟨S2048x2052, .f32⟩
  | _, _ => ⟨S2048x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8192x2048 : Shape := ⟨2, ![8192, 2048]⟩
abbrev S2048x8192 : Shape := ⟨2, ![2048, 8192]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
variable {F : FTy → Type} [FloatOps F] [Named F]
def κ : String → Option EReal := fun
  | "q_fold" => some (((11863283 * 134217728⁻¹) * (Real.log 2)⁻¹ : ℝ) : EReal)
  | _ => none
-- ==== Reference18Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S8192x4096 : Shape := ⟨2, ![8192, 4096]⟩
abbrev S8192x6144 : Shape := ⟨2, ![8192, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x4096, .f32⟩
  | .hbm, ⟨14, _⟩ => ⟨S8192x6144, .f32⟩
  | .hbm, ⟨15, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel19.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel20.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Blocks.lean ====
/- A long sum is the sum of its equal blocks. -/
module

public import Idealize.ShloMosaic.PureOps.Ideal
public import Idealize.ShloMosaic.Lib.Pointwise

@[expose] public section

noncomputable section

namespace Cert.Blocks

/-- The numbers below `8192` are those below `2048`, counted four times over. -/
theorem sum_four (f : Fin 8192 → EReal) :
    ∑ k : Fin 8192, f k
      = (∑ k : Fin 2048, f ⟨k.val, by omega⟩) + (∑ k : Fin 2048, f ⟨2048 + k.val, by omega⟩)
        + (∑ k : Fin 2048, f ⟨2048 * 2 + k.val, by omega⟩) + ∑ k : Fin 2048, f ⟨2048 * 3 + k.val, by omega⟩ := by
  rw [← Equiv.sum_comp (finProdFinEquiv (m := 4) (n := 2048)) f, Fintype.sum_prod_type, Fin.sum_univ_four]
  have e : ∀ (j : Fin 4) (k : Fin 2048),
      finProdFinEquiv (m := 4) (n := 2048) (j, k) = (⟨2048 * j.val + k.val, by omega⟩ : Fin 8192) :=
    fun j k => Fin.ext (by show k.val + 2048 * j.val = 2048 * j.val + k.val; omega)
  simp only [e]
  congr 1

/-- The numbers below `2048` are those below `1024`, counted twice over. -/
theorem sum_two (f : Fin 2048 → EReal) :
    ∑ k : Fin 2048, f k
      = (∑ k : Fin 1024, f ⟨k.val, by omega⟩) + ∑ k : Fin 1024, f ⟨1024 + k.val, by omega⟩ := by
  rw [← Equiv.sum_comp (finProdFinEquiv (m := 2) (n := 1024)) f, Fintype.sum_prod_type, Fin.sum_univ_two]
  have e : ∀ (j : Fin 2) (k : Fin 1024),
      finProdFinEquiv (m := 2) (n := 1024) (j, k) = (⟨1024 * j.val + k.val, by omega⟩ : Fin 2048) :=
    fun j k => Fin.ext (by show k.val + 1024 * j.val = 1024 * j.val + k.val; omega)
  simp only [e]
  congr 1

/-- The numbers below `8192` are four fields of `2048`. -/
theorem sum_fields (f : Fin 8192 → EReal) :
    ∑ k : Fin 8192, f k = ∑ a : Fin 4, ∑ b : Fin 2048, f ⟨2048 * a.val + b.val, by omega⟩ := by
  rw [← Equiv.sum_comp (finProdFinEquiv (m := 4) (n := 2048)) f, Fintype.sum_prod_type]
  refine Finset.sum_congr rfl fun a _ => Finset.sum_congr rfl fun b _ => congrArg f (Fin.ext ?_)
  show b.val + 2048 * a.val = 2048 * a.val + b.val
  omega

end Cert.Blocks

end
-- ==== Proof.Product2.lean ====
/-
  The gradient of an output projection's weight. The kernel walks the rows in four blocks of 2048, keeps the sum of the
  first three partial products in a buffer and writes that plus the fourth; the reference is one product over all 8192
  rows, transposed at the end.
-/
module

public import proofs.«01_k».proof.Proof.Blocks
public import proofs.«01_k».proof.Proof.Gen.Kernel2Ideal
public import proofs.«01_k».proof.Proof.Gen.Reference2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry
public import Idealize.ShloMosaic.Lib.Pointwise

@[expose] public section

set_option maxRecDepth 16384

noncomputable section

namespace Cert.Kernel2Ideal.Product

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

theorem corner : (![0, 0] : Fin 2 → Nat) = fun _ => 0 := funext fun a => by fin_cases a <;> rfl

/-- The first block of rows leaves its partial product in the buffer. -/
theorem first_left (c : Dev nD) (i : grid0.Coords) (a3 h3 a4 h4 a5 h5 a6 h6 hc0 hc1 hc2 x0 x1) :
    sout0_A_0 (F := F) c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero corner]
  unfold k0_pay2
  simp only [View.readAt_eq_ld, Memref.IsWhole.read_unread, h3.read_unread, h4.read_unread, View.ld_unit_zero (S := S2048x1024) corner, shapeCast_self]

/-- A block in the middle adds its own to what the buffer held. -/
theorem middle_left (c : Dev nD) (i : grid0.Coords) (a3 h3 a4 h4 a5 h5 a6 h6 hc0 hc1 hc2 x0 x1 s) :
    sout0_B_0 (F := F) c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero corner]
  unfold k0_pay3
  simp only [View.readAt_eq_ld, h3.read_unread, h4.read_unread, h6.read_unread, View.ld_unit_zero (S := S2048x1024) corner,
    View.ld_unit_zero (S := S1024x1024) corner, shapeCast_self]

/-- The last block writes the buffer plus its own. -/
theorem last_out (c : Dev nD) (i : grid0.Coords) (a3 h3 a4 h4 a5 h5 a6 h6 hc0 hc1 hc2 x0 x1 s) :
    out0_C_2 (F := F) c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  rw [View.canon_unit_zero corner]
  unfold k0_pay4
  simp only [View.readAt_eq_ld, h3.read_unread, h4.read_unread, h6.read_unread, View.ld_unit_zero (S := S2048x1024) corner,
    View.ld_unit_zero (S := S1024x1024) corner]

/-- The partial product of a grid point. -/
def part (c : Dev nD) (t : Fin cfg0.N) : FVec F S1024x1024 .f32 := k0_pay1 (iblk m c 0 t) (iblk m c 1 t)

theorem at_same (c : Dev nD) (n n' : ℕ) (h : n < cfg0.N) (h' : n' < cfg0.N) (e : n = n') : outsAt0 m c n h = outsAt0 m c n' h' := by
  subst e; rfl

theorem at_first (c : Dev nD) (t : Fin cfg0.N) (h : t.val % 4 = 0) : (outsAt0 m c t.val t.isLt).2 = part m c t := by
  rw [outsAt0_A m c t h (by omega) (by omega)]
  dsimp only
  rw [first_left (F := F)]
  rfl

theorem at_middle (c : Dev nD) (t : Fin cfg0.N) (n : ℕ) (hn : n < cfg0.N) (e : t.val = n + 1) (h : 1 ≤ t.val % 4 ∧ t.val % 4 ≤ 2) :
    (outsAt0 m c t.val t.isLt).2 = addf (outsAt0 m c n hn).2 (part m c t) := by
  rw [outsAt0_B m c t (by omega) h (by omega)]
  dsimp only
  rw [middle_left (F := F), at_same m c (t.val - 1) n _ hn (by omega)]
  rfl

theorem at_last (c : Dev nD) (t : Fin cfg0.N) (n : ℕ) (hn : n < cfg0.N) (e : t.val = n + 1) (h : t.val % 4 = 3) :
    (outsAt0 m c t.val t.isLt).1 = addf (outsAt0 m c n hn).2 (part m c t) := by
  rw [outsAt0_C m c t (by omega) (by omega) h]
  dsimp only
  rw [last_out (F := F), at_same m c (t.val - 1) n _ hn (by omega)]
  rfl

/-- What the last of four points writes: the four partial products, added in order. -/
theorem written (c : Dev nD) (q : ℕ) (h : 4 * q + 3 < cfg0.N) :
    (outsAt0 m c (4 * q + 3) h).1
      = addf (addf (addf (part m c ⟨4 * q, by omega⟩) (part m c ⟨4 * q + 1, by omega⟩)) (part m c ⟨4 * q + 2, by omega⟩))
          (part m c ⟨4 * q + 3, h⟩) := by
  have s0 := at_first m c ⟨4 * q, by omega⟩ (by dsimp only; omega)
  have s1 := at_middle m c ⟨4 * q + 1, by omega⟩ (4 * q) (by omega) rfl (by dsimp only; omega)
  have s2 := at_middle m c ⟨4 * q + 2, by omega⟩ (4 * q + 1) (by omega) rfl (by dsimp only; omega)
  have s3 := at_last m c ⟨4 * q + 3, h⟩ (4 * q + 2) (by omega) rfl (by dsimp only; omega)
  dsimp only at s0 s1 s2 s3
  rw [s3, s2, s1, s0]

/-! ## The blocks of the arrays -/

theorem pt_lt (t : Fin cfg0.N) : t.val < 16 := t.isLt

theorem index0 : ∀ t : Fin cfg0.N, win0_0.index t = ![t.val % 4, t.val / 8] :=
  (by decide +kernel : ∀ t : Fin grid0.N, win0_0.index t = ![t.val % 4, t.val / 8])
theorem index1 : ∀ t : Fin cfg0.N, win0_1.index t = ![t.val % 4, t.val / 4 % 2] :=
  (by decide +kernel : ∀ t : Fin grid0.N, win0_1.index t = ![t.val % 4, t.val / 4 % 2])

theorem iblk0 (c : Dev nD) (t : Fin cfg0.N) (r : Fin 2048) (d : Fin 1024) :
    iblk m c 0 t (ix2 r d)
      = V m c main_arg0 (ix2 (⟨2048 * (t.val % 4) + r.val, by have := pt_lt t; omega⟩ : Fin 8192)
          (⟨1024 * (t.val / 8) + d.val, by have := pt_lt t; omega⟩ : Fin 2048)) := by
  blk_simp [iblk]
  refine congrArg (V m c main_arg0) ?_
  blk_ext [index0]

theorem iblk1 (c : Dev nD) (t : Fin cfg0.N) (r : Fin 2048) (d : Fin 1024) :
    iblk m c 1 t (ix2 r d)
      = V m c main_arg1 (ix2 (⟨2048 * (t.val % 4) + r.val, by have := pt_lt t; omega⟩ : Fin 8192)
          (⟨1024 * (t.val / 4 % 2) + d.val, by have := pt_lt t; omega⟩ : Fin 2048)) := by
  blk_simp [iblk]
  refine congrArg (V m c main_arg1) ?_
  blk_ext [index1]

end Cert.Kernel2Ideal.Product

namespace Cert.Kernel2Ideal.Product

open Cert.Kernel2Ideal Cert.Kernel2Ideal.Gen Idealize.ShloMosaic Idealize.ShloMosaic.TcCoe Idealize.SL.Sem

variable (m : (ℓ : Loc nD τ sig) → Buf (Elt Ideal) ℓ)

theorem pay_apply (x : Vec Ideal S2048x1024 .bf16) (y : Vec Ideal S2048x1024 .f32) (i j : Fin 1024) :
    k0_pay1 x y (ix2 i j) = ∑ k : Fin 2048, x (ix2 k i) * y (ix2 k j) := by
  pointwise [k0_pay1]
  all_goals (try simp only [Ideal.ofBits_zero_f32, zero_add])

/-- The two arguments as tables of numbers. -/
def left (c : Dev nD) (i : Fin 8192) (j : Fin 2048) : EReal := m ((c : Thread nD τ).loc main_arg0) (ix2 i j)
def right (c : Dev nD) (i : Fin 8192) (j : Fin 2048) : EReal := m ((c : Thread nD τ).loc main_arg1) (ix2 i j)

theorem part_apply (c : Dev nD) (t : Fin cfg0.N) (i j : Fin 1024) :
    part m c t (ix2 i j)
      = ∑ k : Fin 2048, left m c ⟨2048 * (t.val % 4) + k.val, by have := pt_lt t; omega⟩
            ⟨1024 * (t.val / 8) + i.val, by have := pt_lt t; omega⟩
          * right m c ⟨2048 * (t.val % 4) + k.val, by have := pt_lt t; omega⟩
            ⟨1024 * (t.val / 4 % 2) + j.val, by have := pt_lt t; omega⟩ :=
  (pay_apply _ _ i j).trans (Finset.sum_congr rfl fun k _ => congrArg₂ (fun x y : EReal => x * y)
    ((iblk0 m c t k i).trans (congrFun (V_main_arg0 m c) _)) ((iblk1 m c t k j).trans (congrFun (V_main_arg1 m c) _)))

/-- The array the kernel ends with: at `(i, j)` the product of column `i` of the first argument and column `j` of the
    second. -/
theorem result (c : Dev nD) (i j : Fin 2048) :
    (Value.G2 m c (ix2 i j) : EReal)
      = ∑ k : Fin 8192, left m c k i * right m c k j := by
  have hq : 4 * (2 * (i.val / 1024) + j.val / 1024) + 3 < cfg0.N := by
    have : cfg0.N = 16 := N_0
    omega
  have hg : Value.G2 m c (ix2 i j)
      = (outsAt0 m c (4 * (2 * (i.val / 1024) + j.val / 1024) + 3) hq).1
          (ix2 (⟨i.val % 1024, Nat.mod_lt _ (by decide)⟩ : Fin 1024) (⟨j.val % 1024, Nat.mod_lt _ (by decide)⟩ : Fin 1024)) := by
    have hp : Value.pt2Of (ix2 i j) = 4 * (2 * (i.val / 1024) + j.val / 1024) + 3 := by
      show 4 * (2 * (i.val / 1024 - 0) + 1 * (j.val / 1024 - 0)) + 3 = _
      omega
    unfold Value.G2
    rw [dif_pos (by rw [hp]; exact hq), ← Value.outsAt0_sweep m c _ (by rw [hp]; exact hq),
      at_same m c _ _ (by rw [hp]; exact hq) hq hp]
    refine congrArg _ ?_
    funext a
    match a with
    | ⟨0, _⟩ => rfl
    | ⟨1, _⟩ => rfl
  rw [hg, written]
  refine (congrArg₂ (fun x y : EReal => x + y) (congrArg₂ (fun x y : EReal => x + y) (congrArg₂ (fun x y : EReal => x + y)
    (part_apply m c _ _ _) (part_apply m c _ _ _)) (part_apply m c _ _ _)) (part_apply m c _ _ _)).trans ?_
  rw [Cert.Blocks.sum_four]
  have key : ∀ (n : ℕ) (hn : n < 4) (k : Fin 2048) (h0) (h1) (h2) (h3),
      left m c ⟨2048 * ((4 * (2 * (i.val / 1024) + j.val / 1024) + n) % 4) + k.val, h0⟩
          ⟨1024 * ((4 * (2 * (i.val / 1024) + j.val / 1024) + n) / 8) + i.val % 1024, h1⟩
        * right m c ⟨2048 * ((4 * (2 * (i.val / 1024) + j.val / 1024) + n) % 4) + k.val, h0⟩
          ⟨1024 * ((4 * (2 * (i.val / 1024) + j.val / 1024) + n) / 4 % 2) + j.val % 1024, h2⟩
      = left m c ⟨2048 * n + k.val, h3⟩ i * right m c ⟨2048 * n + k.val, h3⟩ j := by
    intro n hn k h0 h1 h2 h3
    have e0 : (⟨2048 * ((4 * (2 * (i.val / 1024) + j.val / 1024) + n) % 4) + k.val, h0⟩ : Fin 8192) = ⟨2048 * n + k.val, h3⟩ :=
      Fin.ext (by dsimp only; omega)
    have e1 : (⟨1024 * ((4 * (2 * (i.val / 1024) + j.val / 1024) + n) / 8) + i.val % 1024, h1⟩ : Fin 2048) = i :=
      Fin.ext (by dsimp only; omega)
    have e2 : (⟨1024 * ((4 * (2 * (i.val / 1024) + j.val / 1024) + n) / 4 % 2) + j.val % 1024, h2⟩ : Fin 2048) = j :=
      Fin.ext (by dsimp only; omega)
    rw [e0, e1, e2]
  refine congrArg₂ (fun x y : EReal => x + y) (congrArg₂ (fun x y : EReal => x + y) (congrArg₂ (fun x y : EReal => x + y) ?_ ?_) ?_) ?_
  · refine Finset.sum_congr rfl fun k _ => (key 0 (by omega) k _ _ _ (by omega)).trans ?_
    have e : (⟨2048 * 0 + k.val, by omega⟩ : Fin 8192) = ⟨k.val, by omega⟩ := Fin.ext (by dsimp only; omega)
    rw [e]
  · exact Finset.sum_congr rfl fun k _ => key 1 (by omega) k _ _ _ (by omega)
  · exact Finset.sum_congr rfl fun k _ => key 2 (by omega) k _ _ _ (by omega)
  · exact Finset.sum_congr rfl fun k _ => key 3 (by omega) k _ _ _ (by omega)

end Cert.Kernel2Ideal.Product

namespace Cert.Reference2Ideal.Product

open Cert.Reference2Ideal Cert.Reference2Ideal.Gen Cert.Reference2Ideal.Read Idealize.ShloMosaic Idealize.ShloMosaic.TcCoe
open Idealize.SL.Sem

/-- What the reference computes at `(i, j)`. -/
theorem result (x : (⟨S8192x2048, .bf16⟩ : BufTy).Contents (Elt Ideal)) (y : (⟨S8192x2048, .f32⟩ : BufTy).Contents (Elt Ideal))
    (i j : Fin 2048) :
    val_main_v4 (F := Ideal) x y (ix2 i j) = ∑ k : Fin 8192, (fun a b => x (ix2 a b) : Fin 8192 → Fin 2048 → EReal) k i
      * (fun a b => y (ix2 a b) : Fin 8192 → Fin 2048 → EReal) k j := by
  rw [val_main_v4_apply, val_main_v3_apply]
  refine Finset.sum_congr rfl fun k _ => ?_
  rw [mul_comm]
  refine congrArg₂ (fun x y : EReal => x * y) ?_ ?_
  · refine (val_main_v1_apply x _).trans ?_
    refine congrArg x ?_
    funext a
    match a with
    | ⟨0, _⟩ => rfl
    | ⟨1, _⟩ => rfl
  · refine congrArg y ?_
    funext a
    match a with
    | ⟨0, _⟩ => rfl
    | ⟨1, _⟩ => rfl

end Cert.Reference2Ideal.Product

end
-- ==== Proof.Product3.lean ====
/-
  The gradient of a layer's mixed rows: the gradient of the layer's result times the transpose of its output weight. The
  kernel computes a block of the product a grid point; the reference multiplies once.
-/
module

public import proofs.«01_k».proof.Proof.Blocks
public import proofs.«01_k».proof.Proof.Gen.Kernel3Ideal
public import proofs.«01_k».proof.Proof.Gen.Reference3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel3Ideal.Product

open Cert.Kernel3Ideal Cert.Kernel3Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- What a grid point writes. -/
theorem block (c : Dev nD) (i : grid0.Coords) (a3 h3 a4 h4 a5 h5 a6 h6 x0 x1) :
    out0_A_2 (F := F) c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero corner2]
  simp only [View.readAt_eq_ld, h3.read_unread, h4.read_unread, View.ld_unit_zero (S := S1024x2048) corner2]

theorem at_point (c : Dev nD) (t : Fin cfg0.N) :
    (outsAt0 m c t) = k0_pay1 (iblk m c 0 t) (iblk m c 1 t) := by
  unfold outsAt0
  exact block c _ _ _ _ _ _ _ _ _ _ _

/-! ## The blocks of the arrays -/

theorem pt_lt (t : Fin cfg0.N) : t.val < 16 := t.isLt

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![t.val % 2, 0] :=
  (by decide +kernel : ∀ t : Fin grid0.N, win0_1.index t = ![t.val % 2, 0])
theorem index2 : ∀ t : Fin cfg0.N, win0_2.index t = ![t.val / 2, t.val % 2] :=
  (by decide +kernel : ∀ t : Fin grid0.N, win0_2.index t = ![t.val / 2, t.val % 2])

theorem iblk0 (c : Dev nD) (t : Fin cfg0.N) (r : Fin 1024) (k : Fin 2048) :
    iblk m c 0 t (ix2 r k)
      = V m c main_arg0 (ix2 (⟨1024 * (t.val / 2) + r.val, by have := pt_lt t; omega⟩ : Fin 8192) k) := by
  blk_simp [iblk]
  refine congrArg (V m c main_arg0) ?_
  blk_ext [index0]

theorem iblk1 (c : Dev nD) (t : Fin cfg0.N) (s : Fin 1024) (k : Fin 2048) :
    iblk m c 1 t (ix2 s k)
      = V m c main_arg1 (ix2 (⟨1024 * (t.val % 2) + s.val, by omega⟩ : Fin 2048) k) := by
  blk_simp [iblk]
  refine congrArg (V m c main_arg1) ?_
  blk_ext [index1]

end

variable (m : (ℓ : Loc nD τ sig) → Buf (Elt Ideal) ℓ)

theorem pay_apply (x : Vec Ideal S1024x2048 .f32) (y : Vec Ideal S1024x2048 .bf16) (i j : Fin 1024) :
    (k0_pay1 x y (ix2 i j) : EReal) = ∑ k : Fin 2048, (fun a b => x (ix2 a b) : Fin 1024 → Fin 2048 → EReal) i k
      * (fun a b => y (ix2 a b) : Fin 1024 → Fin 2048 → EReal) j k := by
  pointwise [k0_pay1]

/-- The arguments as tables of numbers. -/
def left (c : Dev nD) (i : Fin 8192) (k : Fin 2048) : EReal := m ((c : Thread nD τ).loc main_arg0) (ix2 i k)
def right (c : Dev nD) (i : Fin 2048) (j : Fin 2048) : EReal := m ((c : Thread nD τ).loc main_arg1) (ix2 i j)

/-- The result at `(i, j)`. -/
def entry (c : Dev nD) (i : Fin 8192) (j : Fin 2048) : EReal := ∑ k : Fin 2048, left m c i k * right m c j k

theorem total (c : Dev nD) (t : Fin cfg0.N) (r s : Fin 1024) (i : Fin 8192) (j : Fin 2048)
    (hi : i.val = 1024 * (t.val / 2) + r.val) (hj : j.val = 1024 * (t.val % 2) + s.val) :
    ((outsAt0 m c t) (ix2 r s) : EReal) = entry m c i j := by
  have ht := pt_lt t
  rw [at_point, pay_apply]
  refine Finset.sum_congr rfl fun k _ => congrArg₂ (fun x y : EReal => x * y)
    (((iblk0 m c t r k).trans (congrFun (V_main_arg0 m c) _)).trans ?_) (((iblk1 m c t s k).trans (congrFun (V_main_arg1 m c) _)).trans ?_)
  · exact congrFun (congrArg (left m c) (Fin.ext (by show 1024 * (t.val / 2) + r.val = i.val; omega))) k
  · exact congrFun (congrArg (right m c) (Fin.ext (by show 1024 * (t.val % 2) + s.val = j.val; omega))) k

/-- The array the kernel ends with. -/
theorem final (c : Dev nD) : (dats m 0 c).arrAt 2 cfg0.N = fun i : S8192x2048.Idx => entry m c (i 0) (i 1) := by
  refine Pipeline.Dat.arrAt_eq_of_covers _ 2 _ (by decide +kernel) fun t hf y => ?_
  obtain ⟨r, s, rfl⟩ : ∃ (r s : Fin 1024), y = ix2 r s :=
    ⟨y 0, y 1, funext fun a => match a with | ⟨0, _⟩ => rfl | ⟨1, _⟩ => rfl⟩
  have hb := total m c t r s ((win0_2.blk t).view.emb (ix2 r s) 0) ((win0_2.blk t).view.emb (ix2 r s) 1)
    (by show win0_2.index t (0 : Fin 2) * 1024 + 1 * r.val = _; rw [index2]; show t.val / 2 * 1024 + 1 * r.val = _; omega)
    (by show win0_2.index t (1 : Fin 2) * 1024 + 1 * s.val = _; rw [index2]; show t.val % 2 * 1024 + 1 * s.val = _; omega)
  rw [after0_2]
  generalize outsAt0 m c t = o at hb ⊢
  exact hb

end Cert.Kernel3Ideal.Product

namespace Cert.Reference3Ideal.Product

open Cert.Reference3Ideal Cert.Reference3Ideal.Gen Cert.Reference3Ideal.Read Idealize.ShloMosaic Idealize.ShloMosaic.TcCoe
open Idealize.SL.Sem

/-- What the reference computes at `(i, j)`. -/
theorem result (x : (⟨S8192x2048, .f32⟩ : BufTy).Contents (Elt Ideal)) (y : (⟨S2048x2048, .bf16⟩ : BufTy).Contents (Elt Ideal))
    (i : Fin 8192) (j : Fin 2048) :
    (val_main_v3 (F := Ideal) x y (ix2 i j) : EReal)
      = ∑ k : Fin 2048, (fun a b => x (ix2 a b) : Fin 8192 → Fin 2048 → EReal) i k * (fun a b => y (ix2 a b) : Fin 2048 → Fin 2048 → EReal) j k := by
  rw [val_main_v3_apply]
  refine Finset.sum_congr rfl fun k _ => congrArg₂ (fun x y : EReal => x * y) ?_ ?_
  · refine congrArg x ?_
    funext a
    match a with
    | ⟨0, _⟩ => rfl
    | ⟨1, _⟩ => rfl
  · rw [val_main_v1_apply]
    refine congrArg y ?_
    funext a
    match a with
    | ⟨0, _⟩ => rfl
    | ⟨1, _⟩ => rfl

end Cert.Reference3Ideal.Product

end
-- ==== Proof.Product4.lean ====
/-
  The gradient of the recurrent layer's input from the gradients of its four projected fields. The kernel takes one field
  a grid point, adds the four products in a buffer and reads the weight in the halves and quarters that it is gathered in;
  the reference puts the weight together and multiplies once.
-/
module

public import proofs.«01_k».proof.Proof.Blocks
public import proofs.«01_k».proof.Proof.Gen.Kernel4Ideal
public import proofs.«01_k».proof.Proof.Gen.Reference4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel4Ideal.Product

open Cert.Kernel4Ideal Cert.Kernel4Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- The first field leaves its partial product in the buffer. -/
theorem first_left (c : Dev nD) (i : grid0.Coords) (a3 h3 a4 h4 a5 h5 a6 h6 hc0 hc1 hc2 x0 x1) :
    sout0_A_0 (F := F) c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero corner2]
  unfold k0_pay2
  simp only [View.readAt_eq_ld, h3.read_unread, h4.read_unread, View.ld_unit_zero (S := S1x1024x2048) corner3,
    View.ld_unit_zero (S := S1x1x1024x2048) corner4, shapeCast_self]

/-- A field in the middle adds its own to what the buffer held. -/
theorem middle_left (c : Dev nD) (i : grid0.Coords) (a3 h3 a4 h4 a5 h5 a6 h6 hc0 hc1 hc2 x0 x1 s) :
    sout0_B_0 (F := F) c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero corner2]
  unfold k0_pay3
  simp only [View.readAt_eq_ld, h3.read_unread, h4.read_unread, h6.read_unread, View.ld_unit_zero (S := S1x1024x2048) corner3,
    View.ld_unit_zero (S := S1x1x1024x2048) corner4, View.ld_unit_zero (S := S1024x1024) corner2, shapeCast_self]

/-- The last field writes the buffer plus its own. -/
theorem last_out (c : Dev nD) (i : grid0.Coords) (a3 h3 a4 h4 a5 h5 a6 h6 hc0 hc1 hc2 x0 x1 s) :
    out0_C_2 (F := F) c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  rw [View.canon_unit_zero corner2]
  unfold k0_pay4
  simp only [View.readAt_eq_ld, h3.read_unread, h4.read_unread, h6.read_unread, View.ld_unit_zero (S := S1x1024x2048) corner3,
    View.ld_unit_zero (S := S1x1x1024x2048) corner4, View.ld_unit_zero (S := S1024x1024) corner2]

/-- The partial product of a grid point. -/
def part (c : Dev nD) (t : Fin cfg0.N) : FVec F S1024x1024 .f32 := k0_pay1 (iblk m c 0 t) (iblk m c 1 t)

theorem at_same (c : Dev nD) (n n' : ℕ) (h : n < cfg0.N) (h' : n' < cfg0.N) (e : n = n') : outsAt0 m c n h = outsAt0 m c n' h' := by
  subst e; rfl

theorem at_first (c : Dev nD) (t : Fin cfg0.N) (h : t.val % 4 = 0) : (outsAt0 m c t.val t.isLt).2 = part m c t := by
  rw [outsAt0_A m c t h (by omega) (by omega)]
  dsimp only
  rw [first_left (F := F)]
  rfl

theorem at_middle (c : Dev nD) (t : Fin cfg0.N) (n : ℕ) (hn : n < cfg0.N) (e : t.val = n + 1) (h : 1 ≤ t.val % 4 ∧ t.val % 4 ≤ 2) :
    (outsAt0 m c t.val t.isLt).2 = addf (outsAt0 m c n hn).2 (part m c t) := by
  rw [outsAt0_B m c t (by omega) h (by omega)]
  dsimp only
  rw [middle_left (F := F), at_same m c (t.val - 1) n _ hn (by omega)]
  rfl

theorem at_last (c : Dev nD) (t : Fin cfg0.N) (n : ℕ) (hn : n < cfg0.N) (e : t.val = n + 1) (h : t.val % 4 = 3) :
    (outsAt0 m c t.val t.isLt).1 = addf (outsAt0 m c n hn).2 (part m c t) := by
  rw [outsAt0_C m c t (by omega) (by omega) h]
  dsimp only
  rw [last_out (F := F), at_same m c (t.val - 1) n _ hn (by omega)]
  rfl

/-- What the last of four points writes: the four partial products, added in order. -/
theorem written (c : Dev nD) (q : ℕ) (h : 4 * q + 3 < cfg0.N) :
    (outsAt0 m c (4 * q + 3) h).1
      = addf (addf (addf (part m c ⟨4 * q, by omega⟩) (part m c ⟨4 * q + 1, by omega⟩)) (part m c ⟨4 * q + 2, by omega⟩))
          (part m c ⟨4 * q + 3, h⟩) := by
  have s0 := at_first m c ⟨4 * q, by omega⟩ (by dsimp only; omega)
  have s1 := at_middle m c ⟨4 * q + 1, by omega⟩ (4 * q) (by omega) rfl (by dsimp only; omega)
  have s2 := at_middle m c ⟨4 * q + 2, by omega⟩ (4 * q + 1) (by omega) rfl (by dsimp only; omega)
  have s3 := at_last m c ⟨4 * q + 3, h⟩ (4 * q + 2) (by omega) rfl (by dsimp only; omega)
  dsimp only at s0 s1 s2 s3
  rw [s3, s2, s1, s0]

/-! ## The blocks of the arrays -/

theorem pt_lt (t : Fin cfg0.N) : t.val < 64 := t.isLt

theorem index0 : ∀ t : Fin cfg0.N, win0_0.index t = ![t.val % 4, t.val / 8, 0] :=
  (by decide +kernel : ∀ t : Fin grid0.N, win0_0.index t = ![t.val % 4, t.val / 8, 0])
theorem index1 : ∀ t : Fin cfg0.N, win0_1.index t = ![t.val / 4 % 2, t.val % 4, 0, 0] :=
  (by decide +kernel : ∀ t : Fin grid0.N, win0_1.index t = ![t.val / 4 % 2, t.val % 4, 0, 0])
theorem index2 : ∀ t : Fin cfg0.N, win0_2.index t = ![t.val / 8, t.val / 4 % 2] :=
  (by decide +kernel : ∀ t : Fin grid0.N, win0_2.index t = ![t.val / 8, t.val / 4 % 2])

theorem iblk0 (c : Dev nD) (t : Fin cfg0.N) (r : Fin 1024) (k : Fin 2048) :
    iblk m c 0 t (ix3 (0 : Fin 1) r k)
      = V m c main_arg0 (ix3 (⟨t.val % 4, by omega⟩ : Fin 4) (⟨1024 * (t.val / 8) + r.val, by have := pt_lt t; omega⟩ : Fin 8192) k) := by
  blk_simp [iblk]
  refine congrArg (V m c main_arg0) ?_
  blk_ext [index0]

theorem iblk1 (c : Dev nD) (t : Fin cfg0.N) (s : Fin 1024) (k : Fin 2048) :
    iblk m c 1 t (ix4 (0 : Fin 1) (0 : Fin 1) s k)
      = V m c main_arg1 (ix4 (⟨t.val / 4 % 2, by omega⟩ : Fin 2) (⟨t.val % 4, by omega⟩ : Fin 4) s k) := by
  blk_simp [iblk]
  refine congrArg (V m c main_arg1) ?_
  blk_ext [index1]

end

variable (m : (ℓ : Loc nD τ sig) → Buf (Elt Ideal) ℓ)

theorem single3 (x : Vec Ideal S1x1024x2048 .bf16) (h : S1x1024x2048.ShapeCasts S1024x2048) (i : Fin 1024) (k : Fin 2048) :
    shapeCast S1024x2048 x h (ix2 i k) = x (ix3 (0 : Fin 1) i k) := by
  refine shapeCast_apply x h _ _ ?_
  rw [Shape.rowMajor_val_three, Shape.rowMajor_val_two]
  simp [ix2, ix3]

theorem single4 (x : Vec Ideal S1x1x1024x2048 .bf16) (h : S1x1x1024x2048.ShapeCasts S1024x2048) (i : Fin 1024) (k : Fin 2048) :
    shapeCast S1024x2048 x h (ix2 i k) = x (ix4 (0 : Fin 1) (0 : Fin 1) i k) := by
  refine shapeCast_apply x h _ _ ?_
  rw [Shape.rowMajor_val_four, Shape.rowMajor_val_two]
  simp [ix2, ix4]

theorem pay_apply (x : Vec Ideal S1x1024x2048 .bf16) (y : Vec Ideal S1x1x1024x2048 .bf16) (i j : Fin 1024) :
    (k0_pay1 x y (ix2 i j) : EReal) = ∑ k : Fin 2048, (fun a b => x (ix3 (0 : Fin 1) a b) : Fin 1024 → Fin 2048 → EReal) i k
      * (fun a b => y (ix4 (0 : Fin 1) (0 : Fin 1) a b) : Fin 1024 → Fin 2048 → EReal) j k := by
  pointwise [k0_pay1]

/-- The two arguments as tables of numbers. -/
def left (c : Dev nD) (f : Fin 4) (i : Fin 8192) (k : Fin 2048) : EReal := m ((c : Thread nD τ).loc main_arg0) (ix3 f i k)
def right (c : Dev nD) (p : Fin 2) (f : Fin 4) (i : Fin 1024) (k : Fin 2048) : EReal := m ((c : Thread nD τ).loc main_arg1) (ix4 p f i k)

theorem part_apply (c : Dev nD) (t : Fin cfg0.N) (i j : Fin 1024) :
    (part m c t (ix2 i j) : EReal)
      = ∑ k : Fin 2048, left m c ⟨t.val % 4, by omega⟩ ⟨1024 * (t.val / 8) + i.val, by have := pt_lt t; omega⟩ k
          * right m c ⟨t.val / 4 % 2, by omega⟩ ⟨t.val % 4, by omega⟩ j k :=
  (pay_apply _ _ i j).trans (Finset.sum_congr rfl fun k _ => congrArg₂ (fun x y : EReal => x * y)
    ((iblk0 m c t i k).trans (congrFun (V_main_arg0 m c) _)) ((iblk1 m c t j k).trans (congrFun (V_main_arg1 m c) _)))

/-- The product at `(i, j)`: over the four fields and the columns of each. -/
def entry (c : Dev nD) (i : Fin 8192) (j : Fin 2048) : EReal :=
  ∑ f : Fin 4, ∑ k : Fin 2048, left m c f i k * right m c ⟨j.val / 1024, by omega⟩ f ⟨j.val % 1024, by omega⟩ k

theorem total (c : Dev nD) (t : Fin cfg0.N) (h : t.val % 4 = 3) (r s : Fin 1024) (i : Fin 8192) (j : Fin 2048)
    (hi : i.val = 1024 * (t.val / 8) + r.val) (hj : j.val = 1024 * (t.val / 4 % 2) + s.val) :
    ((outsAt0 m c t.val t.isLt).1 (ix2 r s) : EReal) = entry m c i j := by
  have ht := pt_lt t
  have hN : cfg0.N = 64 := N_0
  have e : t.val = 4 * (t.val / 4) + 3 := by omega
  rw [at_same m c t.val (4 * (t.val / 4) + 3) t.isLt (by omega) e, written]
  have key : ∀ (f : Fin 4) (hf : 4 * (t.val / 4) + f.val < cfg0.N),
      (part m c ⟨4 * (t.val / 4) + f.val, hf⟩ (ix2 r s) : EReal)
        = ∑ k : Fin 2048, left m c f i k * right m c ⟨j.val / 1024, by omega⟩ f ⟨j.val % 1024, by omega⟩ k := by
    intro f hf
    rw [part_apply]
    refine Finset.sum_congr rfl fun k _ => congrArg₂ (fun x y : EReal => x * y) ?_ ?_
    · exact congrFun (congrArg₂ (left m c) (Fin.ext (by show (4 * (t.val / 4) + f.val) % 4 = f.val; omega))
        (Fin.ext (by show 1024 * ((4 * (t.val / 4) + f.val) / 8) + r.val = i.val; omega))) k
    · exact congrFun (congr (congrArg₂ (right m c) (Fin.ext (by show (4 * (t.val / 4) + f.val) / 4 % 2 = j.val / 1024; omega))
        (Fin.ext (by show (4 * (t.val / 4) + f.val) % 4 = f.val; omega))) (Fin.ext (by show s.val = j.val % 1024; omega))) k
  unfold entry
  rw [Fin.sum_univ_four]
  exact congrArg₂ (fun x y : EReal => x + y) (congrArg₂ (fun x y : EReal => x + y) (congrArg₂ (fun x y : EReal => x + y)
    (key 0 (by show 4 * (t.val / 4) + 0 < _; omega)) (key 1 (by show 4 * (t.val / 4) + 1 < _; omega)))
    (key 2 (by show 4 * (t.val / 4) + 2 < _; omega))) (key 3 (by show 4 * (t.val / 4) + 3 < _; omega))

/-- The array the kernel ends with. -/
theorem final (c : Dev nD) : (dats m 0 c).arrAt 2 cfg0.N = fun i : S8192x2048.Idx => entry m c (i 0) (i 1) := by
  refine Pipeline.Dat.arrAt_eq_of_covers _ 2 _ (by decide +kernel) fun t hf y => ?_
  have h3 := (flush0_2 t).1 hf
  obtain ⟨r, s, rfl⟩ : ∃ (r s : Fin 1024), y = ix2 r s :=
    ⟨y 0, y 1, funext fun a => match a with | ⟨0, _⟩ => rfl | ⟨1, _⟩ => rfl⟩
  have hb := total m c t h3 r s ((win0_2.blk t).view.emb (ix2 r s) 0) ((win0_2.blk t).view.emb (ix2 r s) 1)
    (by show win0_2.index t (0 : Fin 2) * 1024 + 1 * r.val = _; rw [index2]; show t.val / 8 * 1024 + 1 * r.val = _; omega)
    (by show win0_2.index t (1 : Fin 2) * 1024 + 1 * s.val = _; rw [index2]; show t.val / 4 % 2 * 1024 + 1 * s.val = _; omega)
  rw [after0_2]
  exact hb

end Cert.Kernel4Ideal.Product

namespace Cert.Reference4Ideal.Product

open Cert.Reference4Ideal Cert.Reference4Ideal.Gen Cert.Reference4Ideal.Read Idealize.ShloMosaic Idealize.ShloMosaic.TcCoe
open Idealize.SL.Sem

/-- What the reference computes at `(i, j)`. -/
theorem result (x : (⟨S4x8192x2048, .bf16⟩ : BufTy).Contents (Elt Ideal)) (y : (⟨S2x4x1024x2048, .bf16⟩ : BufTy).Contents (Elt Ideal))
    (i : Fin 8192) (j : Fin 2048) :
    (val_main_v10 (F := Ideal) x y (ix2 i j) : EReal)
      = ∑ f : Fin 4, ∑ k : Fin 2048, (fun a b c => x (ix3 a b c) : Fin 4 → Fin 8192 → Fin 2048 → EReal) f i k
          * (fun a b c d => y (ix4 a b c d) : Fin 2 → Fin 4 → Fin 1024 → Fin 2048 → EReal) ⟨j.val / 1024, by omega⟩ f ⟨j.val % 1024, by omega⟩ k := by
  rw [val_main_v10_apply, Cert.Blocks.sum_fields]
  refine Finset.sum_congr rfl fun f _ => Finset.sum_congr rfl fun k _ => congrArg₂ (fun x y : EReal => x * y) ?_ ?_
  · rw [val_main_v9_apply, val_main_v8_apply, val_main_v7_apply]
    refine congrArg x ?_
    funext a
    match a with
    | ⟨0, _⟩ => apply Fin.ext; show (i.val * 8192 + (2048 * f.val + k.val)) / 2048 % 4 = f.val; omega
    | ⟨1, _⟩ => apply Fin.ext; show (i.val * 8192 + (2048 * f.val + k.val)) / 8192 = i.val; omega
    | ⟨2, _⟩ => apply Fin.ext; show (i.val * 8192 + (2048 * f.val + k.val)) % 2048 = k.val; omega
  · rw [val_main_v3_apply, val_main_v2_apply, val_main_v1_apply]
    refine congrArg y ?_
    funext a
    match a with
    | ⟨0, _⟩ => apply Fin.ext; show (j.val * 8192 + (2048 * f.val + k.val)) / 8388608 = j.val / 1024; omega
    | ⟨1, _⟩ => apply Fin.ext; show (j.val * 8192 + (2048 * f.val + k.val)) / 2048 % 4 = f.val; omega
    | ⟨2, _⟩ => apply Fin.ext; show (j.val * 8192 + (2048 * f.val + k.val)) / 8192 % 1024 = j.val % 1024; omega
    | ⟨3, _⟩ => apply Fin.ext; show (j.val * 8192 + (2048 * f.val + k.val)) % 2048 = k.val; omega

end Cert.Reference4Ideal.Product

end
-- ==== Proof.Product5.lean ====
/-
  The gradient of the recurrent layer's projection weight, in the halves and quarters that the weight is gathered in. The
  kernel takes a quarter of the rows a grid point, adds the four products in a buffer and writes them in their places; the
  reference multiplies once and cuts the product up.
-/
module

public import proofs.«01_k».proof.Proof.Blocks
public import proofs.«01_k».proof.Proof.Gen.Kernel5Ideal
public import proofs.«01_k».proof.Proof.Gen.Reference5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel5Ideal.Product

open Cert.Kernel5Ideal Cert.Kernel5Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- The first run of rows leaves its partial product in the buffer. -/
theorem first_left (c : Dev nD) (i : grid0.Coords) (a3 h3 a4 h4 a5 h5 a6 h6 hc0 hc1 hc2 x0 x1) :
    sout0_A_0 (F := F) c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero corner2]
  unfold k0_pay2
  simp only [View.readAt_eq_ld, h3.read_unread, h4.read_unread, View.ld_unit_zero (S := S2048x1024) corner2,
    View.ld_unit_zero (S := S1x2048x1024) corner3, shapeCast_self]

/-- A run of rows in the middle adds its own to what the buffer held. -/
theorem middle_left (c : Dev nD) (i : grid0.Coords) (a3 h3 a4 h4 a5 h5 a6 h6 hc0 hc1 hc2 x0 x1 s) :
    sout0_B_0 (F := F) c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero corner2]
  unfold k0_pay3
  simp only [View.readAt_eq_ld, h3.read_unread, h4.read_unread, h6.read_unread, View.ld_unit_zero (S := S2048x1024) corner2,
    View.ld_unit_zero (S := S1x2048x1024) corner3, View.ld_unit_zero (S := S1024x1024) corner2, shapeCast_self]

/-- The last run of rows writes the buffer plus its own. -/
theorem last_out (c : Dev nD) (i : grid0.Coords) (a3 h3 a4 h4 a5 h5 a6 h6 hc0 hc1 hc2 x0 x1 s) :
    out0_C_2 (F := F) c i a3 h3 a4 h4 a5 h5 a6 h6 hc0 hc1 hc2 x0 x1 s
      = shapeCast S1x1x1024x1024 (addf s (k0_pay1 x0 x1)) shapeCasts_S1024x1024_S1x1x1024x1024 := by
  unfold out0_C_2
  rw [View.read_writes_eq_canon _ _ _ (cover0_C_2 c i a3 h3 a4 h4 a5 h5 a6 h6 hc0 hc1 hc2 x0 x1 s)]
  unfold kernelRun0_C
  dsimp only
  rw [View.canon_unit_zero corner4]
  unfold k0_pay4
  simp only [View.readAt_eq_ld, h3.read_unread, h4.read_unread, h6.read_unread, View.ld_unit_zero (S := S2048x1024) corner2,
    View.ld_unit_zero (S := S1x2048x1024) corner3, View.ld_unit_zero (S := S1024x1024) corner2]

/-- The partial product of a grid point. -/
def part (c : Dev nD) (t : Fin cfg0.N) : FVec F S1024x1024 .f32 := k0_pay1 (iblk m c 0 t) (iblk m c 1 t)

theorem at_same (c : Dev nD) (n n' : ℕ) (h : n < cfg0.N) (h' : n' < cfg0.N) (e : n = n') : outsAt0 m c n h = outsAt0 m c n' h' := by
  subst e; rfl

theorem at_first (c : Dev nD) (t : Fin cfg0.N) (h : t.val % 4 = 0) : (outsAt0 m c t.val t.isLt).2 = part m c t := by
  rw [outsAt0_A m c t h (by omega) (by omega)]
  dsimp only
  rw [first_left (F := F)]
  rfl

theorem at_middle (c : Dev nD) (t : Fin cfg0.N) (n : ℕ) (hn : n < cfg0.N) (e : t.val = n + 1) (h : 1 ≤ t.val % 4 ∧ t.val % 4 ≤ 2) :
    (outsAt0 m c t.val t.isLt).2 = addf (outsAt0 m c n hn).2 (part m c t) := by
  rw [outsAt0_B m c t (by omega) h (by omega)]
  dsimp only
  rw [middle_left (F := F), at_same m c (t.val - 1) n _ hn (by omega)]
  rfl

theorem at_last (c : Dev nD) (t : Fin cfg0.N) (n : ℕ) (hn : n < cfg0.N) (e : t.val = n + 1) (h : t.val % 4 = 3) :
    (outsAt0 m c t.val t.isLt).1
      = shapeCast S1x1x1024x1024 (addf (outsAt0 m c n hn).2 (part m c t)) shapeCasts_S1024x1024_S1x1x1024x1024 := by
  rw [outsAt0_C m c t (by omega) (by omega) h]
  dsimp only
  rw [last_out (F := F), at_same m c (t.val - 1) n _ hn (by omega)]
  rfl

/-- What the last of four points writes: the four partial products, added in order. -/
theorem written (c : Dev nD) (q : ℕ) (h : 4 * q + 3 < cfg0.N) :
    (outsAt0 m c (4 * q + 3) h).1
      = shapeCast S1x1x1024x1024 (addf (addf (addf (part m c ⟨4 * q, by omega⟩) (part m c ⟨4 * q + 1, by omega⟩)) (part m c ⟨4 * q + 2, by omega⟩))
          (part m c ⟨4 * q + 3, h⟩)) shapeCasts_S1024x1024_S1x1x1024x1024 := by
  have s0 := at_first m c ⟨4 * q, by omega⟩ (by dsimp only; omega)
  have s1 := at_middle m c ⟨4 * q + 1, by omega⟩ (4 * q) (by omega) rfl (by dsimp only; omega)
  have s2 := at_middle m c ⟨4 * q + 2, by omega⟩ (4 * q + 1) (by omega) rfl (by dsimp only; omega)
  have s3 := at_last m c ⟨4 * q + 3, h⟩ (4 * q + 2) (by omega) rfl (by dsimp only; omega)
  dsimp only at s0 s1 s2 s3
  rw [s3, s2, s1, s0]

/-! ## The blocks of the arrays -/

theorem pt_lt (t : Fin cfg0.N) : t.val < 64 := t.isLt

theorem index0 : ∀ t : Fin cfg0.N, win0_0.index t = ![t.val % 4, t.val / 32] :=
  (by decide +kernel : ∀ t : Fin grid0.N, win0_0.index t = ![t.val % 4, t.val / 32])
theorem index1 : ∀ t : Fin cfg0.N, win0_1.index t = ![t.val / 8 % 4, t.val % 4, t.val / 4 % 2] :=
  (by decide +kernel : ∀ t : Fin grid0.N, win0_1.index t = ![t.val / 8 % 4, t.val % 4, t.val / 4 % 2])
theorem index2 : ∀ t : Fin cfg0.N, win0_2.index t = ![t.val / 32, t.val / 8 % 4, 0, t.val / 4 % 2] :=
  (by decide +kernel : ∀ t : Fin grid0.N, win0_2.index t = ![t.val / 32, t.val / 8 % 4, 0, t.val / 4 % 2])

theorem iblk0 (c : Dev nD) (t : Fin cfg0.N) (k : Fin 2048) (r : Fin 1024) :
    iblk m c 0 t (ix2 k r)
      = V m c main_arg0 (ix2 (⟨2048 * (t.val % 4) + k.val, by omega⟩ : Fin 8192)
          (⟨1024 * (t.val / 32) + r.val, by have := pt_lt t; omega⟩ : Fin 2048)) := by
  blk_simp [iblk]
  refine congrArg (V m c main_arg0) ?_
  blk_ext [index0]

theorem iblk1 (c : Dev nD) (t : Fin cfg0.N) (k : Fin 2048) (s : Fin 1024) :
    iblk m c 1 t (ix3 (0 : Fin 1) k s)
      = V m c main_arg1 (ix3 (⟨t.val / 8 % 4, by omega⟩ : Fin 4) (⟨2048 * (t.val % 4) + k.val, by omega⟩ : Fin 8192)
          (⟨1024 * (t.val / 4 % 2) + s.val, by omega⟩ : Fin 2048)) := by
  blk_simp [iblk]
  refine congrArg (V m c main_arg1) ?_
  blk_ext [index1]

end

variable (m : (ℓ : Loc nD τ sig) → Buf (Elt Ideal) ℓ)

theorem single (x : Vec Ideal S1x2048x1024 .bf16) (h : S1x2048x1024.ShapeCasts S2048x1024) (k : Fin 2048) (j : Fin 1024) :
    shapeCast S2048x1024 x h (ix2 k j) = x (ix3 (0 : Fin 1) k j) := by
  refine shapeCast_apply x h _ _ ?_
  rw [Shape.rowMajor_val_three, Shape.rowMajor_val_two]
  simp [ix2, ix3]

theorem lead (x : FVec Ideal S1024x1024 .f32) (h : S1024x1024.ShapeCasts S1x1x1024x1024) (i j : Fin 1024) :
    shapeCast S1x1x1024x1024 x h (ix4 (0 : Fin 1) (0 : Fin 1) i j) = x (ix2 i j) := by
  refine shapeCast_apply x h _ _ ?_
  rw [Shape.rowMajor_val_four, Shape.rowMajor_val_two]
  simp [ix2, ix4]

theorem pay_apply (x : Vec Ideal S2048x1024 .bf16) (y : Vec Ideal S1x2048x1024 .bf16) (i j : Fin 1024) :
    (k0_pay1 x y (ix2 i j) : EReal) = ∑ k : Fin 2048, (fun a b => x (ix2 a b) : Fin 2048 → Fin 1024 → EReal) k i
      * (fun a b => y (ix3 (0 : Fin 1) a b) : Fin 2048 → Fin 1024 → EReal) k j := by
  pointwise [k0_pay1]

/-- The two arguments as tables of numbers. -/
def left (c : Dev nD) (n : Fin 8192) (i : Fin 2048) : EReal := m ((c : Thread nD τ).loc main_arg0) (ix2 n i)
def right (c : Dev nD) (f : Fin 4) (n : Fin 8192) (j : Fin 2048) : EReal := m ((c : Thread nD τ).loc main_arg1) (ix3 f n j)

theorem part_apply (c : Dev nD) (t : Fin cfg0.N) (i j : Fin 1024) :
    (part m c t (ix2 i j) : EReal)
      = ∑ k : Fin 2048, left m c ⟨2048 * (t.val % 4) + k.val, by omega⟩ ⟨1024 * (t.val / 32) + i.val, by have := pt_lt t; omega⟩
          * right m c ⟨t.val / 8 % 4, by omega⟩ ⟨2048 * (t.val % 4) + k.val, by omega⟩ ⟨1024 * (t.val / 4 % 2) + j.val, by omega⟩ :=
  (pay_apply _ _ i j).trans (Finset.sum_congr rfl fun k _ => congrArg₂ (fun x y : EReal => x * y)
    ((iblk0 m c t k i).trans (congrFun (V_main_arg0 m c) _)) ((iblk1 m c t k j).trans (congrFun (V_main_arg1 m c) _)))

/-- The product at a place of the gathered gradient: over the four runs of rows and the rows of each. -/
def entry (c : Dev nD) (p : Fin 2) (f : Fin 4) (i : Fin 1024) (j : Fin 2048) : EReal :=
  ∑ a : Fin 4, ∑ k : Fin 2048, left m c ⟨2048 * a.val + k.val, by omega⟩ ⟨1024 * p.val + i.val, by omega⟩ * right m c f ⟨2048 * a.val + k.val, by omega⟩ j

theorem total (c : Dev nD) (t : Fin cfg0.N) (h : t.val % 4 = 3) (r s : Fin 1024) (p : Fin 2) (f : Fin 4) (i : Fin 1024) (j : Fin 2048)
    (hp : p.val = t.val / 32) (hq : f.val = t.val / 8 % 4) (hi : i.val = r.val) (hj : j.val = 1024 * (t.val / 4 % 2) + s.val) :
    ((outsAt0 m c t.val t.isLt).1 (ix4 (0 : Fin 1) (0 : Fin 1) r s) : EReal) = entry m c p f i j := by
  have ht := pt_lt t
  have hN : cfg0.N = 64 := N_0
  have e : t.val = 4 * (t.val / 4) + 3 := by omega
  rw [at_same m c t.val (4 * (t.val / 4) + 3) t.isLt (by omega) e, written, lead]
  have key : ∀ (a : Fin 4) (ha : 4 * (t.val / 4) + a.val < cfg0.N),
      (part m c ⟨4 * (t.val / 4) + a.val, ha⟩ (ix2 r s) : EReal)
        = ∑ k : Fin 2048, left m c ⟨2048 * a.val + k.val, by omega⟩ ⟨1024 * p.val + i.val, by omega⟩ * right m c f ⟨2048 * a.val + k.val, by omega⟩ j := by
    intro a ha
    rw [part_apply]
    refine Finset.sum_congr rfl fun k _ => congrArg₂ (fun x y : EReal => x * y) ?_ ?_
    · exact congrArg₂ (left m c) (Fin.ext (by show 2048 * ((4 * (t.val / 4) + a.val) % 4) + k.val = 2048 * a.val + k.val; omega))
        (Fin.ext (by show 1024 * ((4 * (t.val / 4) + a.val) / 32) + r.val = 1024 * p.val + i.val; omega))
    · exact congr (congrArg₂ (right m c) (Fin.ext (by show (4 * (t.val / 4) + a.val) / 8 % 4 = f.val; omega))
        (Fin.ext (by show 2048 * ((4 * (t.val / 4) + a.val) % 4) + k.val = 2048 * a.val + k.val; omega))) (Fin.ext (by show 1024 * ((4 * (t.val / 4) + a.val) / 4 % 2) + s.val = j.val; omega))
  unfold entry
  rw [Fin.sum_univ_four]
  exact congrArg₂ (fun x y : EReal => x + y) (congrArg₂ (fun x y : EReal => x + y) (congrArg₂ (fun x y : EReal => x + y)
    (key 0 (by show 4 * (t.val / 4) + 0 < _; omega)) (key 1 (by show 4 * (t.val / 4) + 1 < _; omega)))
    (key 2 (by show 4 * (t.val / 4) + 2 < _; omega))) (key 3 (by show 4 * (t.val / 4) + 3 < _; omega))

/-- The array the kernel ends with. -/
theorem final (c : Dev nD) : (dats m 0 c).arrAt 2 cfg0.N = fun i : S2x4x1024x2048.Idx => entry m c (i 0) (i 1) (i 2) (i 3) := by
  refine Pipeline.Dat.arrAt_eq_of_covers _ 2 _ (by decide +kernel) fun t hf y => ?_
  have h3 := (flush0_2 t).1 hf
  obtain ⟨r, s, rfl⟩ : ∃ (r s : Fin 1024), y = ix4 (0 : Fin 1) (0 : Fin 1) r s :=
    ⟨y 2, y 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  have hb := total m c t h3 r s ((win0_2.blk t).view.emb (ix4 (0 : Fin 1) (0 : Fin 1) r s) 0)
    ((win0_2.blk t).view.emb (ix4 (0 : Fin 1) (0 : Fin 1) r s) 1) ((win0_2.blk t).view.emb (ix4 (0 : Fin 1) (0 : Fin 1) r s) 2)
    ((win0_2.blk t).view.emb (ix4 (0 : Fin 1) (0 : Fin 1) r s) 3)
    (by show win0_2.index t (0 : Fin 4) * 1 + 1 * 0 = _; rw [index2]; show t.val / 32 * 1 + 1 * 0 = _; omega)
    (by show win0_2.index t (1 : Fin 4) * 1 + 1 * 0 = _; rw [index2]; show t.val / 8 % 4 * 1 + 1 * 0 = _; omega)
    (by show win0_2.index t (2 : Fin 4) * 1024 + 1 * r.val = _; rw [index2]; show 0 * 1024 + 1 * r.val = _; omega)
    (by show win0_2.index t (3 : Fin 4) * 1024 + 1 * s.val = _; rw [index2]; show t.val / 4 % 2 * 1024 + 1 * s.val = _; omega)
  rw [after0_2]
  exact hb

end Cert.Kernel5Ideal.Product

namespace Cert.Reference5Ideal.Product

open Cert.Reference5Ideal Cert.Reference5Ideal.Gen Cert.Reference5Ideal.Read Idealize.ShloMosaic Idealize.ShloMosaic.TcCoe
open Idealize.SL.Sem

/-- What the reference computes at a place of its result. -/
theorem result (x : (⟨S8192x2048, .bf16⟩ : BufTy).Contents (Elt Ideal)) (y : (⟨S4x8192x2048, .bf16⟩ : BufTy).Contents (Elt Ideal))
    (p : Fin 2) (f : Fin 4) (i : Fin 1024) (j : Fin 2048) :
    (val_main_v13 (F := Ideal) x y (ix4 p f i j) : EReal)
      = ∑ a : Fin 4, ∑ k : Fin 2048, (fun a b => x (ix2 a b) : Fin 8192 → Fin 2048 → EReal) ⟨2048 * a.val + k.val, by omega⟩ ⟨1024 * p.val + i.val, by omega⟩ * (fun a b c => y (ix3 a b c) : Fin 4 → Fin 8192 → Fin 2048 → EReal) f ⟨2048 * a.val + k.val, by omega⟩ j := by
  rw [val_main_v13_apply, val_main_v12_apply, val_main_v11_apply, val_main_v10_apply, Cert.Blocks.sum_fields]
  refine Finset.sum_congr rfl fun a _ => Finset.sum_congr rfl fun k _ => ?_
  refine (congrArg₂ (fun x y : EReal => x * y) ?_ ?_).trans (mul_comm _ _)
  · rw [val_main_v9_apply, val_main_v8_apply, val_main_v7_apply]
    refine congrArg y ?_
    funext b
    match b with
    | ⟨0, _⟩ => apply Fin.ext; show ((2048 * a.val + k.val) * 8192 + ((((p.val * 1024 + i.val) * 4 + f.val) * 2048 + j.val) % 8192)) / 2048 % 4 = f.val; omega
    | ⟨1, _⟩ => apply Fin.ext; show ((2048 * a.val + k.val) * 8192 + ((((p.val * 1024 + i.val) * 4 + f.val) * 2048 + j.val) % 8192)) / 8192 = 2048 * a.val + k.val; omega
    | ⟨2, _⟩ => apply Fin.ext; show ((2048 * a.val + k.val) * 8192 + ((((p.val * 1024 + i.val) * 4 + f.val) * 2048 + j.val) % 8192)) % 2048 = j.val; omega
  · rw [val_main_v1_apply]
    refine congrArg x ?_
    funext b
    match b with
    | ⟨0, _⟩ => rfl
    | ⟨1, _⟩ => apply Fin.ext; show ((((p.val * 1024 + i.val) * 4 + f.val) * 2048 + j.val) / 8192) = 1024 * p.val + i.val; omega

end Cert.Reference5Ideal.Product

end
-- ==== Proof.Product6.lean ====
/-
  The gradient of the attention layer's projection weight from the layer's input and the gradients of the four projected
  fields. The kernel takes a quarter of the rows a grid point and adds the four products in a buffer; the reference multiplies
  once.
-/
module

public import proofs.«01_k».proof.Proof.Blocks
public import proofs.«01_k».proof.Proof.Gen.Kernel6Ideal
public import proofs.«01_k».proof.Proof.Gen.Reference6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel6Ideal.Product

open Cert.Kernel6Ideal Cert.Kernel6Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- The first run of rows leaves its partial product in the buffer. -/
theorem first_left (c : Dev nD) (i : grid0.Coords) (a3 h3 a4 h4 a5 h5 a6 h6 hc0 hc1 hc2 x0 x1) :
    sout0_A_0 (F := F) c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero corner2]
  unfold k0_pay2
  simp only [View.readAt_eq_ld, h3.read_unread, h4.read_unread, View.ld_unit_zero (S := S2048x1024) corner2,
    View.ld_unit_zero (S := S1x2048x1024) corner3, shapeCast_self]

/-- A run of rows in the middle adds its own to what the buffer held. -/
theorem middle_left (c : Dev nD) (i : grid0.Coords) (a3 h3 a4 h4 a5 h5 a6 h6 hc0 hc1 hc2 x0 x1 s) :
    sout0_B_0 (F := F) c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero corner2]
  unfold k0_pay3
  simp only [View.readAt_eq_ld, h3.read_unread, h4.read_unread, h6.read_unread, View.ld_unit_zero (S := S2048x1024) corner2,
    View.ld_unit_zero (S := S1x2048x1024) corner3, View.ld_unit_zero (S := S1024x1024) corner2, shapeCast_self]

/-- The last run of rows writes the buffer plus its own. -/
theorem last_out (c : Dev nD) (i : grid0.Coords) (a3 h3 a4 h4 a5 h5 a6 h6 hc0 hc1 hc2 x0 x1 s) :
    out0_C_2 (F := F) c i a3 h3 a4 h4 a5 h5 a6 h6 hc0 hc1 hc2 x0 x1 s = addf s (k0_pay1 x0 x1) := by
  unfold out0_C_2
  rw [View.read_writes_eq_canon _ _ _ (cover0_C_2 c i a3 h3 a4 h4 a5 h5 a6 h6 hc0 hc1 hc2 x0 x1 s)]
  unfold kernelRun0_C
  dsimp only
  rw [View.canon_unit_zero corner2]
  unfold k0_pay4
  simp only [View.readAt_eq_ld, h3.read_unread, h4.read_unread, h6.read_unread, View.ld_unit_zero (S := S2048x1024) corner2,
    View.ld_unit_zero (S := S1x2048x1024) corner3, View.ld_unit_zero (S := S1024x1024) corner2]

/-- The partial product of a grid point. -/
def part (c : Dev nD) (t : Fin cfg0.N) : FVec F S1024x1024 .f32 := k0_pay1 (iblk m c 0 t) (iblk m c 1 t)

theorem at_same (c : Dev nD) (n n' : ℕ) (h : n < cfg0.N) (h' : n' < cfg0.N) (e : n = n') : outsAt0 m c n h = outsAt0 m c n' h' := by
  subst e; rfl

theorem at_first (c : Dev nD) (t : Fin cfg0.N) (h : t.val % 4 = 0) : (outsAt0 m c t.val t.isLt).2 = part m c t := by
  rw [outsAt0_A m c t h (by omega) (by omega)]
  dsimp only
  rw [first_left (F := F)]
  rfl

theorem at_middle (c : Dev nD) (t : Fin cfg0.N) (n : ℕ) (hn : n < cfg0.N) (e : t.val = n + 1) (h : 1 ≤ t.val % 4 ∧ t.val % 4 ≤ 2) :
    (outsAt0 m c t.val t.isLt).2 = addf (outsAt0 m c n hn).2 (part m c t) := by
  rw [outsAt0_B m c t (by omega) h (by omega)]
  dsimp only
  rw [middle_left (F := F), at_same m c (t.val - 1) n _ hn (by omega)]
  rfl

theorem at_last (c : Dev nD) (t : Fin cfg0.N) (n : ℕ) (hn : n < cfg0.N) (e : t.val = n + 1) (h : t.val % 4 = 3) :
    (outsAt0 m c t.val t.isLt).1 = addf (outsAt0 m c n hn).2 (part m c t) := by
  rw [outsAt0_C m c t (by omega) (by omega) h]
  dsimp only
  rw [last_out (F := F), at_same m c (t.val - 1) n _ hn (by omega)]
  rfl

/-- What the last of four points writes: the four partial products, added in order. -/
theorem written (c : Dev nD) (q : ℕ) (h : 4 * q + 3 < cfg0.N) :
    (outsAt0 m c (4 * q + 3) h).1
      = addf (addf (addf (part m c ⟨4 * q, by omega⟩) (part m c ⟨4 * q + 1, by omega⟩)) (part m c ⟨4 * q + 2, by omega⟩))
          (part m c ⟨4 * q + 3, h⟩) := by
  have s0 := at_first m c ⟨4 * q, by omega⟩ (by dsimp only; omega)
  have s1 := at_middle m c ⟨4 * q + 1, by omega⟩ (4 * q) (by omega) rfl (by dsimp only; omega)
  have s2 := at_middle m c ⟨4 * q + 2, by omega⟩ (4 * q + 1) (by omega) rfl (by dsimp only; omega)
  have s3 := at_last m c ⟨4 * q + 3, h⟩ (4 * q + 2) (by omega) rfl (by dsimp only; omega)
  dsimp only at s0 s1 s2 s3
  rw [s3, s2, s1, s0]

/-! ## The blocks of the arrays -/

theorem pt_lt (t : Fin cfg0.N) : t.val < 64 := t.isLt

theorem index0 : ∀ t : Fin cfg0.N, win0_0.index t = ![t.val % 4, t.val / 32] :=
  (by decide +kernel : ∀ t : Fin grid0.N, win0_0.index t = ![t.val % 4, t.val / 32])
theorem index1 : ∀ t : Fin cfg0.N, win0_1.index t = ![t.val / 8 % 4, t.val % 4, t.val / 4 % 2] :=
  (by decide +kernel : ∀ t : Fin grid0.N, win0_1.index t = ![t.val / 8 % 4, t.val % 4, t.val / 4 % 2])
theorem index2 : ∀ t : Fin cfg0.N, win0_2.index t = ![t.val / 32, t.val / 4 % 8] :=
  (by decide +kernel : ∀ t : Fin grid0.N, win0_2.index t = ![t.val / 32, t.val / 4 % 8])

theorem iblk0 (c : Dev nD) (t : Fin cfg0.N) (k : Fin 2048) (r : Fin 1024) :
    iblk m c 0 t (ix2 k r)
      = V m c main_arg0 (ix2 (⟨2048 * (t.val % 4) + k.val, by omega⟩ : Fin 8192)
          (⟨1024 * (t.val / 32) + r.val, by have := pt_lt t; omega⟩ : Fin 2048)) := by
  blk_simp [iblk]
  refine congrArg (V m c main_arg0) ?_
  blk_ext [index0]

theorem iblk1 (c : Dev nD) (t : Fin cfg0.N) (k : Fin 2048) (s : Fin 1024) :
    iblk m c 1 t (ix3 (0 : Fin 1) k s)
      = V m c main_arg1 (ix3 (⟨t.val / 8 % 4, by omega⟩ : Fin 4) (⟨2048 * (t.val % 4) + k.val, by omega⟩ : Fin 8192)
          (⟨1024 * (t.val / 4 % 2) + s.val, by omega⟩ : Fin 2048)) := by
  blk_simp [iblk]
  refine congrArg (V m c main_arg1) ?_
  blk_ext [index1]

end

variable (m : (ℓ : Loc nD τ sig) → Buf (Elt Ideal) ℓ)

theorem single (x : Vec Ideal S1x2048x1024 .bf16) (h : S1x2048x1024.ShapeCasts S2048x1024) (k : Fin 2048) (j : Fin 1024) :
    shapeCast S2048x1024 x h (ix2 k j) = x (ix3 (0 : Fin 1) k j) := by
  refine shapeCast_apply x h _ _ ?_
  rw [Shape.rowMajor_val_three, Shape.rowMajor_val_two]
  simp [ix2, ix3]

theorem pay_apply (x : Vec Ideal S2048x1024 .bf16) (y : Vec Ideal S1x2048x1024 .bf16) (i j : Fin 1024) :
    (k0_pay1 x y (ix2 i j) : EReal) = ∑ k : Fin 2048, (fun a b => x (ix2 a b) : Fin 2048 → Fin 1024 → EReal) k i
      * (fun a b => y (ix3 (0 : Fin 1) a b) : Fin 2048 → Fin 1024 → EReal) k j := by
  pointwise [k0_pay1]

/-- The two arguments as tables of numbers. -/
def left (c : Dev nD) (n : Fin 8192) (i : Fin 2048) : EReal := m ((c : Thread nD τ).loc main_arg0) (ix2 n i)
def right (c : Dev nD) (f : Fin 4) (n : Fin 8192) (j : Fin 2048) : EReal := m ((c : Thread nD τ).loc main_arg1) (ix3 f n j)

theorem part_apply (c : Dev nD) (t : Fin cfg0.N) (i j : Fin 1024) :
    (part m c t (ix2 i j) : EReal)
      = ∑ k : Fin 2048, left m c ⟨2048 * (t.val % 4) + k.val, by omega⟩ ⟨1024 * (t.val / 32) + i.val, by have := pt_lt t; omega⟩
          * right m c ⟨t.val / 8 % 4, by omega⟩ ⟨2048 * (t.val % 4) + k.val, by omega⟩ ⟨1024 * (t.val / 4 % 2) + j.val, by omega⟩ :=
  (pay_apply _ _ i j).trans (Finset.sum_congr rfl fun k _ => congrArg₂ (fun x y : EReal => x * y)
    ((iblk0 m c t k i).trans (congrFun (V_main_arg0 m c) _)) ((iblk1 m c t k j).trans (congrFun (V_main_arg1 m c) _)))

/-- The product at `(i, j)`: over the four runs of rows and the rows of each. -/
def entry (c : Dev nD) (i : Fin 2048) (j : Fin 8192) : EReal :=
  ∑ a : Fin 4, ∑ k : Fin 2048, left m c ⟨2048 * a.val + k.val, by omega⟩ i * right m c ⟨j.val / 2048, by omega⟩ ⟨2048 * a.val + k.val, by omega⟩ ⟨j.val % 2048, by omega⟩

theorem total (c : Dev nD) (t : Fin cfg0.N) (h : t.val % 4 = 3) (r s : Fin 1024) (i : Fin 2048) (j : Fin 8192)
    (hi : i.val = 1024 * (t.val / 32) + r.val) (hj : j.val = 1024 * (t.val / 4 % 8) + s.val) :
    ((outsAt0 m c t.val t.isLt).1 (ix2 r s) : EReal) = entry m c i j := by
  have ht := pt_lt t
  have hN : cfg0.N = 64 := N_0
  have e : t.val = 4 * (t.val / 4) + 3 := by omega
  rw [at_same m c t.val (4 * (t.val / 4) + 3) t.isLt (by omega) e, written]
  have key : ∀ (a : Fin 4) (ha : 4 * (t.val / 4) + a.val < cfg0.N),
      (part m c ⟨4 * (t.val / 4) + a.val, ha⟩ (ix2 r s) : EReal)
        = ∑ k : Fin 2048, left m c ⟨2048 * a.val + k.val, by omega⟩ i * right m c ⟨j.val / 2048, by omega⟩ ⟨2048 * a.val + k.val, by omega⟩ ⟨j.val % 2048, by omega⟩ := by
    intro a ha
    rw [part_apply]
    refine Finset.sum_congr rfl fun k _ => congrArg₂ (fun x y : EReal => x * y) ?_ ?_
    · exact congrArg₂ (left m c) (Fin.ext (by show 2048 * ((4 * (t.val / 4) + a.val) % 4) + k.val = 2048 * a.val + k.val; omega))
        (Fin.ext (by show 1024 * ((4 * (t.val / 4) + a.val) / 32) + r.val = i.val; omega))
    · exact congr (congrArg₂ (right m c) (Fin.ext (by show (4 * (t.val / 4) + a.val) / 8 % 4 = j.val / 2048; omega))
        (Fin.ext (by show 2048 * ((4 * (t.val / 4) + a.val) % 4) + k.val = 2048 * a.val + k.val; omega))) (Fin.ext (by show 1024 * ((4 * (t.val / 4) + a.val) / 4 % 2) + s.val = j.val % 2048; omega))
  unfold entry
  rw [Fin.sum_univ_four]
  exact congrArg₂ (fun x y : EReal => x + y) (congrArg₂ (fun x y : EReal => x + y) (congrArg₂ (fun x y : EReal => x + y)
    (key 0 (by show 4 * (t.val / 4) + 0 < _; omega)) (key 1 (by show 4 * (t.val / 4) + 1 < _; omega)))
    (key 2 (by show 4 * (t.val / 4) + 2 < _; omega))) (key 3 (by show 4 * (t.val / 4) + 3 < _; omega))

/-- The array the kernel ends with. -/
theorem final (c : Dev nD) : (dats m 0 c).arrAt 2 cfg0.N = fun i : S2048x8192.Idx => entry m c (i 0) (i 1) := by
  refine Pipeline.Dat.arrAt_eq_of_covers _ 2 _ (by decide +kernel) fun t hf y => ?_
  have h3 := (flush0_2 t).1 hf
  obtain ⟨r, s, rfl⟩ : ∃ (r s : Fin 1024), y = ix2 r s :=
    ⟨y 0, y 1, funext fun a => match a with | ⟨0, _⟩ => rfl | ⟨1, _⟩ => rfl⟩
  have hb := total m c t h3 r s ((win0_2.blk t).view.emb (ix2 r s) 0) ((win0_2.blk t).view.emb (ix2 r s) 1)
    (by show win0_2.index t (0 : Fin 2) * 1024 + 1 * r.val = _; rw [index2]; show t.val / 32 * 1024 + 1 * r.val = _; omega)
    (by show win0_2.index t (1 : Fin 2) * 1024 + 1 * s.val = _; rw [index2]; show t.val / 4 % 8 * 1024 + 1 * s.val = _; omega)
  rw [after0_2]
  exact hb

end Cert.Kernel6Ideal.Product

namespace Cert.Reference6Ideal.Product

open Cert.Reference6Ideal Cert.Reference6Ideal.Gen Cert.Reference6Ideal.Read Idealize.ShloMosaic Idealize.ShloMosaic.TcCoe
open Idealize.SL.Sem

/-- What the reference computes at a place of its result. -/
theorem result (x : (⟨S8192x2048, .bf16⟩ : BufTy).Contents (Elt Ideal)) (y : (⟨S4x8192x2048, .bf16⟩ : BufTy).Contents (Elt Ideal))
    (i : Fin 2048) (j : Fin 8192) :
    (val_main_v9 (F := Ideal) x y (ix2 i j) : EReal)
      = ∑ a : Fin 4, ∑ k : Fin 2048, (fun a b => x (ix2 a b) : Fin 8192 → Fin 2048 → EReal) ⟨2048 * a.val + k.val, by omega⟩ i * (fun a b c => y (ix3 a b c) : Fin 4 → Fin 8192 → Fin 2048 → EReal) ⟨j.val / 2048, by omega⟩ ⟨2048 * a.val + k.val, by omega⟩ ⟨j.val % 2048, by omega⟩ := by
  rw [val_main_v9_apply, val_main_v8_apply, Cert.Blocks.sum_fields]
  refine Finset.sum_congr rfl fun a _ => Finset.sum_congr rfl fun k _ => ?_
  refine (congrArg₂ (fun x y : EReal => x * y) ?_ ?_).trans (mul_comm _ _)
  · rw [val_main_v7_apply, val_main_v6_apply, val_main_v5_apply]
    refine congrArg y ?_
    funext b
    match b with
    | ⟨0, _⟩ => apply Fin.ext; show ((2048 * a.val + k.val) * 8192 + j.val) / 2048 % 4 = j.val / 2048; omega
    | ⟨1, _⟩ => apply Fin.ext; show ((2048 * a.val + k.val) * 8192 + j.val) / 8192 = 2048 * a.val + k.val; omega
    | ⟨2, _⟩ => apply Fin.ext; show ((2048 * a.val + k.val) * 8192 + j.val) % 2048 = j.val % 2048; omega
  · rw [val_main_v1_apply]
    refine congrArg x ?_
    funext b
    match b with
    | ⟨0, _⟩ => rfl
    | ⟨1, _⟩ => apply Fin.ext; show i.val = i.val; omega

end Cert.Reference6Ideal.Product

end
-- ==== Proof.Product7.lean ====
/-
  The gradient of the attention layer's input from the gradients of its four projected fields, added to a gradient already
  there. The kernel takes one field a grid point, adds the four products in a buffer and the old gradient last; the reference
  multiplies once.
-/
module

public import proofs.«01_k».proof.Proof.Blocks
public import proofs.«01_k».proof.Proof.Gen.Kernel7Ideal
public import proofs.«01_k».proof.Proof.Gen.Reference7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel7Ideal.Product

open Cert.Kernel7Ideal Cert.Kernel7Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- The first field leaves its partial product in the buffer. -/
theorem first_left (c : Dev nD) (i : grid0.Coords) (a3 h3 a4 h4 a5 h5 a6 h6 a7 h7 hc0 hc1 hc2 x0 x1 x2) :
    sout0_A_0 (F := F) c i a3 h3 a4 h4 a5 h5 a6 h6 a7 h7 hc0 hc1 hc2 x0 x1 x2 = k0_pay1 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  rw [View.canon_unit_zero corner2]
  unfold k0_pay2
  simp only [View.readAt_eq_ld, h3.read_unread, h4.read_unread, View.ld_unit_zero (S := S1x1024x2048) corner3,
    View.ld_unit_zero (S := S1024x2048) corner2, shapeCast_self]

/-- A field in the middle adds its own to what the buffer held. -/
theorem middle_left (c : Dev nD) (i : grid0.Coords) (a3 h3 a4 h4 a5 h5 a6 h6 a7 h7 hc0 hc1 hc2 x0 x1 x2 s) :
    sout0_B_0 (F := F) c i a3 h3 a4 h4 a5 h5 a6 h6 a7 h7 hc0 hc1 hc2 x0 x1 x2 s = addf s (k0_pay1 x0 x1) := by
  unfold sout0_B_0
  rw [View.read_writes_eq_canon _ _ _ (scover0_B_0 c i a3 h3 a4 h4 a5 h5 a6 h6 a7 h7 hc0 hc1 hc2 x0 x1 x2 s)]
  unfold kernelRun0_B
  dsimp only
  rw [View.canon_unit_zero corner2]
  unfold k0_pay3
  simp only [View.readAt_eq_ld, h3.read_unread, h4.read_unread, h5.read_unread, h7.read_unread, View.ld_unit_zero (S := S1x1024x2048) corner3,
    View.ld_unit_zero (S := S1024x2048) corner2, View.ld_unit_zero (S := S1024x1024) corner2, shapeCast_self]

/-- The last field writes the buffer plus its own plus the block of the third argument. -/
theorem last_out (c : Dev nD) (i : grid0.Coords) (a3 h3 a4 h4 a5 h5 a6 h6 a7 h7 hc0 hc1 hc2 x0 x1 x2 s) :
    out0_C_3 (F := F) c i a3 h3 a4 h4 a5 h5 a6 h6 a7 h7 hc0 hc1 hc2 x0 x1 x2 s = addf (addf s (k0_pay1 x0 x1)) x2 := by
  unfold out0_C_3
  rw [View.read_writes_eq_canon _ _ _ (cover0_C_3 c i a3 h3 a4 h4 a5 h5 a6 h6 a7 h7 hc0 hc1 hc2 x0 x1 x2 s)]
  unfold kernelRun0_C
  dsimp only
  rw [View.canon_unit_zero corner2]
  unfold k0_pay4
  simp only [View.readAt_eq_ld, h3.read_unread, h4.read_unread, h5.read_unread, h7.read_unread, View.ld_unit_zero (S := S1x1024x2048) corner3,
    View.ld_unit_zero (S := S1024x2048) corner2, View.ld_unit_zero (S := S1024x1024) corner2]

/-- The partial product of a grid point. -/
def part (c : Dev nD) (t : Fin cfg0.N) : FVec F S1024x1024 .f32 := k0_pay1 (iblk m c 0 t) (iblk m c 1 t)

theorem at_same (c : Dev nD) (n n' : ℕ) (h : n < cfg0.N) (h' : n' < cfg0.N) (e : n = n') : outsAt0 m c n h = outsAt0 m c n' h' := by
  subst e; rfl

theorem at_first (c : Dev nD) (t : Fin cfg0.N) (h : t.val % 4 = 0) : (outsAt0 m c t.val t.isLt).2 = part m c t := by
  rw [outsAt0_A m c t h (by omega) (by omega)]
  dsimp only
  rw [first_left (F := F)]
  rfl

theorem at_middle (c : Dev nD) (t : Fin cfg0.N) (n : ℕ) (hn : n < cfg0.N) (e : t.val = n + 1) (h : 1 ≤ t.val % 4 ∧ t.val % 4 ≤ 2) :
    (outsAt0 m c t.val t.isLt).2 = addf (outsAt0 m c n hn).2 (part m c t) := by
  rw [outsAt0_B m c t (by omega) h (by omega)]
  dsimp only
  rw [middle_left (F := F), at_same m c (t.val - 1) n _ hn (by omega)]
  rfl

theorem at_last (c : Dev nD) (t : Fin cfg0.N) (n : ℕ) (hn : n < cfg0.N) (e : t.val = n + 1) (h : t.val % 4 = 3) :
    (outsAt0 m c t.val t.isLt).1 = addf (addf (outsAt0 m c n hn).2 (part m c t)) (iblk m c 2 t) := by
  rw [outsAt0_C m c t (by omega) (by omega) h]
  dsimp only
  rw [last_out (F := F), at_same m c (t.val - 1) n _ hn (by omega)]
  rfl

/-- What the last of four points writes: the four partial products, added in order, and the block of the third argument. -/
theorem written (c : Dev nD) (q : ℕ) (h : 4 * q + 3 < cfg0.N) :
    (outsAt0 m c (4 * q + 3) h).1
      = addf (addf (addf (addf (part m c ⟨4 * q, by omega⟩) (part m c ⟨4 * q + 1, by omega⟩)) (part m c ⟨4 * q + 2, by omega⟩))
          (part m c ⟨4 * q + 3, h⟩)) (iblk m c 2 ⟨4 * q + 3, h⟩) := by
  have s0 := at_first m c ⟨4 * q, by omega⟩ (by dsimp only; omega)
  have s1 := at_middle m c ⟨4 * q + 1, by omega⟩ (4 * q) (by omega) rfl (by dsimp only; omega)
  have s2 := at_middle m c ⟨4 * q + 2, by omega⟩ (4 * q + 1) (by omega) rfl (by dsimp only; omega)
  have s3 := at_last m c ⟨4 * q + 3, h⟩ (4 * q + 2) (by omega) rfl (by dsimp only; omega)
  dsimp only at s0 s1 s2 s3
  rw [s3, s2, s1, s0]

/-! ## The blocks of the arrays -/

theorem pt_lt (t : Fin cfg0.N) : t.val < 64 := t.isLt

theorem index0 : ∀ t : Fin cfg0.N, win0_0.index t = ![t.val % 4, t.val / 8, 0] :=
  (by decide +kernel : ∀ t : Fin grid0.N, win0_0.index t = ![t.val % 4, t.val / 8, 0])
theorem index1 : ∀ t : Fin cfg0.N, win0_1.index t = ![t.val / 4 % 2, t.val % 4] :=
  (by decide +kernel : ∀ t : Fin grid0.N, win0_1.index t = ![t.val / 4 % 2, t.val % 4])
theorem index2 : ∀ t : Fin cfg0.N, win0_2.index t = ![t.val / 8, t.val / 4 % 2] :=
  (by decide +kernel : ∀ t : Fin grid0.N, win0_2.index t = ![t.val / 8, t.val / 4 % 2])
theorem index3 : ∀ t : Fin cfg0.N, win0_3.index t = ![t.val / 8, t.val / 4 % 2] :=
  (by decide +kernel : ∀ t : Fin grid0.N, win0_3.index t = ![t.val / 8, t.val / 4 % 2])

theorem iblk0 (c : Dev nD) (t : Fin cfg0.N) (r : Fin 1024) (k : Fin 2048) :
    iblk m c 0 t (ix3 (0 : Fin 1) r k)
      = V m c main_arg0 (ix3 (⟨t.val % 4, by omega⟩ : Fin 4) (⟨1024 * (t.val / 8) + r.val, by have := pt_lt t; omega⟩ : Fin 8192) k) := by
  blk_simp [iblk]
  refine congrArg (V m c main_arg0) ?_
  blk_ext [index0]

theorem iblk1 (c : Dev nD) (t : Fin cfg0.N) (s : Fin 1024) (k : Fin 2048) :
    iblk m c 1 t (ix2 s k)
      = V m c main_arg1 (ix2 (⟨1024 * (t.val / 4 % 2) + s.val, by omega⟩ : Fin 2048) (⟨2048 * (t.val % 4) + k.val, by omega⟩ : Fin 8192)) := by
  blk_simp [iblk]
  refine congrArg (V m c main_arg1) ?_
  blk_ext [index1]

theorem iblk2 (c : Dev nD) (t : Fin cfg0.N) (r s : Fin 1024) :
    iblk m c 2 t (ix2 r s)
      = V m c main_arg2 (ix2 (⟨1024 * (t.val / 8) + r.val, by have := pt_lt t; omega⟩ : Fin 8192)
          (⟨1024 * (t.val / 4 % 2) + s.val, by omega⟩ : Fin 2048)) := by
  blk_simp [iblk]
  refine congrArg (V m c main_arg2) ?_
  blk_ext [index2]

end

variable (m : (ℓ : Loc nD τ sig) → Buf (Elt Ideal) ℓ)

theorem single3 (x : Vec Ideal S1x1024x2048 .bf16) (h : S1x1024x2048.ShapeCasts S1024x2048) (i : Fin 1024) (k : Fin 2048) :
    shapeCast S1024x2048 x h (ix2 i k) = x (ix3 (0 : Fin 1) i k) := by
  refine shapeCast_apply x h _ _ ?_
  rw [Shape.rowMajor_val_three, Shape.rowMajor_val_two]
  simp [ix2, ix3]

theorem pay_apply (x : Vec Ideal S1x1024x2048 .bf16) (y : Vec Ideal S1024x2048 .bf16) (i j : Fin 1024) :
    (k0_pay1 x y (ix2 i j) : EReal) = ∑ k : Fin 2048, (fun a b => x (ix3 (0 : Fin 1) a b) : Fin 1024 → Fin 2048 → EReal) i k
      * (fun a b => y (ix2 a b) : Fin 1024 → Fin 2048 → EReal) j k := by
  pointwise [k0_pay1]

/-- The three arguments as tables of numbers. -/
def left (c : Dev nD) (f : Fin 4) (i : Fin 8192) (k : Fin 2048) : EReal := m ((c : Thread nD τ).loc main_arg0) (ix3 f i k)
def right (c : Dev nD) (j : Fin 2048) (n : Fin 8192) : EReal := m ((c : Thread nD τ).loc main_arg1) (ix2 j n)
def base (c : Dev nD) (i : Fin 8192) (j : Fin 2048) : EReal := m ((c : Thread nD τ).loc main_arg2) (ix2 i j)

theorem part_apply (c : Dev nD) (t : Fin cfg0.N) (i j : Fin 1024) :
    (part m c t (ix2 i j) : EReal)
      = ∑ k : Fin 2048, left m c ⟨t.val % 4, by omega⟩ ⟨1024 * (t.val / 8) + i.val, by have := pt_lt t; omega⟩ k
          * right m c ⟨1024 * (t.val / 4 % 2) + j.val, by omega⟩ ⟨2048 * (t.val % 4) + k.val, by omega⟩ :=
  (pay_apply _ _ i j).trans (Finset.sum_congr rfl fun k _ => congrArg₂ (fun x y : EReal => x * y)
    ((iblk0 m c t i k).trans (congrFun (V_main_arg0 m c) _)) ((iblk1 m c t j k).trans (congrFun (V_main_arg1 m c) _)))

/-- The sum at `(i, j)`: the product over the four fields and the columns of each, and the third argument. -/
def entry (c : Dev nD) (i : Fin 8192) (j : Fin 2048) : EReal :=
  (∑ f : Fin 4, ∑ k : Fin 2048, left m c f i k * right m c j ⟨2048 * f.val + k.val, by omega⟩) + base m c i j

theorem total (c : Dev nD) (t : Fin cfg0.N) (h : t.val % 4 = 3) (r s : Fin 1024) (i : Fin 8192) (j : Fin 2048)
    (hi : i.val = 1024 * (t.val / 8) + r.val) (hj : j.val = 1024 * (t.val / 4 % 2) + s.val) :
    ((outsAt0 m c t.val t.isLt).1 (ix2 r s) : EReal) = entry m c i j := by
  have ht := pt_lt t
  have hN : cfg0.N = 64 := N_0
  have e : t.val = 4 * (t.val / 4) + 3 := by omega
  rw [at_same m c t.val (4 * (t.val / 4) + 3) t.isLt (by omega) e, written]
  have key : ∀ (f : Fin 4) (hf : 4 * (t.val / 4) + f.val < cfg0.N),
      (part m c ⟨4 * (t.val / 4) + f.val, hf⟩ (ix2 r s) : EReal)
        = ∑ k : Fin 2048, left m c f i k * right m c j ⟨2048 * f.val + k.val, by omega⟩ := by
    intro f hf
    rw [part_apply]
    refine Finset.sum_congr rfl fun k _ => congrArg₂ (fun x y : EReal => x * y) ?_ ?_
    · exact congrFun (congrArg₂ (left m c) (Fin.ext (by show (4 * (t.val / 4) + f.val) % 4 = f.val; omega))
        (Fin.ext (by show 1024 * ((4 * (t.val / 4) + f.val) / 8) + r.val = i.val; omega))) k
    · exact congrArg₂ (right m c) (Fin.ext (by show 1024 * ((4 * (t.val / 4) + f.val) / 4 % 2) + s.val = j.val; omega))
        (Fin.ext (by show 2048 * ((4 * (t.val / 4) + f.val) % 4) + k.val = 2048 * f.val + k.val; omega))
  have last : (iblk m c 2 ⟨4 * (t.val / 4) + 3, by omega⟩ (ix2 r s) : EReal) = base m c i j := by
    refine ((iblk2 m c _ r s).trans (congrFun (V_main_arg2 m c) _)).trans ?_
    exact congrArg₂ (base m c) (Fin.ext (by show 1024 * ((4 * (t.val / 4) + 3) / 8) + r.val = i.val; omega))
      (Fin.ext (by show 1024 * ((4 * (t.val / 4) + 3) / 4 % 2) + s.val = j.val; omega))
  unfold entry
  rw [Fin.sum_univ_four]
  refine congrArg₂ (fun x y : EReal => x + y) ?_ last
  exact congrArg₂ (fun x y : EReal => x + y) (congrArg₂ (fun x y : EReal => x + y) (congrArg₂ (fun x y : EReal => x + y)
    (key 0 (by show 4 * (t.val / 4) + 0 < _; omega)) (key 1 (by show 4 * (t.val / 4) + 1 < _; omega)))
    (key 2 (by show 4 * (t.val / 4) + 2 < _; omega))) (key 3 (by show 4 * (t.val / 4) + 3 < _; omega))

/-- The array the kernel ends with. -/
theorem final (c : Dev nD) : (dats m 0 c).arrAt 3 cfg0.N = fun i : S8192x2048.Idx => entry m c (i 0) (i 1) := by
  refine Pipeline.Dat.arrAt_eq_of_covers _ 3 _ (by decide +kernel) fun t hf y => ?_
  have h3 := (flush0_3 t).1 hf
  obtain ⟨r, s, rfl⟩ : ∃ (r s : Fin 1024), y = ix2 r s :=
    ⟨y 0, y 1, funext fun a => match a with | ⟨0, _⟩ => rfl | ⟨1, _⟩ => rfl⟩
  have hb := total m c t h3 r s ((win0_3.blk t).view.emb (ix2 r s) 0) ((win0_3.blk t).view.emb (ix2 r s) 1)
    (by show win0_3.index t (0 : Fin 2) * 1024 + 1 * r.val = _; rw [index3]; show t.val / 8 * 1024 + 1 * r.val = _; omega)
    (by show win0_3.index t (1 : Fin 2) * 1024 + 1 * s.val = _; rw [index3]; show t.val / 4 % 2 * 1024 + 1 * s.val = _; omega)
  rw [after0_3]
  exact hb

end Cert.Kernel7Ideal.Product

namespace Cert.Reference7Ideal.Product

open Cert.Reference7Ideal Cert.Reference7Ideal.Gen Cert.Reference7Ideal.Read Idealize.ShloMosaic Idealize.ShloMosaic.TcCoe
open Idealize.SL.Sem

/-- What the reference computes at `(i, j)`. -/
theorem result (x : (⟨S4x8192x2048, .bf16⟩ : BufTy).Contents (Elt Ideal)) (y : (⟨S2048x8192, .bf16⟩ : BufTy).Contents (Elt Ideal))
    (z : (⟨S8192x2048, .f32⟩ : BufTy).Contents (Elt Ideal)) (i : Fin 8192) (j : Fin 2048) :
    (val_main_v9 (F := Ideal) x y z (ix2 i j) : EReal)
      = (∑ f : Fin 4, ∑ k : Fin 2048, (fun a b c => x (ix3 a b c) : Fin 4 → Fin 8192 → Fin 2048 → EReal) f i k
          * (fun a b => y (ix2 a b) : Fin 2048 → Fin 8192 → EReal) j ⟨2048 * f.val + k.val, by omega⟩)
        + (fun a b => z (ix2 a b) : Fin 8192 → Fin 2048 → EReal) i j := by
  rw [val_main_v9_apply, val_main_v8_apply, Cert.Blocks.sum_fields]
  refine Eq.trans ?_ (add_comm _ _)
  refine congrArg₂ (fun x y : EReal => x + y) rfl ?_
  refine Finset.sum_congr rfl fun f _ => Finset.sum_congr rfl fun k _ => congrArg₂ (fun x y : EReal => x * y) ?_ ?_
  · rw [val_main_v7_apply, val_main_v6_apply, val_main_v5_apply]
    refine congrArg x ?_
    funext a
    match a with
    | ⟨0, _⟩ => apply Fin.ext; show (i.val * 8192 + (2048 * f.val + k.val)) / 2048 % 4 = f.val; omega
    | ⟨1, _⟩ => apply Fin.ext; show (i.val * 8192 + (2048 * f.val + k.val)) / 8192 = i.val; omega
    | ⟨2, _⟩ => apply Fin.ext; show (i.val * 8192 + (2048 * f.val + k.val)) % 2048 = k.val; omega
  · rw [val_main_v1_apply]
    refine congrArg y ?_
    funext a
    match a with
    | ⟨0, _⟩ => rfl
    | ⟨1, _⟩ => rfl

end Cert.Reference7Ideal.Product

end
-- ==== Proof.Product8.lean ====
/-
  The recurrent layer's projection. The kernel reads the weight in the halves and quarters that it is gathered in, and a grid
  point adds the products of the two halves; the reference puts the weight together and multiplies once.
-/
module

public import proofs.«01_k».proof.Proof.Blocks
public import proofs.«01_k».proof.Proof.Gen.Kernel8Ideal
public import proofs.«01_k».proof.Proof.Gen.Reference8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel8Ideal.Product

open Cert.Kernel8Ideal Cert.Kernel8Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- What a grid point writes: the first half of the rows' columns by the weight's first half, and the second by the second. -/
theorem block (c : Dev nD) (i : grid0.Coords) (a3 h3 a4 h4 a5 h5 a6 h6 x0 x1) :
    out0_A_2 (F := F) c i a3 h3 a4 h4 a5 h5 a6 h6 x0 x1
      = k0_pay1 x0
          (View.ld x1 (Rect.unit (s := S2x1x1024x1024) ![0, 0, 0, 0] S1x1x1024x1024.size inb_S2x1x1024x1024_S1x1x1024x1024_0_0_0_0))
          (View.ld x1 (Rect.unit (s := S2x1x1024x1024) ![1, 0, 0, 0] S1x1x1024x1024.size inb_S2x1x1024x1024_S1x1x1024x1024_1_0_0_0)) := by
  unfold out0_A_2
  rw [View.read_writes_eq_canon _ _ _ (cover0_A_2 c i a3 h3 a4 h4 a5 h5 a6 h6 x0 x1)]
  unfold kernelRun0_A
  dsimp only
  rw [View.canon_unit_zero corner2]
  simp only [View.readAt_eq_ld, h3.read_unread, h4.read_unread, View.ld_unit_zero (S := S1024x2048) corner2]

theorem at_point (c : Dev nD) (t : Fin cfg0.N) :
    (outsAt0 m c t) = k0_pay1 (iblk m c 0 t)
      (View.ld (iblk m c 1 t) (Rect.unit (s := S2x1x1024x1024) ![0, 0, 0, 0] S1x1x1024x1024.size inb_S2x1x1024x1024_S1x1x1024x1024_0_0_0_0))
      (View.ld (iblk m c 1 t) (Rect.unit (s := S2x1x1024x1024) ![1, 0, 0, 0] S1x1x1024x1024.size inb_S2x1x1024x1024_S1x1x1024x1024_1_0_0_0)) := by
  unfold outsAt0
  exact block c _ _ _ _ _ _ _ _ _ _ _

/-! ## The blocks of the arrays -/

theorem pt_lt (t : Fin cfg0.N) : t.val < 64 := t.isLt

theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![0, t.val % 8 / 2, 0, t.val % 2] :=
  (by decide +kernel : ∀ t : Fin grid0.N, win0_1.index t = ![0, t.val % 8 / 2, 0, t.val % 2])
theorem index2 : ∀ t : Fin cfg0.N, win0_2.index t = ![t.val / 8, t.val % 8] :=
  (by decide +kernel : ∀ t : Fin grid0.N, win0_2.index t = ![t.val / 8, t.val % 8])

theorem iblk0 (c : Dev nD) (t : Fin cfg0.N) (r : Fin 1024) (k : Fin 2048) :
    iblk m c 0 t (ix2 r k)
      = V m c main_arg0 (ix2 (⟨1024 * (t.val / 8) + r.val, by have := pt_lt t; omega⟩ : Fin 8192) k) := by
  blk_simp [iblk]
  refine congrArg (V m c main_arg0) ?_
  blk_ext [index0]

theorem iblk1 (c : Dev nD) (t : Fin cfg0.N) (p : Fin 2) (k s : Fin 1024) :
    iblk m c 1 t (ix4 p (0 : Fin 1) k s)
      = V m c main_arg1 (ix4 p (⟨t.val % 8 / 2, by omega⟩ : Fin 4) k (⟨1024 * (t.val % 2) + s.val, by omega⟩ : Fin 2048)) := by
  blk_simp [iblk]
  refine congrArg (V m c main_arg1) ?_
  blk_ext [index1]

theorem first_half (x : Vec F S2x1x1024x1024 .bf16) (k j : Fin 1024) :
    View.ld x (Rect.unit (s := S2x1x1024x1024) ![0, 0, 0, 0] S1x1x1024x1024.size inb_S2x1x1024x1024_S1x1x1024x1024_0_0_0_0)
      (ix4 (0 : Fin 1) (0 : Fin 1) k j) = x (ix4 (0 : Fin 2) (0 : Fin 1) k j) := by
  refine congrArg x (funext fun a => Fin.ext ?_)
  match a with
  | ⟨0, _⟩ => show 0 + 1 * 0 = 0; omega
  | ⟨1, _⟩ => show 0 + 1 * 0 = 0; omega
  | ⟨2, _⟩ => show 0 + 1 * k.val = k.val; omega
  | ⟨3, _⟩ => show 0 + 1 * j.val = j.val; omega

theorem second_half (x : Vec F S2x1x1024x1024 .bf16) (k j : Fin 1024) :
    View.ld x (Rect.unit (s := S2x1x1024x1024) ![1, 0, 0, 0] S1x1x1024x1024.size inb_S2x1x1024x1024_S1x1x1024x1024_1_0_0_0)
      (ix4 (0 : Fin 1) (0 : Fin 1) k j) = x (ix4 (1 : Fin 2) (0 : Fin 1) k j) := by
  refine congrArg x (funext fun a => Fin.ext ?_)
  match a with
  | ⟨0, _⟩ => show 1 + 1 * 0 = 1; omega
  | ⟨1, _⟩ => show 0 + 1 * 0 = 0; omega
  | ⟨2, _⟩ => show 0 + 1 * k.val = k.val; omega
  | ⟨3, _⟩ => show 0 + 1 * j.val = j.val; omega

end

variable (m : (ℓ : Loc nD τ sig) → Buf (Elt Ideal) ℓ)

theorem single (x : Vec Ideal S1x1x1024x1024 .bf16) (h : S1x1x1024x1024.ShapeCasts S1024x1024) (k j : Fin 1024) :
    shapeCast S1024x1024 x h (ix2 k j) = x (ix4 (0 : Fin 1) (0 : Fin 1) k j) := by
  refine shapeCast_apply x h _ _ ?_
  rw [Shape.rowMajor_val_four, Shape.rowMajor_val_two]
  simp [ix2, ix4]

theorem pay_apply (x : Vec Ideal S1024x2048 .bf16) (y z : Vec Ideal S1x1x1024x1024 .bf16) (i j : Fin 1024) :
    (k0_pay1 x y z (ix2 i j) : EReal)
      = (∑ k : Fin 1024, (fun a b => x (ix2 a b) : Fin 1024 → Fin 2048 → EReal) i ⟨k.val, by omega⟩
          * (fun a b => y (ix4 (0 : Fin 1) (0 : Fin 1) a b) : Fin 1024 → Fin 1024 → EReal) k j)
        + ∑ k : Fin 1024, (fun a b => x (ix2 a b) : Fin 1024 → Fin 2048 → EReal) i ⟨1024 + k.val, by omega⟩
          * (fun a b => z (ix4 (0 : Fin 1) (0 : Fin 1) a b) : Fin 1024 → Fin 1024 → EReal) k j := by
  pointwise [k0_pay1]

/-- The arguments as tables of numbers. -/
def left (c : Dev nD) (i : Fin 8192) (k : Fin 2048) : EReal := m ((c : Thread nD τ).loc main_arg0) (ix2 i k)
def right (c : Dev nD) (p : Fin 2) (f : Fin 4) (k : Fin 1024) (j : Fin 2048) : EReal := m ((c : Thread nD τ).loc main_arg1) (ix4 p f k j)

/-- The product at `(i, j)`: over the two halves of the weight and the rows of each. -/
def entry (c : Dev nD) (i j : Fin 8192) : EReal :=
  (∑ k : Fin 1024, left m c i ⟨k.val, by omega⟩ * right m c 0 ⟨j.val / 2048, by omega⟩ k ⟨j.val % 2048, by omega⟩)
    + ∑ k : Fin 1024, left m c i ⟨1024 + k.val, by omega⟩ * right m c 1 ⟨j.val / 2048, by omega⟩ k ⟨j.val % 2048, by omega⟩

theorem total (c : Dev nD) (t : Fin cfg0.N) (r s : Fin 1024) (i j : Fin 8192)
    (hi : i.val = 1024 * (t.val / 8) + r.val) (hj : j.val = 1024 * (t.val % 8) + s.val) :
    ((outsAt0 m c t) (ix2 r s) : EReal) = entry m c i j := by
  have ht := pt_lt t
  have hx : ∀ k : Fin 2048, (iblk m c 0 t (ix2 r k) : EReal) = left m c i k := fun k =>
    ((iblk0 m c t r k).trans (congrFun (V_main_arg0 m c) _)).trans
      (congrFun (congrArg (left m c) (Fin.ext (by show 1024 * (t.val / 8) + r.val = i.val; omega))) k)
  have hy : ∀ (p : Fin 2) (k : Fin 1024), (iblk m c 1 t (ix4 p (0 : Fin 1) k s) : EReal)
      = right m c p ⟨j.val / 2048, by omega⟩ k ⟨j.val % 2048, by omega⟩ := fun p k =>
    ((iblk1 m c t p k s).trans (congrFun (V_main_arg1 m c) _)).trans
      (congrArg₂ (fun f j => right m c p f k j) (Fin.ext (by show t.val % 8 / 2 = j.val / 2048; omega))
        (Fin.ext (by show 1024 * (t.val % 2) + s.val = j.val % 2048; omega)))
  rw [at_point, pay_apply]
  refine congrArg₂ (fun x y : EReal => x + y) ?_ ?_
  · exact Finset.sum_congr rfl fun k _ => congrArg₂ (fun x y : EReal => x * y) (hx _) ((first_half _ k s).trans (hy 0 k))
  · exact Finset.sum_congr rfl fun k _ => congrArg₂ (fun x y : EReal => x * y) (hx _) ((second_half _ k s).trans (hy 1 k))

/-- The array the kernel ends with. -/
theorem final (c : Dev nD) : (dats m 0 c).arrAt 2 cfg0.N = fun i : S8192x8192.Idx => entry m c (i 0) (i 1) := by
  refine Pipeline.Dat.arrAt_eq_of_covers _ 2 _ (by decide +kernel) fun t hf y => ?_
  obtain ⟨r, s, rfl⟩ : ∃ (r s : Fin 1024), y = ix2 r s :=
    ⟨y 0, y 1, funext fun a => match a with | ⟨0, _⟩ => rfl | ⟨1, _⟩ => rfl⟩
  have hb := total m c t r s ((win0_2.blk t).view.emb (ix2 r s) 0) ((win0_2.blk t).view.emb (ix2 r s) 1)
    (by show win0_2.index t (0 : Fin 2) * 1024 + 1 * r.val = _; rw [index2]; show t.val / 8 * 1024 + 1 * r.val = _; omega)
    (by show win0_2.index t (1 : Fin 2) * 1024 + 1 * s.val = _; rw [index2]; show t.val % 8 * 1024 + 1 * s.val = _; omega)
  rw [after0_2]
  generalize outsAt0 m c t = o at hb ⊢
  exact hb

end Cert.Kernel8Ideal.Product

namespace Cert.Reference8Ideal.Product

open Cert.Reference8Ideal Cert.Reference8Ideal.Gen Cert.Reference8Ideal.Read Idealize.ShloMosaic Idealize.ShloMosaic.TcCoe
open Idealize.SL.Sem

/-- What the reference computes at `(i, j)`. -/
theorem result (x : (⟨S8192x2048, .bf16⟩ : BufTy).Contents (Elt Ideal)) (y : (⟨S2x4x1024x2048, .bf16⟩ : BufTy).Contents (Elt Ideal))
    (i j : Fin 8192) :
    (val_main_v4 (F := Ideal) x y (ix2 i j) : EReal)
      = (∑ k : Fin 1024, (fun a b => x (ix2 a b) : Fin 8192 → Fin 2048 → EReal) i ⟨k.val, by omega⟩
          * (fun a b c d => y (ix4 a b c d) : Fin 2 → Fin 4 → Fin 1024 → Fin 2048 → EReal) 0 ⟨j.val / 2048, by omega⟩ k ⟨j.val % 2048, by omega⟩)
        + ∑ k : Fin 1024, (fun a b => x (ix2 a b) : Fin 8192 → Fin 2048 → EReal) i ⟨1024 + k.val, by omega⟩
          * (fun a b c d => y (ix4 a b c d) : Fin 2 → Fin 4 → Fin 1024 → Fin 2048 → EReal) 1 ⟨j.val / 2048, by omega⟩ k ⟨j.val % 2048, by omega⟩ := by
  rw [val_main_v4_apply, Cert.Blocks.sum_two]
  refine congrArg₂ (fun x y : EReal => x + y) ?_ ?_
  · refine Finset.sum_congr rfl fun k _ => congrArg₂ (fun x y : EReal => x * y) ?_ ?_
    · rw [val_main_v0_apply]
      refine congrArg x ?_
      funext a
      match a with
      | ⟨0, _⟩ => rfl
      | ⟨1, _⟩ => rfl
    · rw [val_main_v3_apply, val_main_v2_apply, val_main_v1_apply]
      refine congrArg y ?_
      funext a
      match a with
      | ⟨0, _⟩ => apply Fin.ext; show ((k.val) * 8192 + j.val) / 8388608 = 0; omega
      | ⟨1, _⟩ => apply Fin.ext; show ((k.val) * 8192 + j.val) / 2048 % 4 = j.val / 2048; omega
      | ⟨2, _⟩ => apply Fin.ext; show ((k.val) * 8192 + j.val) / 8192 % 1024 = k.val; omega
      | ⟨3, _⟩ => apply Fin.ext; show ((k.val) * 8192 + j.val) % 2048 = j.val % 2048; omega
  · refine Finset.sum_congr rfl fun k _ => congrArg₂ (fun x y : EReal => x * y) ?_ ?_
    · rw [val_main_v0_apply]
      refine congrArg x ?_
      funext a
      match a with
      | ⟨0, _⟩ => rfl
      | ⟨1, _⟩ => rfl
    · rw [val_main_v3_apply, val_main_v2_apply, val_main_v1_apply]
      refine congrArg y ?_
      funext a
      match a with
      | ⟨0, _⟩ => apply Fin.ext; show ((1024 + k.val) * 8192 + j.val) / 8388608 = 1; omega
      | ⟨1, _⟩ => apply Fin.ext; show ((1024 + k.val) * 8192 + j.val) / 2048 % 4 = j.val / 2048; omega
      | ⟨2, _⟩ => apply Fin.ext; show ((1024 + k.val) * 8192 + j.val) / 8192 % 1024 = k.val; omega
      | ⟨3, _⟩ => apply Fin.ext; show ((1024 + k.val) * 8192 + j.val) % 2048 = j.val % 2048; omega

end Cert.Reference8Ideal.Product

end
-- ==== Proof.Product9.lean ====
/-
  A layer's result: its mixed rows times its output weight, added to the layer's input. The kernel computes a block of the sum
  a grid point; the reference multiplies once.
-/
module

public import proofs.«01_k».proof.Proof.Blocks
public import proofs.«01_k».proof.Proof.Gen.Kernel9Ideal
public import proofs.«01_k».proof.Proof.Gen.Reference9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel9Ideal.Product

open Cert.Kernel9Ideal Cert.Kernel9Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- What a grid point writes. -/
theorem block (c : Dev nD) (i : grid0.Coords) (a3 h3 a4 h4 a5 h5 a6 h6 a7 h7 x0 x1 x2) :
    out0_A_3 (F := F) c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero corner2]
  simp only [View.readAt_eq_ld, h3.read_unread, h4.read_unread, h5.read_unread, View.ld_unit_zero (S := S1024x2048) corner2, View.ld_unit_zero (S := S2048x1024) corner2, View.ld_unit_zero (S := S1024x1024) corner2]

theorem at_point (c : Dev nD) (t : Fin cfg0.N) :
    (outsAt0 m c t) = k0_pay1 (iblk m c 0 t) (iblk m c 1 t) (iblk m c 2 t) := by
  unfold outsAt0
  exact block c _ _ _ _ _ _ _ _ _ _ _ _ _ _

/-! ## The blocks of the arrays -/

theorem pt_lt (t : Fin cfg0.N) : t.val < 16 := t.isLt

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![0, t.val % 2] :=
  (by decide +kernel : ∀ t : Fin grid0.N, win0_1.index t = ![0, t.val % 2])
theorem index2 : ∀ t : Fin cfg0.N, win0_2.index t = ![t.val / 2, t.val % 2] :=
  (by decide +kernel : ∀ t : Fin grid0.N, win0_2.index t = ![t.val / 2, t.val % 2])
theorem index3 : ∀ t : Fin cfg0.N, win0_3.index t = ![t.val / 2, t.val % 2] :=
  (by decide +kernel : ∀ t : Fin grid0.N, win0_3.index t = ![t.val / 2, t.val % 2])

theorem iblk0 (c : Dev nD) (t : Fin cfg0.N) (r : Fin 1024) (k : Fin 2048) :
    iblk m c 0 t (ix2 r k)
      = V m c main_arg0 (ix2 (⟨1024 * (t.val / 2) + r.val, by have := pt_lt t; omega⟩ : Fin 8192) k) := by
  blk_simp [iblk]
  refine congrArg (V m c main_arg0) ?_
  blk_ext [index0]

theorem iblk1 (c : Dev nD) (t : Fin cfg0.N) (k : Fin 2048) (s : Fin 1024) :
    iblk m c 1 t (ix2 k s)
      = V m c main_arg1 (ix2 k (⟨1024 * (t.val % 2) + s.val, by omega⟩ : Fin 2048)) := by
  blk_simp [iblk]
  refine congrArg (V m c main_arg1) ?_
  blk_ext [index1]

theorem iblk2 (c : Dev nD) (t : Fin cfg0.N) (r s : Fin 1024) :
    iblk m c 2 t (ix2 r s)
      = V m c main_arg2 (ix2 (⟨1024 * (t.val / 2) + r.val, by have := pt_lt t; omega⟩ : Fin 8192) (⟨1024 * (t.val % 2) + s.val, by omega⟩ : Fin 2048)) := by
  blk_simp [iblk]
  refine congrArg (V m c main_arg2) ?_
  blk_ext [index2]

end

variable (m : (ℓ : Loc nD τ sig) → Buf (Elt Ideal) ℓ)

theorem pay_apply (x : Vec Ideal S1024x2048 .bf16) (y : Vec Ideal S2048x1024 .bf16) (z : Vec Ideal S1024x1024 .f32) (i j : Fin 1024) :
    (k0_pay1 x y z (ix2 i j) : EReal) = (∑ k : Fin 2048, (fun a b => x (ix2 a b) : Fin 1024 → Fin 2048 → EReal) i k
      * (fun a b => y (ix2 a b) : Fin 2048 → Fin 1024 → EReal) k j)
      + (fun a b => z (ix2 a b) : Fin 1024 → Fin 1024 → EReal) i j := by
  pointwise [k0_pay1]

/-- The arguments as tables of numbers. -/
def left (c : Dev nD) (i : Fin 8192) (k : Fin 2048) : EReal := m ((c : Thread nD τ).loc main_arg0) (ix2 i k)
def right (c : Dev nD) (i : Fin 2048) (j : Fin 2048) : EReal := m ((c : Thread nD τ).loc main_arg1) (ix2 i j)
def base (c : Dev nD) (i : Fin 8192) (j : Fin 2048) : EReal := m ((c : Thread nD τ).loc main_arg2) (ix2 i j)

/-- The result at `(i, j)`. -/
def entry (c : Dev nD) (i : Fin 8192) (j : Fin 2048) : EReal := (∑ k : Fin 2048, left m c i k * right m c k j) + base m c i j

theorem total (c : Dev nD) (t : Fin cfg0.N) (r s : Fin 1024) (i : Fin 8192) (j : Fin 2048)
    (hi : i.val = 1024 * (t.val / 2) + r.val) (hj : j.val = 1024 * (t.val % 2) + s.val) :
    ((outsAt0 m c t) (ix2 r s) : EReal) = entry m c i j := by
  have ht := pt_lt t
  rw [at_point, pay_apply]
  refine congrArg₂ (fun x y : EReal => x + y) ?_ (((iblk2 m c t r s).trans (congrFun (V_main_arg2 m c) _)).trans ?_)
  rotate_left
  · exact congrArg₂ (base m c) (Fin.ext (by show 1024 * (t.val / 2) + r.val = i.val; omega))
      (Fin.ext (by show 1024 * (t.val % 2) + s.val = j.val; omega))
  refine Finset.sum_congr rfl fun k _ => congrArg₂ (fun x y : EReal => x * y)
    (((iblk0 m c t r k).trans (congrFun (V_main_arg0 m c) _)).trans ?_) (((iblk1 m c t k s).trans (congrFun (V_main_arg1 m c) _)).trans ?_)
  · exact congrFun (congrArg (left m c) (Fin.ext (by show 1024 * (t.val / 2) + r.val = i.val; omega))) k
  · exact congrArg (right m c k) (Fin.ext (by show 1024 * (t.val % 2) + s.val = j.val; omega))

/-- The array the kernel ends with. -/
theorem final (c : Dev nD) : (dats m 0 c).arrAt 3 cfg0.N = fun i : S8192x2048.Idx => entry m c (i 0) (i 1) := by
  refine Pipeline.Dat.arrAt_eq_of_covers _ 3 _ (by decide +kernel) fun t hf y => ?_
  obtain ⟨r, s, rfl⟩ : ∃ (r s : Fin 1024), y = ix2 r s :=
    ⟨y 0, y 1, funext fun a => match a with | ⟨0, _⟩ => rfl | ⟨1, _⟩ => rfl⟩
  have hb := total m c t r s ((win0_3.blk t).view.emb (ix2 r s) 0) ((win0_3.blk t).view.emb (ix2 r s) 1)
    (by show win0_3.index t (0 : Fin 2) * 1024 + 1 * r.val = _; rw [index3]; show t.val / 2 * 1024 + 1 * r.val = _; omega)
    (by show win0_3.index t (1 : Fin 2) * 1024 + 1 * s.val = _; rw [index3]; show t.val % 2 * 1024 + 1 * s.val = _; omega)
  rw [after0_3]
  generalize outsAt0 m c t = o at hb ⊢
  exact hb

end Cert.Kernel9Ideal.Product

namespace Cert.Reference9Ideal.Product

open Cert.Reference9Ideal Cert.Reference9Ideal.Gen Cert.Reference9Ideal.Read Idealize.ShloMosaic Idealize.ShloMosaic.TcCoe
open Idealize.SL.Sem

/-- What the reference computes at `(i, j)`. -/
theorem result (x : (⟨S8192x2048, .bf16⟩ : BufTy).Contents (Elt Ideal)) (y : (⟨S2048x2048, .bf16⟩ : BufTy).Contents (Elt Ideal))
    (z : (⟨S8192x2048, .f32⟩ : BufTy).Contents (Elt Ideal)) (i : Fin 8192) (j : Fin 2048) :
    (val_main_v3 (F := Ideal) x y z (ix2 i j) : EReal)
      = (∑ k : Fin 2048, (fun a b => x (ix2 a b) : Fin 8192 → Fin 2048 → EReal) i k * (fun a b => y (ix2 a b) : Fin 2048 → Fin 2048 → EReal) k j)
        + (fun a b => z (ix2 a b) : Fin 8192 → Fin 2048 → EReal) i j := by
  rw [val_main_v3_apply, val_main_v2_apply]
  refine Eq.trans ?_ (add_comm _ _)
  refine congrArg₂ (fun x y : EReal => x + y) rfl ?_
  refine Finset.sum_congr rfl fun k _ => congrArg₂ (fun x y : EReal => x * y) ?_ ?_
  · rw [val_main_v0_apply]
    refine congrArg x ?_
    funext a
    match a with
    | ⟨0, _⟩ => rfl
    | ⟨1, _⟩ => rfl
  · rw [val_main_v1_apply]
    refine congrArg y ?_
    funext a
    match a with
    | ⟨0, _⟩ => rfl
    | ⟨1, _⟩ => rfl

end Cert.Reference9Ideal.Product

end
-- ==== Proof.Product10.lean ====
/-
  The gate's part of the attention layer's projection. The kernel multiplies by the last quarter of the weight's columns, a
  block a grid point; the reference multiplies by the whole weight and keeps the last quarter.
-/
module

public import proofs.«01_k».proof.Proof.Blocks
public import proofs.«01_k».proof.Proof.Gen.Kernel10Ideal
public import proofs.«01_k».proof.Proof.Gen.Reference10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel10Ideal.Product

open Cert.Kernel10Ideal Cert.Kernel10Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F]
variable (m : (ℓ : Loc nD τ sig) → Buf (Elt F) ℓ)

/-- What a grid point writes. -/
theorem block (c : Dev nD) (i : grid0.Coords) (a3 h3 a4 h4 a5 h5 a6 h6 x0 x1) :
    out0_A_2 (F := F) c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero corner2]
  simp only [View.readAt_eq_ld, h3.read_unread, h4.read_unread, View.ld_unit_zero (S := S1024x2048) corner2, View.ld_unit_zero (S := S2048x1024) corner2]

theorem at_point (c : Dev nD) (t : Fin cfg0.N) :
    (outsAt0 m c t) = k0_pay1 (iblk m c 0 t) (iblk m c 1 t) := by
  unfold outsAt0
  exact block c _ _ _ _ _ _ _ _ _ _ _

/-! ## The blocks of the arrays -/

theorem pt_lt (t : Fin cfg0.N) : t.val < 16 := t.isLt

theorem index0 : ∀ t : Fin cfg0.N, win0_0.index t = ![t.val / 2, 0] :=
  (by decide +kernel : ∀ t : Fin grid0.N, win0_0.index t = ![t.val / 2, 0])
theorem index1 : ∀ t : Fin cfg0.N, win0_1.index t = ![0, 6 + t.val % 2] :=
  (by decide +kernel : ∀ t : Fin grid0.N, win0_1.index t = ![0, 6 + t.val % 2])
theorem index2 : ∀ t : Fin cfg0.N, win0_2.index t = ![t.val / 2, t.val % 2] :=
  (by decide +kernel : ∀ t : Fin grid0.N, win0_2.index t = ![t.val / 2, t.val % 2])

theorem iblk0 (c : Dev nD) (t : Fin cfg0.N) (r : Fin 1024) (k : Fin 2048) :
    iblk m c 0 t (ix2 r k)
      = V m c main_arg0 (ix2 (⟨1024 * (t.val / 2) + r.val, by have := pt_lt t; omega⟩ : Fin 8192) k) := by
  blk_simp [iblk]
  refine congrArg (V m c main_arg0) ?_
  blk_ext [index0]

theorem iblk1 (c : Dev nD) (t : Fin cfg0.N) (k : Fin 2048) (s : Fin 1024) :
    iblk m c 1 t (ix2 k s)
      = V m c main_arg1 (ix2 k (⟨6144 + (1024 * (t.val % 2) + s.val), by omega⟩ : Fin 8192)) := by
  blk_simp [iblk]
  refine congrArg (V m c main_arg1) ?_
  blk_ext [index1]

end

variable (m : (ℓ : Loc nD τ sig) → Buf (Elt Ideal) ℓ)

theorem pay_apply (x : Vec Ideal S1024x2048 .bf16) (y : Vec Ideal S2048x1024 .bf16) (i j : Fin 1024) :
    (k0_pay1 x y (ix2 i j) : EReal) = ∑ k : Fin 2048, (fun a b => x (ix2 a b) : Fin 1024 → Fin 2048 → EReal) i k
      * (fun a b => y (ix2 a b) : Fin 2048 → Fin 1024 → EReal) k j := by
  pointwise [k0_pay1]

/-- The arguments as tables of numbers. -/
def left (c : Dev nD) (i : Fin 8192) (k : Fin 2048) : EReal := m ((c : Thread nD τ).loc main_arg0) (ix2 i k)
def right (c : Dev nD) (i : Fin 2048) (j : Fin 8192) : EReal := m ((c : Thread nD τ).loc main_arg1) (ix2 i j)

/-- The result at `(i, j)`. -/
def entry (c : Dev nD) (i : Fin 8192) (j : Fin 2048) : EReal := ∑ k : Fin 2048, left m c i k * right m c k ⟨6144 + j.val, by omega⟩

theorem total (c : Dev nD) (t : Fin cfg0.N) (r s : Fin 1024) (i : Fin 8192) (j : Fin 2048)
    (hi : i.val = 1024 * (t.val / 2) + r.val) (hj : j.val = 1024 * (t.val % 2) + s.val) :
    ((outsAt0 m c t) (ix2 r s) : EReal) = entry m c i j := by
  have ht := pt_lt t
  rw [at_point, pay_apply]
  refine Finset.sum_congr rfl fun k _ => congrArg₂ (fun x y : EReal => x * y)
    (((iblk0 m c t r k).trans (congrFun (V_main_arg0 m c) _)).trans ?_) (((iblk1 m c t k s).trans (congrFun (V_main_arg1 m c) _)).trans ?_)
  · exact congrFun (congrArg (left m c) (Fin.ext (by show 1024 * (t.val / 2) + r.val = i.val; omega))) k
  · exact congrArg (right m c k) (Fin.ext (by show 6144 + (1024 * (t.val % 2) + s.val) = 6144 + j.val; omega))

/-- The array the kernel ends with. -/
theorem final (c : Dev nD) : (dats m 0 c).arrAt 2 cfg0.N = fun i : S8192x2048.Idx => entry m c (i 0) (i 1) := by
  refine Pipeline.Dat.arrAt_eq_of_covers _ 2 _ (by decide +kernel) fun t hf y => ?_
  obtain ⟨r, s, rfl⟩ : ∃ (r s : Fin 1024), y = ix2 r s :=
    ⟨y 0, y 1, funext fun a => match a with | ⟨0, _⟩ => rfl | ⟨1, _⟩ => rfl⟩
  have hb := total m c t r s ((win0_2.blk t).view.emb (ix2 r s) 0) ((win0_2.blk t).view.emb (ix2 r s) 1)
    (by show win0_2.index t (0 : Fin 2) * 1024 + 1 * r.val = _; rw [index2]; show t.val / 2 * 1024 + 1 * r.val = _; omega)
    (by show win0_2.index t (1 : Fin 2) * 1024 + 1 * s.val = _; rw [index2]; show t.val % 2 * 1024 + 1 * s.val = _; omega)
  rw [after0_2]
  generalize outsAt0 m c t = o at hb ⊢
  exact hb

end Cert.Kernel10Ideal.Product

namespace Cert.Reference10Ideal.Product

open Cert.Reference10Ideal Cert.Reference10Ideal.Gen Cert.Reference10Ideal.Read Idealize.ShloMosaic Idealize.ShloMosaic.TcCoe
open Idealize.SL.Sem

/-- What the reference computes at `(i, j)`. -/
theorem result (x : (⟨S8192x2048, .bf16⟩ : BufTy).Contents (Elt Ideal)) (y : (⟨S2048x8192, .bf16⟩ : BufTy).Contents (Elt Ideal))
    (i : Fin 8192) (j : Fin 2048) :
    (val_main_v3 (F := Ideal) x y (ix2 i j) : EReal)
      = ∑ k : Fin 2048, (fun a b => x (ix2 a b) : Fin 8192 → Fin 2048 → EReal) i k
          * (fun a b => y (ix2 a b) : Fin 2048 → Fin 8192 → EReal) k ⟨6144 + j.val, by omega⟩ := by
  rw [val_main_v3_apply, val_main_v2_apply]
  refine Finset.sum_congr rfl fun k _ => congrArg₂ (fun x y : EReal => x * y) ?_ ?_
  · rw [val_main_v0_apply]
    refine congrArg x ?_
    funext a
    match a with
    | ⟨0, _⟩ => rfl
    | ⟨1, _⟩ => rfl
  · rw [val_main_v1_apply]
    refine congrArg y ?_
    funext a
    match a with
    | ⟨0, _⟩ => rfl
    | ⟨1, _⟩ => rfl

end Cert.Reference10Ideal.Product

end
-- ==== Proof.Calls.lean ====
/-
  The claims of the calls that are a matrix product. The frames are the generated ones; a reference is host lines only; and the kernel's result is the reference's, entry by entry.
-/
module

public import proofs.«01_k».proof.Defs
public import proofs.«01_k».proof.Proof.Product2
public import proofs.«01_k».proof.Proof.Gen.Kernel2.Frame
public import proofs.«01_k».proof.Proof.Product3
public import proofs.«01_k».proof.Proof.Gen.Kernel3.Frame
public import proofs.«01_k».proof.Proof.Product4
public import proofs.«01_k».proof.Proof.Gen.Kernel4.Frame
public import proofs.«01_k».proof.Proof.Product5
public import proofs.«01_k».proof.Proof.Gen.Kernel5.Frame
public import proofs.«01_k».proof.Proof.Product6
public import proofs.«01_k».proof.Proof.Gen.Kernel6.Frame
public import proofs.«01_k».proof.Proof.Product7
public import proofs.«01_k».proof.Proof.Gen.Kernel7.Frame
public import proofs.«01_k».proof.Proof.Product8
public import proofs.«01_k».proof.Proof.Gen.Kernel8.Frame
public import proofs.«01_k».proof.Proof.Product9
public import proofs.«01_k».proof.Proof.Gen.Kernel9.Frame
public import proofs.«01_k».proof.Proof.Product10
public import proofs.«01_k».proof.Proof.Gen.Kernel10.Frame

@[expose] public section

set_option maxRecDepth 16384

noncomputable section

namespace Cert.Calls

open Idealize.ShloMosaic Idealize.SL.Sem

/-! ## Call 2: the gradient of an output weight -/

theorem printed_frame2 : Cert.quiescent_Kernel2 (hKernel2 := Cert.Kernel2.Gen.facts) := fun m g _ =>
  Cert.Kernel2.Gen.frame (F := Bits) m g

theorem exact_frame2 : Cert.quiescent_Kernel2Ideal (hKernel2Ideal := Cert.Kernel2Ideal.Gen.facts) := fun m g _ =>
  Cert.Kernel2Ideal.Gen.frame (F := Ideal) m g

theorem plain_frame2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem same2 : Cert.algebraic_Kernel2Ideal_Reference2Ideal (hKernel2Ideal := Cert.Kernel2Ideal.Gen.facts)
    (hReference2Ideal := Cert.Reference2Ideal.Gen.facts) := fun m g m' g' _ hag => by
  refine ⟨fun c => Cert.Kernel2Ideal.Value.G2 m c,
    (θ_run _ _ _).mono (fun r h c => ⟨(h c).1, (h c).2⟩) (Cert.Kernel2Ideal.Value.run m g), ?_⟩
  refine (θ_run _ _ _).mono (fun r h c => ⟨(h c).1.trans ((Cert.Reference2Ideal.Read.val_main_v4_eq _ _).trans ?_), (h c).2⟩) (Cert.Reference2Ideal.Value.run m' g')
  · obtain ⟨e0, e1⟩ := hag c
    rw [e0, e1]
    funext i
    obtain ⟨a, b, rfl⟩ : ∃ (a : Fin 2048) (b : Fin 2048), i = ix2 a b :=
      ⟨i 0, i 1, funext fun a => match a with | ⟨0, _⟩ => rfl | ⟨1, _⟩ => rfl⟩
    exact (Cert.Reference2Ideal.Product.result _ _ a b).trans (Cert.Kernel2Ideal.Product.result m c a b).symm

/-! ## Call 3: the gradient of a layer's mixed rows -/

theorem printed_frame3 : Cert.quiescent_Kernel3 (hKernel3 := Cert.Kernel3.Gen.facts) := fun m g _ =>
  Cert.Kernel3.Gen.frame (F := Bits) m g

theorem exact_frame3 : Cert.quiescent_Kernel3Ideal (hKernel3Ideal := Cert.Kernel3Ideal.Gen.facts) := fun m g _ =>
  Cert.Kernel3Ideal.Gen.frame (F := Ideal) m g

theorem plain_frame3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem same3 : Cert.algebraic_Kernel3Ideal_Reference3Ideal (hKernel3Ideal := Cert.Kernel3Ideal.Gen.facts)
    (hReference3Ideal := Cert.Reference3Ideal.Gen.facts) := fun m g m' g' _ hag => by
  refine ⟨fun c => fun i : Cert.Kernel3Ideal.S8192x2048.Idx => Cert.Kernel3Ideal.Product.entry m c (i 0) (i 1),
    (θ_run _ _ _).mono (fun r h c => ⟨(h c).1.trans (Cert.Kernel3Ideal.Product.final m c), (h c).2⟩) (Cert.Kernel3Ideal.Value.run_blocks m g), ?_⟩
  refine (θ_run _ _ _).mono (fun r h c => ⟨(h c).1.trans ((Cert.Reference3Ideal.Read.val_main_v3_eq _ _).trans ?_), (h c).2⟩) (Cert.Reference3Ideal.Value.run m' g')
  · obtain ⟨e0, e1⟩ := hag c
    rw [e0, e1]
    funext i
    obtain ⟨a, b, rfl⟩ : ∃ (a : Fin 8192) (b : Fin 2048), i = ix2 a b :=
      ⟨i 0, i 1, funext fun a => match a with | ⟨0, _⟩ => rfl | ⟨1, _⟩ => rfl⟩
    exact Cert.Reference3Ideal.Product.result _ _ a b

/-! ## Call 4: the gradient of the recurrent layer's input -/

theorem printed_frame4 : Cert.quiescent_Kernel4 (hKernel4 := Cert.Kernel4.Gen.facts) := fun m g _ =>
  Cert.Kernel4.Gen.frame (F := Bits) m g

theorem exact_frame4 : Cert.quiescent_Kernel4Ideal (hKernel4Ideal := Cert.Kernel4Ideal.Gen.facts) := fun m g _ =>
  Cert.Kernel4Ideal.Gen.frame (F := Ideal) m g

theorem plain_frame4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

theorem same4 : Cert.algebraic_Kernel4Ideal_Reference4Ideal (hKernel4Ideal := Cert.Kernel4Ideal.Gen.facts)
    (hReference4Ideal := Cert.Reference4Ideal.Gen.facts) := fun m g m' g' _ hag => by
  refine ⟨fun c => fun i : Cert.Kernel4Ideal.S8192x2048.Idx => Cert.Kernel4Ideal.Product.entry m c (i 0) (i 1),
    (θ_run _ _ _).mono (fun r h c => ⟨(h c).1.trans (Cert.Kernel4Ideal.Product.final m c), (h c).2⟩) (Cert.Kernel4Ideal.Value.run_blocks m g), ?_⟩
  refine (θ_run _ _ _).mono (fun r h c => ⟨(h c).1.trans ((Cert.Reference4Ideal.Read.val_main_v10_eq _ _).trans ?_), (h c).2⟩) (Cert.Reference4Ideal.Value.run m' g')
  · obtain ⟨e0, e1⟩ := hag c
    rw [e0, e1]
    funext i
    obtain ⟨a, b, rfl⟩ : ∃ (a : Fin 8192) (b : Fin 2048), i = ix2 a b :=
      ⟨i 0, i 1, funext fun a => match a with | ⟨0, _⟩ => rfl | ⟨1, _⟩ => rfl⟩
    exact Cert.Reference4Ideal.Product.result _ _ a b

/-! ## Call 5: the gradient of the recurrent layer's projection weight -/

theorem printed_frame5 : Cert.quiescent_Kernel5 (hKernel5 := Cert.Kernel5.Gen.facts) := fun m g _ =>
  Cert.Kernel5.Gen.frame (F := Bits) m g

theorem exact_frame5 : Cert.quiescent_Kernel5Ideal (hKernel5Ideal := Cert.Kernel5Ideal.Gen.facts) := fun m g _ =>
  Cert.Kernel5Ideal.Gen.frame (F := Ideal) m g

theorem plain_frame5 : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

theorem same5 : Cert.algebraic_Kernel5Ideal_Reference5Ideal (hKernel5Ideal := Cert.Kernel5Ideal.Gen.facts)
    (hReference5Ideal := Cert.Reference5Ideal.Gen.facts) := fun m g m' g' _ hag => by
  refine ⟨fun c => fun i : Cert.Kernel5Ideal.S2x4x1024x2048.Idx => Cert.Kernel5Ideal.Product.entry m c (i 0) (i 1) (i 2) (i 3),
    (θ_run _ _ _).mono (fun r h c => ⟨(h c).1.trans (Cert.Kernel5Ideal.Product.final m c), (h c).2⟩) (Cert.Kernel5Ideal.Value.run_blocks m g), ?_⟩
  refine (θ_run _ _ _).mono (fun r h c => ⟨(h c).1.trans ((Cert.Reference5Ideal.Read.val_main_v13_eq _ _).trans ?_), (h c).2⟩) (Cert.Reference5Ideal.Value.run m' g')
  · obtain ⟨e0, e1⟩ := hag c
    rw [e0, e1]
    funext i
    obtain ⟨p, f, a, b, rfl⟩ : ∃ (p : Fin 2) (f : Fin 4) (a : Fin 1024) (b : Fin 2048), i = ix4 p f a b :=
      ⟨i 0, i 1, i 2, i 3, funext fun a => match a with | ⟨0, _⟩ => rfl | ⟨1, _⟩ => rfl | ⟨2, _⟩ => rfl | ⟨3, _⟩ => rfl⟩
    exact Cert.Reference5Ideal.Product.result _ _ p f a b

/-! ## Call 6: the gradient of the attention layer's projection weight -/

theorem printed_frame6 : Cert.quiescent_Kernel6 (hKernel6 := Cert.Kernel6.Gen.facts) := fun m g _ =>
  Cert.Kernel6.Gen.frame (F := Bits) m g

theorem exact_frame6 : Cert.quiescent_Kernel6Ideal (hKernel6Ideal := Cert.Kernel6Ideal.Gen.facts) := fun m g _ =>
  Cert.Kernel6Ideal.Gen.frame (F := Ideal) m g

theorem plain_frame6 : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

theorem same6 : Cert.algebraic_Kernel6Ideal_Reference6Ideal (hKernel6Ideal := Cert.Kernel6Ideal.Gen.facts)
    (hReference6Ideal := Cert.Reference6Ideal.Gen.facts) := fun m g m' g' _ hag => by
  refine ⟨fun c => fun i : Cert.Kernel6Ideal.S2048x8192.Idx => Cert.Kernel6Ideal.Product.entry m c (i 0) (i 1),
    (θ_run _ _ _).mono (fun r h c => ⟨(h c).1.trans (Cert.Kernel6Ideal.Product.final m c), (h c).2⟩) (Cert.Kernel6Ideal.Value.run_blocks m g), ?_⟩
  refine (θ_run _ _ _).mono (fun r h c => ⟨(h c).1.trans ((Cert.Reference6Ideal.Read.val_main_v9_eq _ _).trans ?_), (h c).2⟩) (Cert.Reference6Ideal.Value.run m' g')
  · obtain ⟨e0, e1⟩ := hag c
    rw [e0, e1]
    funext i
    obtain ⟨a, b, rfl⟩ : ∃ (a : Fin 2048) (b : Fin 8192), i = ix2 a b :=
      ⟨i 0, i 1, funext fun a => match a with | ⟨0, _⟩ => rfl | ⟨1, _⟩ => rfl⟩
    exact Cert.Reference6Ideal.Product.result _ _ a b

/-! ## Call 7: the gradient of the attention layer's input -/

theorem printed_frame7 : Cert.quiescent_Kernel7 (hKernel7 := Cert.Kernel7.Gen.facts) := fun m g _ =>
  Cert.Kernel7.Gen.frame (F := Bits) m g

theorem exact_frame7 : Cert.quiescent_Kernel7Ideal (hKernel7Ideal := Cert.Kernel7Ideal.Gen.facts) := fun m g _ =>
  Cert.Kernel7Ideal.Gen.frame (F := Ideal) m g

theorem plain_frame7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

theorem same7 : Cert.algebraic_Kernel7Ideal_Reference7Ideal (hKernel7Ideal := Cert.Kernel7Ideal.Gen.facts)
    (hReference7Ideal := Cert.Reference7Ideal.Gen.facts) := fun m g m' g' _ hag => by
  refine ⟨fun c => fun i : Cert.Kernel7Ideal.S8192x2048.Idx => Cert.Kernel7Ideal.Product.entry m c (i 0) (i 1),
    (θ_run _ _ _).mono (fun r h c => ⟨(h c).1.trans (Cert.Kernel7Ideal.Product.final m c), (h c).2⟩) (Cert.Kernel7Ideal.Value.run_blocks m g), ?_⟩
  refine (θ_run _ _ _).mono (fun r h c => ⟨(h c).1.trans ((Cert.Reference7Ideal.Read.val_main_v9_eq _ _ _).trans ?_), (h c).2⟩) (Cert.Reference7Ideal.Value.run m' g')
  · obtain ⟨e0, e1, e2⟩ := hag c
    rw [e0, e1, e2]
    funext i
    obtain ⟨a, b, rfl⟩ : ∃ (a : Fin 8192) (b : Fin 2048), i = ix2 a b :=
      ⟨i 0, i 1, funext fun a => match a with | ⟨0, _⟩ => rfl | ⟨1, _⟩ => rfl⟩
    exact Cert.Reference7Ideal.Product.result _ _ _ a b

/-! ## Call 8: the recurrent layer's projection -/

theorem printed_frame8 : Cert.quiescent_Kernel8 (hKernel8 := Cert.Kernel8.Gen.facts) := fun m g _ =>
  Cert.Kernel8.Gen.frame (F := Bits) m g

theorem exact_frame8 : Cert.quiescent_Kernel8Ideal (hKernel8Ideal := Cert.Kernel8Ideal.Gen.facts) := fun m g _ =>
  Cert.Kernel8Ideal.Gen.frame (F := Ideal) m g

theorem plain_frame8 : Cert.quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run m g)

theorem same8 : Cert.algebraic_Kernel8Ideal_Reference8Ideal (hKernel8Ideal := Cert.Kernel8Ideal.Gen.facts)
    (hReference8Ideal := Cert.Reference8Ideal.Gen.facts) := fun m g m' g' _ hag => by
  refine ⟨fun c => fun i : Cert.Kernel8Ideal.S8192x8192.Idx => Cert.Kernel8Ideal.Product.entry m c (i 0) (i 1),
    (θ_run _ _ _).mono (fun r h c => ⟨(h c).1.trans (Cert.Kernel8Ideal.Product.final m c), (h c).2⟩) (Cert.Kernel8Ideal.Value.run_blocks m g), ?_⟩
  refine (θ_run _ _ _).mono (fun r h c => ⟨(h c).1.trans ((Cert.Reference8Ideal.Read.val_main_v4_eq _ _).trans ?_), (h c).2⟩) (Cert.Reference8Ideal.Value.run m' g')
  · obtain ⟨e0, e1⟩ := hag c
    rw [e0, e1]
    funext i
    obtain ⟨a, b, rfl⟩ : ∃ (a : Fin 8192) (b : Fin 8192), i = ix2 a b :=
      ⟨i 0, i 1, funext fun a => match a with | ⟨0, _⟩ => rfl | ⟨1, _⟩ => rfl⟩
    exact Cert.Reference8Ideal.Product.result _ _ a b

/-! ## Call 9: a layer's result -/

theorem printed_frame9 : Cert.quiescent_Kernel9 (hKernel9 := Cert.Kernel9.Gen.facts) := fun m g _ =>
  Cert.Kernel9.Gen.frame (F := Bits) m g

theorem exact_frame9 : Cert.quiescent_Kernel9Ideal (hKernel9Ideal := Cert.Kernel9Ideal.Gen.facts) := fun m g _ =>
  Cert.Kernel9Ideal.Gen.frame (F := Ideal) m g

theorem plain_frame9 : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run m g)

theorem same9 : Cert.algebraic_Kernel9Ideal_Reference9Ideal (hKernel9Ideal := Cert.Kernel9Ideal.Gen.facts)
    (hReference9Ideal := Cert.Reference9Ideal.Gen.facts) := fun m g m' g' _ hag => by
  refine ⟨fun c => fun i : Cert.Kernel9Ideal.S8192x2048.Idx => Cert.Kernel9Ideal.Product.entry m c (i 0) (i 1),
    (θ_run _ _ _).mono (fun r h c => ⟨(h c).1.trans (Cert.Kernel9Ideal.Product.final m c), (h c).2⟩) (Cert.Kernel9Ideal.Value.run_blocks m g), ?_⟩
  refine (θ_run _ _ _).mono (fun r h c => ⟨(h c).1.trans ((Cert.Reference9Ideal.Read.val_main_v3_eq _ _ _).trans ?_), (h c).2⟩) (Cert.Reference9Ideal.Value.run m' g')
  · obtain ⟨e0, e1, e2⟩ := hag c
    rw [e0, e1, e2]
    funext i
    obtain ⟨a, b, rfl⟩ : ∃ (a : Fin 8192) (b : Fin 2048), i = ix2 a b :=
      ⟨i 0, i 1, funext fun a => match a with | ⟨0, _⟩ => rfl | ⟨1, _⟩ => rfl⟩
    exact Cert.Reference9Ideal.Product.result _ _ _ a b

/-! ## Call 10: the gate's part of the attention layer's projection -/

theorem printed_frame10 : Cert.quiescent_Kernel10 (hKernel10 := Cert.Kernel10.Gen.facts) := fun m g _ =>
  Cert.Kernel10.Gen.frame (F := Bits) m g

theorem exact_frame10 : Cert.quiescent_Kernel10Ideal (hKernel10Ideal := Cert.Kernel10Ideal.Gen.facts) := fun m g _ =>
  Cert.Kernel10Ideal.Gen.frame (F := Ideal) m g

theorem plain_frame10 : Cert.quiescent_Reference10Ideal (hReference10Ideal := Cert.Reference10Ideal.Gen.facts) := fun m g _ =>
  (θ_run _ _ _).mono (fun r h => ⟨fun c => (h c).2, sem_eq_zero_of_no_sems (by decide) r.2⟩) (Cert.Reference10Ideal.Value.run m g)

theorem same10 : Cert.algebraic_Kernel10Ideal_Reference10Ideal (hKernel10Ideal := Cert.Kernel10Ideal.Gen.facts)
    (hReference10Ideal := Cert.Reference10Ideal.Gen.facts) := fun m g m' g' _ hag => by
  refine ⟨fun c => fun i : Cert.Kernel10Ideal.S8192x2048.Idx => Cert.Kernel10Ideal.Product.entry m c (i 0) (i 1),
    (θ_run _ _ _).mono (fun r h c => ⟨(h c).1.trans (Cert.Kernel10Ideal.Product.final m c), (h c).2⟩) (Cert.Kernel10Ideal.Value.run_blocks m g), ?_⟩
  refine (θ_run _ _ _).mono (fun r h c => ⟨(h c).1.trans ((Cert.Reference10Ideal.Read.val_main_v3_eq _ _).trans ?_), (h c).2⟩) (Cert.Reference10Ideal.Value.run m' g')
  · obtain ⟨e0, e1⟩ := hag c
    rw [e0, e1]
    funext i
    obtain ⟨a, b, rfl⟩ : ∃ (a : Fin 8192) (b : Fin 2048), i = ix2 a b :=
      ⟨i 0, i 1, funext fun a => match a with | ⟨0, _⟩ => rfl | ⟨1, _⟩ => rfl⟩
    exact Cert.Reference10Ideal.Product.result _ _ a b

end Cert.Calls

end
-- ==== Proof.Model.lean ====
/-
  The gradient of one head of the forgetting attention over the real numbers, and the sums in which a program may
  gather it. `Q`, `K`, `V` are the head's rows, `G` the gradient of its output, `C` the keys' decays.
-/
module

public import Idealize.ShloMosaic.PureOps.Ideal
public import Idealize.ShloMosaic.PureOps.Ideal.Laws

@[expose] public section

noncomputable section

namespace Cert.Model

open Finset

/-- The extended real of a finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over `Fin n` whose terms are real is the real sum over the numbers below `n`. -/
theorem sum_fin_coe {n : ℕ} {g : Fin n → EReal} (f : ℕ → ℝ) (h : ∀ k : Fin n, g k = (f k.val : EReal)) :
    ∑ k, g k = ((∑ k ∈ range n, f k : ℝ) : EReal) := by
  rw [sum_range, coe_sum]
  exact sum_congr rfl fun k _ => h k

/-- The numbers of one head. -/
structure Head where
  Q : ℕ → ℕ → ℝ
  K : ℕ → ℕ → ℝ
  V : ℕ → ℕ → ℝ
  G : ℕ → ℕ → ℝ
  C : ℕ → ℝ
  sc : ℝ

namespace Head

variable (A : Head)

/-- The logit of query `i` and key `j`, without the query's own decay. -/
def z (i j : ℕ) : ℝ := (∑ d ∈ range 128, A.Q i d * A.K j d) * A.sc - A.C j

/-- The softmax's numerator, zero above the diagonal. -/
def w (i j : ℕ) : ℝ := if j ≤ i then Real.exp (A.z i j) else 0

/-- The softmax's denominator. -/
def L (i : ℕ) : ℝ := ∑ j ∈ range 8192, A.w i j

/-- The softmax. -/
def P (i j : ℕ) : ℝ := A.w i j / A.L i

/-- The gradient of the softmax. -/
def dP (i j : ℕ) : ℝ := ∑ d ∈ range 128, A.G i d * A.V j d

/-- The row's sum of the softmax times its gradient. -/
def Dl (i : ℕ) : ℝ := ∑ j ∈ range 8192, A.P i j * A.dP i j

/-- The gradient of the logits. -/
def D (i j : ℕ) : ℝ := A.P i j * (A.dP i j - A.Dl i)

theorem w_nonneg (i j : ℕ) : 0 ≤ A.w i j := by
  unfold w; split
  · exact (Real.exp_pos _).le
  · exact le_rfl

theorem L_pos {i : ℕ} (hi : i < 8192) : 0 < A.L i := by
  unfold L
  refine sum_pos' (fun j _ => A.w_nonneg i j) ⟨i, mem_range.2 hi, ?_⟩
  unfold w; rw [if_pos le_rfl]; exact Real.exp_pos _

theorem P_above {i j : ℕ} (h : i < j) : A.P i j = 0 := by
  unfold P w; rw [if_neg (by omega), zero_div]

theorem D_above {i j : ℕ} (h : i < j) : A.D i j = 0 := by
  unfold D; rw [A.P_above h, zero_mul]

/-- The row's sum is also the product of the output with its gradient. -/
theorem Dl_eq (i : ℕ) : A.Dl i = ∑ d ∈ range 128, A.G i d * ∑ j ∈ range 8192, A.P i j * A.V j d := by
  unfold Dl dP
  simp only [mul_sum]
  rw [sum_comm]
  exact sum_congr rfl fun d _ => sum_congr rfl fun j _ => by ring

/-- The keys after the query contribute nothing: a row's sum stops at any bound past its own number. -/
theorem sum_D_of_le {i a b : ℕ} (hi : i < a) (hab : a ≤ b) (f : ℕ → ℝ) :
    ∑ y ∈ range a, f y * A.D i y = ∑ y ∈ range b, f y * A.D i y := by
  refine sum_subset (range_subset_range.2 hab) fun y _ hy => ?_
  rw [A.D_above (by have := mt mem_range.2 hy; omega), mul_zero]

/-- The queries before the key contribute nothing. -/
theorem sum_Ico_D {y a : ℕ} (ha : a ≤ y) (hy : a ≤ 8192) (f : ℕ → ℝ) :
    ∑ i ∈ Ico a 8192, A.D i y * f i = ∑ i ∈ range 8192, A.D i y * f i := by
  rw [range_eq_Ico]
  refine sum_subset (Ico_subset_Ico_left (Nat.zero_le _)) fun i hi hn => ?_
  rw [mem_Ico] at hi hn
  rw [A.D_above (by omega), zero_mul]

theorem sum_Ico_P {y a : ℕ} (ha : a ≤ y) (f : ℕ → ℝ) :
    ∑ i ∈ Ico a 8192, A.P i y * f i = ∑ i ∈ range 8192, A.P i y * f i := by
  rw [range_eq_Ico]
  refine sum_subset (Ico_subset_Ico_left (Nat.zero_le _)) fun i hi hn => ?_
  rw [mem_Ico] at hi hn
  rw [A.P_above (by omega), zero_mul]

/-- A row's softmax from the base-two logarithm of its denominator, however the row was shifted: with the shift `M`
    and the shifted denominator `l`, the power of two of the logit in base two less that logarithm. -/
theorem pow_eq_P {i j : ℕ} (hji : j ≤ i) (hi : i < 8192) (M l : ℝ) (hl : l = A.L i * Real.exp (-M)) :
    Real.rpow 2 (A.z i j / Real.log 2 - (M + Real.log l) / Real.log 2) = A.P i j := by
  have h2 : Real.log 2 ≠ 0 := (Real.log_pos (by norm_num)).ne'
  have hL := A.L_pos hi
  show (2 : ℝ) ^ (_ : ℝ) = _
  rw [Real.rpow_def_of_pos (by norm_num), ← sub_div, mul_div_cancel₀ _ h2, hl, Real.log_mul hL.ne' (Real.exp_pos _).ne',
    Real.log_exp, show A.z i j - (M + (Real.log (A.L i) + -M)) = A.z i j - Real.log (A.L i) by ring, Real.exp_sub,
    Real.exp_log hL]
  unfold P w
  rw [if_pos hji]

end Head

end Cert.Model

end
-- ==== Proof.Soft.lean ====
/- One head's numbers out of the arrays, and a masked row of logits: its maximum is a number, its exponentials are the
   softmax's numerators times one common factor. -/
module

public import proofs.«01_k».proof.Proof.Model
public import Idealize.ShloMosaic.PureOps.Ideal
public import Idealize.ShloMosaic.PureOps.Ideal.Laws

@[expose] public section

set_option maxRecDepth 16384

noncomputable section

namespace Cert.Model

open Finset Idealize.ShloMosaic

/-- Every entry is a number. -/
def Finite {a b : ℕ} (x : Fin a → Fin b → EReal) : Prop := ∀ i j, x i j = ((x i j).toReal : EReal)

/-- An entry by its two numbers. -/
def entry {a b : ℕ} [NeZero a] [NeZero b] (x : Fin a → Fin b → EReal) (i j : ℕ) : ℝ := (x (Fin.ofNat a i) (Fin.ofNat b j)).toReal

theorem Finite.entry_eq {a b : ℕ} [NeZero a] [NeZero b] {x : Fin a → Fin b → EReal} (hx : Finite x) (i : Fin a) (j : Fin b)
    {i' j' : ℕ} (hi : i.val = i') (hj : j.val = j') : x i j = (entry x i' j' : EReal) := by
  subst hi hj
  have e1 : Fin.ofNat a i.val = i := Fin.ext (Nat.mod_eq_of_lt i.isLt)
  have e2 : Fin.ofNat b j.val = j := Fin.ext (Nat.mod_eq_of_lt j.isLt)
  unfold entry
  rw [e1, e2]
  exact hx i j

/-- The literal that scales the logits. -/
abbrev scaleE : EReal := Ideal.ofBits .f32 0x3DB504F3#32

theorem scale_real : ∃ r : ℝ, scaleE = (r : EReal) := by
  simp [scaleE, Ideal.ofBits, Ideal.ieee]
  exact ⟨_, rfl⟩

theorem scale_eq : scaleE = (scaleE.toReal : EReal) := by
  obtain ⟨r, hr⟩ := scale_real
  rw [hr, EReal.toReal_coe]

theorem two_eq : Ideal.ofBits .f32 0x40000000#32 = ((2 : ℝ) : EReal) := by
  simp [Ideal.ofBits, Ideal.ieee]
  rw [← EReal.coe_mul]; norm_num

theorem bottom_eq : Ideal.ofBits .f32 0xFF800000#32 = (⊥ : EReal) := by
  simp [Ideal.ofBits, Ideal.ieee]

theorem log_two : Ideal.log (Ideal.ofBits .f32 0x40000000#32) = ((Real.log 2 : ℝ) : EReal) := by
  rw [two_eq, Ideal.log_coe, if_neg (by norm_num)]

/-- The quotient of two numbers is a number. -/
theorem div_real (a : ℝ) {b : ℝ} (hb : b ≠ 0) : Ideal.div (a : EReal) (b : EReal) = ((a / b : ℝ) : EReal) := by
  rw [Ideal.div_coe hb, ← EReal.coe_mul, mul_one_div]

variable (q k v g : Fin 8192 → Fin 2048 → EReal) (c : Fin 16 → Fin 8192 → EReal)

/-- Head `h` of the arrays: 128 columns of each, and one row of the biases. -/
def headOf (h : ℕ) : Head where
  Q i d := entry q i (h * 128 + d)
  K i d := entry k i (h * 128 + d)
  V i d := entry v i (h * 128 + d)
  G i d := entry g i (h * 128 + d)
  C j := entry c h j
  sc := scaleE.toReal

variable {q k v g c}

theorem dot_real (hq : Finite q) (hk : Finite k) (h : Fin 16) (i j : Fin 8192) :
    (∑ x : Fin 128, q i ⟨h.val * 128 + x.val, by omega⟩ * k j ⟨h.val * 128 + x.val, by omega⟩)
      = ((∑ d ∈ range 128, (headOf q k v g c h.val).Q i.val d * (headOf q k v g c h.val).K j.val d : ℝ) : EReal) :=
  sum_fin_coe (fun d => (headOf q k v g c h.val).Q i.val d * (headOf q k v g c h.val).K j.val d) fun x => by
    rw [hq.entry_eq i ⟨h.val * 128 + x.val, by omega⟩ rfl rfl, hk.entry_eq j ⟨h.val * 128 + x.val, by omega⟩ rfl rfl, ← EReal.coe_mul]
    rfl

/-- A row of masked logits, moved by a number: its maximum is a number and its exponentials are the numerators, scaled. -/
theorem soft_row (A : Head) (i : Fin 8192) (b : ℝ) (x : Fin 8192 → EReal)
    (hx : ∀ j : Fin 8192, x j = if j.val ≤ i.val then ((A.z i.val j.val + b : ℝ) : EReal) else ⊥) :
    ∃ M : ℝ, univ.fold max ⊥ x = (M : EReal) ∧ (∀ j : Fin 8192, Ideal.exp (x j - (M : EReal)) = ((A.w i.val j.val * Real.exp (b - M) : ℝ) : EReal))
      ∧ ∑ j : Fin 8192, Ideal.exp (x j - (M : EReal)) = ((A.L i.val * Real.exp (b - M) : ℝ) : EReal) := by
  have hs : univ.fold max ⊥ x = univ.sup x := rfl
  have hb : univ.sup x ≠ ⊥ := by
    intro e
    have := le_sup (f := x) (mem_univ i)
    rw [e, hx i, if_pos le_rfl, le_bot_iff] at this
    exact EReal.coe_ne_bot _ this
  have ht : univ.sup x ≠ ⊤ := by
    refine ne_of_lt ((Finset.sup_lt_iff (bot_lt_top)).2 fun j _ => ?_)
    rw [hx j]
    split
    · exact EReal.coe_lt_top _
    · exact bot_lt_top
  refine ⟨(univ.sup x).toReal, by rw [hs, EReal.coe_toReal ht hb], ?_⟩
  generalize (univ.sup x).toReal = M
  have he : ∀ j : Fin 8192, Ideal.exp (x j - (M : EReal)) = ((A.w i.val j.val * Real.exp (b - M) : ℝ) : EReal) := fun j => by
    rw [hx j]
    unfold Head.w
    split
    · rw [← EReal.coe_sub, Ideal.exp_coe, ← Real.exp_add]
      congr 2; ring
    · rw [EReal.bot_sub, Ideal.exp_bot, zero_mul, EReal.coe_zero]
  refine ⟨he, ?_⟩
  rw [sum_fin_coe (fun j => A.w i.val j * Real.exp (b - M)) he, ← sum_mul]
  rfl

end Cert.Model
-- ==== Proof.Product18.lean ====
/-
  The query, key and value parts of the attention layer's projection, side by side. The kernel forms a block a grid point and
  multiplies the blocks of the queries by one number; the reference scales the queries after the product, takes them to base two
  and puts them beside the keys and the values.
-/
module

public import proofs.«01_k».proof.Proof.Blocks
public import proofs.«01_k».proof.Proof.Soft
public import proofs.«01_k».proof.Proof.Gen.Kernel18Ideal
public import proofs.«01_k».proof.Proof.Gen.Reference18Ideal
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Kernel18Ideal.Product

open Cert.Kernel18Ideal Cert.Kernel18Ideal.Gen Idealize.ShloMosaic Idealize.ShloMosaic.TcCoe Idealize.SL.Sem

theorem corner2 : (![0, 0] : Fin 2 → Nat) = fun _ => 0 := funext fun a => by fin_cases a <;> rfl
theorem corner3 : (![0, 0, 0] : Fin 3 → Nat) = fun _ => 0 := funext fun a => by fin_cases a <;> rfl
theorem corner4 : (![0, 0, 0, 0] : Fin 4 → Nat) = fun _ => 0 := funext fun a => by fin_cases a <;> rfl

section
variable {F : FTy → Type} [FloatOps F] [Named F]
variable (m : (ℓ : Loc nD τ sig) → Buf (Elt F) ℓ)

/-- What a grid point writes. -/
theorem block (c : Dev nD) (i : grid0.Coords) (a3 h3 a4 h4 a5 h5 a6 h6 x0 x1) :
    out0_A_2 (F := F) c i a3 h3 a4 h4 a5 h5 a6 h6 x0 x1 = k0_pay1 i x0 x1 := by
  unfold out0_A_2
  rw [View.read_writes_eq_canon _ _ _ (cover0_A_2 c i a3 h3 a4 h4 a5 h5 a6 h6 x0 x1)]
  unfold kernelRun0_A
  dsimp only
  rw [View.canon_unit_zero corner2]
  simp only [View.readAt_eq_ld, h3.read_unread, h4.read_unread, View.ld_unit_zero (S := S1024x2048) corner2, View.ld_unit_zero (S := S2048x1024) corner2]

theorem at_point (c : Dev nD) (t : Fin cfg0.N) :
    (outsAt0 m c t) = k0_pay1 (grid0.coords t) (iblk m c 0 t) (iblk m c 1 t) := by
  unfold outsAt0
  exact block c _ _ _ _ _ _ _ _ _ _ _

/-! ## The blocks of the arrays -/

theorem pt_lt (t : Fin cfg0.N) : t.val < 48 := t.isLt

theorem index0 : ∀ t : Fin cfg0.N, win0_0.index t = ![t.val / 6, 0] :=
  (by decide +kernel : ∀ t : Fin grid0.N, win0_0.index t = ![t.val / 6, 0])
theorem index1 : ∀ t : Fin cfg0.N, win0_1.index t = ![0, t.val % 6] :=
  (by decide +kernel : ∀ t : Fin grid0.N, win0_1.index t = ![0, t.val % 6])
theorem index2 : ∀ t : Fin cfg0.N, win0_2.index t = ![t.val / 6, t.val % 6] :=
  (by decide +kernel : ∀ t : Fin grid0.N, win0_2.index t = ![t.val / 6, t.val % 6])

theorem iblk0 (c : Dev nD) (t : Fin cfg0.N) (r : Fin 1024) (k : Fin 2048) :
    iblk m c 0 t (ix2 r k)
      = V m c main_arg0 (ix2 (⟨1024 * (t.val / 6) + r.val, by have := pt_lt t; omega⟩ : Fin 8192) k) := by
  blk_simp [iblk]
  refine congrArg (V m c main_arg0) ?_
  blk_ext [index0]

theorem iblk1 (c : Dev nD) (t : Fin cfg0.N) (k : Fin 2048) (s : Fin 1024) :
    iblk m c 1 t (ix2 k s)
      = V m c main_arg1 (ix2 k (⟨1024 * (t.val % 6) + s.val, by omega⟩ : Fin 8192)) := by
  blk_simp [iblk]
  refine congrArg (V m c main_arg1) ?_
  blk_ext [index1]

end

variable (m : (ℓ : Loc nD τ sig) → Buf (Elt Ideal) ℓ)

theorem coord : ∀ t : Fin cfg0.N, ((grid0.coords t) 1).val = t.val % 6 :=
  (by decide +kernel : ∀ t : Fin grid0.N, ((grid0.coords t) 1).val = t.val % 6)

/-- The number a column of the result is multiplied by. -/
def fold (j : ℕ) : EReal := if j < 2048 then (((11863283 * 134217728⁻¹) * (Real.log 2)⁻¹ : ℝ) : EReal) else 1

theorem q_fold_eq : (Named.named κ "q_fold" 0x3E0293EE#32 : Ideal .f32) = (((11863283 * 134217728⁻¹) * (Real.log 2)⁻¹ : ℝ) : EReal) :=
  IdealRules.named_const.ideal_named_scalar _ _ _ _ rfl

theorem pay_apply (t : Fin cfg0.N) (x : Vec Ideal S1024x2048 .bf16) (y : Vec Ideal S2048x1024 .bf16) (i j : Fin 1024) :
    (k0_pay1 (grid0.coords t) x y (ix2 i j) : EReal) = (∑ k : Fin 2048, (fun a b => x (ix2 a b) : Fin 1024 → Fin 2048 → EReal) i k
      * (fun a b => y (ix2 a b) : Fin 2048 → Fin 1024 → EReal) k j) * fold (1024 * (t.val % 6) + j.val) := by
  pointwise [k0_pay1]
  rw [q_fold_eq, coord, fold]
  refine congrArg (fun z : EReal => _ * z) ?_
  have hc : Scalar.cmpi .slt (BitVec.ofNat 32 (t.val % 6)) 2#32 = BitVec.ofBool (decide (t.val % 6 < 2)) :=
    WordCmp.cmpi_slt_ofNat (w := 32) (a := t.val % 6) (b := 2) (by norm_num; omega) (by norm_num)
  by_cases h : t.val % 6 < 2
  · rw [if_pos (by omega), hc, decide_eq_true h]; rfl
  · rw [if_neg (by omega), hc, decide_eq_false h]; exact if_neg (by decide)

/-- The arguments as tables of numbers. -/
def left (c : Dev nD) (i : Fin 8192) (k : Fin 2048) : EReal := m ((c : Thread nD τ).loc main_arg0) (ix2 i k)
def right (c : Dev nD) (i : Fin 2048) (j : Fin 8192) : EReal := m ((c : Thread nD τ).loc main_arg1) (ix2 i j)

/-- The result at `(i, j)`. -/
def entry (c : Dev nD) (i : Fin 8192) (j : Fin 6144) : EReal :=
  (∑ k : Fin 2048, left m c i k * right m c k ⟨j.val, by omega⟩) * fold j.val

theorem total (c : Dev nD) (t : Fin cfg0.N) (r s : Fin 1024) (i : Fin 8192) (j : Fin 6144)
    (hi : i.val = 1024 * (t.val / 6) + r.val) (hj : j.val = 1024 * (t.val % 6) + s.val) :
    ((outsAt0 m c t) (ix2 r s) : EReal) = entry m c i j := by
  have ht := pt_lt t
  rw [at_point, pay_apply]
  rw [← hj]
  refine congrArg (fun z : EReal => z * fold j.val) (Finset.sum_congr rfl fun k _ => congrArg₂ (fun x y : EReal => x * y)
    (((iblk0 m c t r k).trans (congrFun (V_main_arg0 m c) _)).trans ?_) (((iblk1 m c t k s).trans (congrFun (V_main_arg1 m c) _)).trans ?_))
  · exact congrFun (congrArg (left m c) (Fin.ext (by show 1024 * (t.val / 6) + r.val = i.val; omega))) k
  · exact congrArg (right m c k) (Fin.ext (by show 1024 * (t.val % 6) + s.val = j.val; omega))

/-- The array the kernel ends with. -/
theorem final (c : Dev nD) : (dats m 0 c).arrAt 2 cfg0.N = fun i : S8192x6144.Idx => entry m c (i 0) (i 1) := by
  refine Pipeline.Dat.arrAt_eq_of_covers _ 2 _ (by decide +kernel) fun t hf y => ?_
  obtain ⟨r, s, rfl⟩ : ∃ (r s : Fin 1024), y = ix2 r s :=
    ⟨y 0, y 1, funext fun a => match a with | ⟨0, _⟩ => rfl | ⟨1, _⟩ => rfl⟩
  have hb := total m c t r s ((win0_2.blk t).view.emb (ix2 r s) 0) ((win0_2.blk t).view.emb (ix2 r s) 1)
    (by show win0_2.index t (0 : Fin 2) * 1024 + 1 * r.val = _; rw [index2]; show t.val / 6 * 1024 + 1 * r.val = _; omega)
    (by show win0_2.index t (1 : Fin 2) * 1024 + 1 * s.val = _; rw [index2]; show t.val % 6 * 1024 + 1 * s.val = _; omega)
  rw [after0_2]
  generalize outsAt0 m c t = o at hb ⊢
  exact hb

end Cert.Kernel18Ideal.Product

namespace Cert.Reference18Ideal.Product

open Cert.Reference18Ideal Cert.Reference18Ideal.Gen Cert.Reference18Ideal.Read Idealize.ShloMosaic Idealize.ShloMosaic.TcCoe
open Idealize.SL.Sem

variable (x : (⟨S8192x2048, .bf16⟩ : BufTy).Contents (Elt Ideal)) (y : (⟨S2048x8192, .bf16⟩ : BufTy).Contents (Elt Ideal))

/-- The whole product at `(i, j)`. -/
def product (i : Fin 8192) (j : Fin 8192) : EReal :=
  ∑ k : Fin 2048, (fun a b => x (ix2 a b) : Fin 8192 → Fin 2048 → EReal) i k * (fun a b => y (ix2 a b) : Fin 2048 → Fin 8192 → EReal) k j

theorem product_at (p : S8192x8192.Idx) : (val_main_v2 (F := Ideal) x y p : EReal) = product x y (p 0) (p 1) := by
  rw [val_main_v2_apply]
  refine Finset.sum_congr rfl fun k _ => congrArg₂ (fun x y : EReal => x * y) ?_ ?_
  · rw [val_main_v0_apply]
    refine congrArg x ?_
    funext a
    match a with
    | ⟨0, _⟩ => rfl
    | ⟨1, _⟩ => rfl
  · rw [val_main_v1_apply]
    refine congrArg y ?_
    funext a
    match a with
    | ⟨0, _⟩ => rfl
    | ⟨1, _⟩ => rfl

theorem scale_value : (FloatOps.ofBits .f32 0x3DB504F3#32 : Ideal .f32) = ((11863283 * 134217728⁻¹ : ℝ) : EReal) := by
  show Ideal.ofBits .f32 0x3DB504F3#32 = _
  simp [Ideal.ofBits, Ideal.ieee]
  norm_num

theorem fold_eq (z : EReal) : Ideal.div (z * ((11863283 * 134217728⁻¹ : ℝ) : EReal)) ((Real.log 2 : ℝ) : EReal)
    = z * (((11863283 * 134217728⁻¹) * (Real.log 2)⁻¹ : ℝ) : EReal) := by
  rw [Ideal.div_coe (Real.log_pos (by norm_num)).ne', mul_assoc, ← EReal.coe_mul, one_div]

/-- The queries at `(i, j)`. -/
theorem queries (p : S8192x2048.Idx) : (val_main_v8 (F := Ideal) x y p : EReal)
    = product x y (p 0) ⟨(p 1).val, by have h : (p 1).val < 2048 := (p 1).isLt; omega⟩
      * (((11863283 * 134217728⁻¹) * (Real.log 2)⁻¹ : ℝ) : EReal) := by
  rw [val_main_v8_apply, val_main_v5_apply, val_main_v7_apply, val_main_v6_apply, val_main_cst_0_apply, val_main_v4_apply, val_main_cst_apply,
    val_main_v3_apply, scale_value, product_at]
  have hl : (FloatOps.hostUnary .log (FloatOps.ofBits .f32 0x40000000#32 : Ideal .f32) : Ideal .f32) = ((Real.log 2 : ℝ) : EReal) := Cert.Model.log_two
  rw [hl]
  exact fold_eq _

/-- What the reference computes at `(i, j)`. -/
theorem result (i : Fin 8192) (j : Fin 6144) :
    (val_main_v11 (F := Ideal) x y (ix2 i j) : EReal)
      = product x y i ⟨j.val, by omega⟩ * (if j.val < 2048 then (((11863283 * 134217728⁻¹) * (Real.log 2)⁻¹ : ℝ) : EReal) else 1) := by
  rw [val_main_v11_apply]
  show (val_main_v10 (F := Ideal) x y (ix2 i j) : EReal) = _
  unfold val_main_v10
  by_cases h : j.val < 2048
  · rw [if_pos h, concatenate_pair_apply_left (s₁ := S8192x2048) (s₂ := S8192x4096) (t := S8192x6144) 1 _ _ _ (ix2 i j) rfl
      (ix2 i (⟨j.val, h⟩ : Fin 2048)) (fun b => match b with | ⟨0, _⟩ => rfl | ⟨1, _⟩ => rfl), queries]
    rfl
  · rw [if_neg h, mul_one, concatenate_pair_apply_right (s₁ := S8192x2048) (s₂ := S8192x4096) (t := S8192x6144) 1 _ _ _ (ix2 i j) rfl rfl
      (ix2 i (⟨j.val - 2048, by omega⟩ : Fin 4096)) (fun b => match b with | ⟨0, _⟩ => fun _ => rfl | ⟨1, _⟩ => fun hb => absurd rfl hb)
      (by show j.val - 2048 + 2048 = j.val; omega), val_main_v9_apply, product_at]
    refine congrArg (product x y i) (Fin.ext ?_)
    show 2048 + (j.val - 2048) = j.val
    omega

end Cert.Reference18Ideal.Product

end
-- ==== Proof.Norm.lean ====
/-
  The gradient of a row's norm: the kernel's form, in which the normalised row is projected out, and the form that the derivative
  of a reciprocal square root prints. They are one for every row of extended reals: the mean of the squares plus a small number is
  a positive number or infinity, and in the second case every term is zero.
-/
module

public import proofs.«01_k».proof.Proof.Model

@[expose] public section

noncomputable section

namespace Cert.Norm

open Finset Idealize.ShloMosaic

/-- A factor that is a number and not negative goes through a sum. -/
theorem sum_mul_coe {ι : Type} (s : Finset ι) (f : ι → EReal) {r : ℝ} (hr : 0 ≤ r) : (∑ j ∈ s, f j) * (r : EReal) = ∑ j ∈ s, f j * (r : EReal) := by
  classical
  induction s using Finset.induction_on with
  | empty => simp
  | insert a s ha ih =>
    rw [sum_insert ha, sum_insert ha, EReal.right_distrib_of_nonneg_of_ne_top (EReal.coe_nonneg.2 hr) (EReal.coe_ne_top r), ih]

/-- Two equal halves make the whole, of infinities too. -/
theorem halves (y : EReal) (q : ℝ) (hq : q < 0) : y * (q : EReal) + y * (q : EReal) = y * ((q + q : ℝ) : EReal) := by
  induction y using EReal.rec with
  | bot => rw [EReal.bot_mul_coe_of_neg hq, EReal.bot_mul_coe_of_neg (by linarith), EReal.top_add_top]
  | top => rw [EReal.top_mul_coe_of_neg hq, EReal.top_mul_coe_of_neg (by linarith), EReal.bot_add]
  | coe z => rw [← EReal.coe_mul, ← EReal.coe_mul, ← EReal.coe_add, mul_add]

theorem square_nonneg (x : EReal) : 0 ≤ x * x := by
  induction x using EReal.rec with
  | bot => simp
  | top => simp
  | coe z => rw [← EReal.coe_mul]; exact EReal.coe_nonneg.2 (mul_self_nonneg z)

/-- The mean of squares plus a positive number is a positive number, or infinity. -/
theorem mean_cases (X : Fin 2048 → EReal) {n e : EReal} (hn : n = ((2048 : ℝ) : EReal)) {e' : ℝ} (he : e = (e' : EReal)) (he' : 0 < e') :
    Ideal.div (∑ j, X j * X j) n + e = ⊤ ∨ ∃ M : ℝ, 0 < M ∧ Ideal.div (∑ j, X j * X j) n + e = (M : EReal) := by
  have h : 0 ≤ ∑ j, X j * X j := sum_nonneg fun j _ => square_nonneg _
  rw [hn, he, Ideal.div_coe (by norm_num)]
  generalize ∑ j, X j * X j = y at h
  induction y using EReal.rec with
  | bot => exact absurd h (by simp)
  | top => exact Or.inl (by rw [EReal.top_mul_coe_of_pos (by norm_num)]; rfl)
  | coe z =>
    have hz := EReal.coe_nonneg.1 h
    exact Or.inr ⟨z * (1 / 2048) + e', by positivity, by rw [← EReal.coe_mul, ← EReal.coe_add]⟩

/-- What the kernel writes for an element of a row: `X` the row, `B` the gradient at the normalised row, `d` the gradient that
    the residual stream adds, `e` the small number under the root. -/
def kernelForm (X B : Fin 2048 → EReal) (d n e : EReal) (k : Fin 2048) : EReal :=
  d + Ideal.rsqrt (Ideal.div (∑ j, X j * X j) n + e)
    * (B k - X k * Ideal.rsqrt (Ideal.div (∑ j, X j * X j) n + e)
        * Ideal.div (∑ j, B j * (X j * Ideal.rsqrt (Ideal.div (∑ j, X j * X j) n + e))) n)

/-- What the reference's derivative is there. -/
def plainForm (X B : Fin 2048 → EReal) (d n e h : EReal) (k : Fin 2048) : EReal :=
  d + (B k * Ideal.rsqrt (Ideal.div (∑ j, X j * X j) n + e)
    + X k * Ideal.div ((∑ j, X j * B j) * (h * Ideal.div (Ideal.rsqrt (Ideal.div (∑ j, X j * X j) n + e))
        (Ideal.div (∑ j, X j * X j) n + e))) n
    + Ideal.div ((∑ j, X j * B j) * (h * Ideal.div (Ideal.rsqrt (Ideal.div (∑ j, X j * X j) n + e))
        (Ideal.div (∑ j, X j * X j) n + e))) n * X k)

/-- The two forms with the reciprocal root a positive number `r`. -/
theorem number_forms (b x S : EReal) {r : ℝ} (hr : 0 < r) :
    (r : EReal) * (b - x * (r : EReal) * (S * (r : EReal) * ((1 / 2048 : ℝ) : EReal)))
      = b * (r : EReal) + x * (S * (((-(1 / 2) : ℝ) : EReal) * ((r : EReal) * ((r * r : ℝ) : EReal))) * ((1 / 2048 : ℝ) : EReal))
        + S * (((-(1 / 2) : ℝ) : EReal) * ((r : EReal) * ((r * r : ℝ) : EReal))) * ((1 / 2048 : ℝ) : EReal) * x := by
  have hq : -(1 / 2) * (r * (r * r)) * (1 / 2048) < 0 := by
    have : 0 < r * (r * r) := by positivity
    linarith
  have e1 : S * (((-(1 / 2) : ℝ) : EReal) * ((r : EReal) * ((r * r : ℝ) : EReal))) * ((1 / 2048 : ℝ) : EReal)
      = S * ((-(1 / 2) * (r * (r * r)) * (1 / 2048) : ℝ) : EReal) := by
    rw [← EReal.coe_mul, ← EReal.coe_mul, mul_assoc, ← EReal.coe_mul]
  have e2 : (r : EReal) * -(x * (r : EReal) * (S * (r : EReal) * ((1 / 2048 : ℝ) : EReal)))
      = x * S * ((-(1 / 2) * (r * (r * r)) * (1 / 2048) + -(1 / 2) * (r * (r * r)) * (1 / 2048) : ℝ) : EReal) := by
    rw [show -(1 / 2) * (r * (r * r)) * (1 / 2048) + -(1 / 2) * (r * (r * r)) * (1 / 2048) = -(r * (r * (r * (1 / 2048)))) by ring,
      EReal.coe_neg, mul_neg, mul_neg, EReal.coe_mul, EReal.coe_mul, EReal.coe_mul]
    congr 1
    ac_rfl
  rw [e1, sub_eq_add_neg, EReal.left_distrib_of_nonneg_of_ne_top (EReal.coe_nonneg.2 hr.le) (EReal.coe_ne_top r), e2, ← halves _ _ hq,
    ← add_assoc, mul_comm (r : EReal) b, mul_comm (S * _) x, ← mul_assoc x S]

/-- They are one. -/
theorem forms_agree (X B : Fin 2048 → EReal) {n e h : EReal} (hn : n = ((2048 : ℝ) : EReal)) {e' : ℝ} (he : e = (e' : EReal)) (he' : 0 < e')
    (hh : h = ((-(1 / 2) : ℝ) : EReal)) (d : EReal) (k : Fin 2048) : kernelForm X B d n e k = plainForm X B d n e h k := by
  unfold kernelForm plainForm
  rcases mean_cases X hn he he' with hM | ⟨M, hM, eM⟩
  · have z : Ideal.div 0 ⊤ = 0 := by rw [Ideal.div, if_neg (by simp), zero_mul]
    rw [hM, Ideal.rsqrt_top, z, hn]
    simp only [Ideal.div_coe (show (2048 : ℝ) ≠ 0 by norm_num), mul_zero, zero_mul, add_zero]
  · have er : Ideal.rsqrt (M : EReal) = (((Real.sqrt M)⁻¹ : ℝ) : EReal) := by
      rw [Ideal.rsqrt_coe, if_neg (not_lt.2 hM.le), if_neg hM.ne']
    have hr : 0 < (Real.sqrt M)⁻¹ := inv_pos.2 (Real.sqrt_pos.2 hM)
    have hs : (Real.sqrt M)⁻¹ * (Real.sqrt M)⁻¹ = 1 / M := by rw [← mul_inv, Real.mul_self_sqrt hM.le, one_div]
    rw [eM, er, hn, hh, Ideal.div_coe hM.ne', Ideal.div_coe (by norm_num), Ideal.div_coe (by norm_num), ← hs]
    generalize (Real.sqrt M)⁻¹ = r at hr
    have hB : ∑ j, B j * (X j * (r : EReal)) = (∑ j, X j * B j) * (r : EReal) := by
      rw [sum_mul_coe _ _ hr.le]
      exact sum_congr rfl fun j _ => by ac_rfl
    rw [hB, number_forms _ _ _ hr]

end Cert.Norm

end
-- ==== Proof.Rows.lean ====
/-
  The gradient of the norm of a layer's rows. The kernel takes a block of rows a grid point; it writes the gradient of the rows,
  added to a gradient already there, and adds the block's part of the gain's gradient in a buffer that the last point leaves.
-/
module

public import proofs.«01_k».proof.Proof.Norm
public import proofs.«01_k».proof.Proof.Gen.Kernel19Ideal
public import proofs.«01_k».proof.Proof.Gen.Reference19Ideal
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.Norm

open Idealize.ShloMosaic

/-- The constants of the two programs. -/
abbrev count : EReal := Ideal.ofBits .f32 0x45000000#32
abbrev small : EReal := Ideal.ofBits .f32 0x358637BD#32
abbrev half : EReal := Ideal.ofBits .f32 0xBF000000#32

theorem count_eq : count = ((2048 : ℝ) : EReal) := by
  simp [count, Ideal.ofBits, Ideal.ieee]
  rw [← EReal.coe_mul]; norm_num

theorem small_eq : ∃ e : ℝ, small = (e : EReal) ∧ 0 < e := by
  simp [small, Ideal.ofBits, Ideal.ieee]
  exact ⟨8796093 * (2 ^ 43)⁻¹, (EReal.coe_mul _ _).symm, by norm_num⟩

theorem half_eq : half = ((-(1 / 2) : ℝ) : EReal) := by
  simp [half, Ideal.ofBits, Ideal.ieee]
  rw [← EReal.coe_mul]; norm_num

/-- The reciprocal of a row's norm. -/
def inv (X : Fin 2048 → EReal) : EReal := Ideal.rsqrt (Ideal.div (∑ j, X j * X j) count + small)

end Cert.Norm

namespace Cert.Kernel19Ideal.Rows

open Cert.Kernel19Ideal Cert.Kernel19Ideal.Gen Idealize.ShloMosaic Idealize.ShloMosaic.TcCoe Idealize.SL.Sem Cert.Norm

theorem corner : (![0, 0] : Fin 2 → Nat) = fun _ => 0 := funext fun a => by fin_cases a <;> rfl

section
variable {F : FTy → Type} [FloatOps F]
variable (m : (ℓ : Loc nD τ sig) → Buf (Elt F) ℓ)

/-- The rows that the first point writes. -/
theorem rows_first (c : Dev nD) (i : grid0.Coords) (a1 h1 a2 h2 a3 h3 a4 h4 a5 h5 a6 h6 hc0 x0 x1 x2 x3) :
    out0_A_4 (F := F) c i a1 h1 a2 h2 a3 h3 a4 h4 a5 h5 a6 h6 hc0 x0 x1 x2 x3 = k0_pay4 x0 x2 x1 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  rw [View.canon_unit_zero corner]
  simp only [View.readAt_eq_ld, h1.read_unread, h2.read_unread, h3.read_unread, h4.read_unread, View.ld_unit_zero (S := S512x2048) corner,
    View.ld_unit_zero (S := S1x2048) corner]

/-- The rows that a later point writes. -/
theorem rows_later (c : Dev nD) (i : grid0.Coords) (a1 h1 a2 h2 a3 h3 a4 h4 a5 h5 a6 h6 hc0 x0 x1 x2 x3 s) :
    out0_B_4 (F := F) c i a1 h1 a2 h2 a3 h3 a4 h4 a5 h5 a6 h6 hc0 x0 x1 x2 x3 s = k0_pay4 x0 x2 x1 x3 := by
  unfold out0_B_4
  rw [View.read_writes_eq_canon _ _ _ (cover0_B_4 c i a1 h1 a2 h2 a3 h3 a4 h4 a5 h5 a6 h6 hc0 x0 x1 x2 x3 s)]
  unfold kernelRun0_B
  dsimp only
  rw [View.canon_unit_zero corner]
  simp only [View.readAt_eq_ld, h1.read_unread, h2.read_unread, h3.read_unread, h4.read_unread, View.ld_unit_zero (S := S512x2048) corner,
    View.ld_unit_zero (S := S1x2048) corner]

/-- The first point adds its part of the gain's gradient to zeros. -/
theorem gain_first (c : Dev nD) (i : grid0.Coords) (a1 h1 a2 h2 a3 h3 a4 h4 a5 h5 a6 h6 hc0 x0 x1 x2 x3) :
    out0_A_5 (F := F) c i a1 h1 a2 h2 a3 h3 a4 h4 a5 h5 a6 h6 hc0 x0 x1 x2 x3 = k0_pay5 x0 x2 (k0_pay1 (F := F)) := by
  unfold out0_A_5
  rw [View.read_writes_eq_canon _ _ _ (cover0_A_5 c i a1 h1 a2 h2 a3 h3 a4 h4 a5 h5 a6 h6 hc0 x0 x1 x2 x3)]
  unfold kernelRun0_A
  dsimp only
  rw [View.canon_cons_unit_zero corner]
  unfold kernelRun0_A.sl.r kernelRun0_A.sl.v31
  simp only [View.readAt_eq_ld, h1.read_unread, h3.read_unread, View.ld_unit_zero (S := S512x2048) corner]
  exact congrArg (k0_pay5 x0 x2) (View.readCov_unit_zero (S := S1x2048) _ corner _ _)

/-- A later point adds its part to what the point before left. -/
theorem gain_later (c : Dev nD) (i : grid0.Coords) (a1 h1 a2 h2 a3 h3 a4 h4 a5 h5 a6 h6 hc0 x0 x1 x2 x3 s) :
    out0_B_5 (F := F) c i a1 h1 a2 h2 a3 h3 a4 h4 a5 h5 a6 h6 hc0 x0 x1 x2 x3 s = k0_pay5 x0 x2 s := by
  unfold out0_B_5
  rw [View.read_writes_eq_canon _ _ _ (cover0_B_5 c i a1 h1 a2 h2 a3 h3 a4 h4 a5 h5 a6 h6 hc0 x0 x1 x2 x3 s)]
  unfold kernelRun0_B
  dsimp only
  rw [View.canon_unit_zero corner]
  unfold kernelRun0_B.sl.r
  simp only [View.readAt_eq_ld, h1.read_unread, h3.read_unread, h6.read_unread, View.ld_unit_zero (S := S512x2048) corner,
    View.ld_unit_zero (S := S1x2048) corner]

theorem at_same (c : Dev nD) (n n' : ℕ) (h : n < cfg0.N) (h' : n' < cfg0.N) (e : n = n') : outsAt0 m c n h = outsAt0 m c n' h' := by
  subst e; rfl

theorem pt_lt (t : Fin cfg0.N) : t.val < 16 := t.isLt

theorem rows_at (c : Dev nD) (t : Fin cfg0.N) :
    (outsAt0 m c t.val t.isLt).1 = k0_pay4 (iblk m c 0 t) (iblk m c 2 t) (iblk m c 1 t) (iblk m c 3 t) := by
  by_cases h : t.val % 16 = 0
  · rw [outsAt0_A m c t h]
    dsimp only
    rw [rows_first (F := F)]
  · rw [outsAt0_B m c t h]
    dsimp only
    rw [rows_later (F := F)]

theorem gain_start (c : Dev nD) (h : 0 < cfg0.N) :
    (outsAt0 m c 0 h).2 = k0_pay5 (iblk m c 0 ⟨0, h⟩) (iblk m c 2 ⟨0, h⟩) (k0_pay1 (F := F)) := by
  have e := outsAt0_A m c ⟨0, h⟩ (Nat.zero_mod _)
  dsimp only at e
  rw [e]
  dsimp only
  rw [gain_first (F := F)]

theorem gain_step (c : Dev nD) (n : ℕ) (h : n + 1 < cfg0.N) :
    (outsAt0 m c (n + 1) h).2 = k0_pay5 (iblk m c 0 ⟨n + 1, h⟩) (iblk m c 2 ⟨n + 1, h⟩) (outsAt0 m c n (Nat.lt_of_succ_lt h)).2 := by
  have hN : n + 1 < 16 := h
  have e := outsAt0_B m c ⟨n + 1, h⟩ (by dsimp only; omega)
  dsimp only at e
  rw [e]
  dsimp only
  rw [gain_later (F := F), at_same m c (n + 1 - 1) n _ (Nat.lt_of_succ_lt h) (by omega)]

/-! ## The blocks of the arrays -/

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])

/-- A row of a block as a row of its array. -/
abbrev rowOf (t : Fin cfg0.N) (r : Fin 512) : Fin 8192 := ⟨512 * t.val + r.val, by have := pt_lt t; omega⟩

theorem iblk0 (c : Dev nD) (t : Fin cfg0.N) (r : Fin 512) (k : Fin 2048) :
    iblk m c 0 t (ix2 r k) = V m c main_arg0 (ix2 (rowOf t r) k) := by
  blk_simp [iblk]
  refine congrArg (V m c main_arg0) ?_
  blk_ext [index0]

theorem iblk1 (c : Dev nD) (t : Fin cfg0.N) (k : Fin 2048) :
    iblk m c 1 t (ix2 (0 : Fin 1) k) = V m c main_arg1 (ix2 (0 : Fin 1) k) := by
  blk_simp [iblk]
  refine congrArg (V m c main_arg1) ?_
  blk_ext [index1]

theorem iblk2 (c : Dev nD) (t : Fin cfg0.N) (r : Fin 512) (k : Fin 2048) :
    iblk m c 2 t (ix2 r k) = V m c main_arg2 (ix2 (rowOf t r) k) := by
  blk_simp [iblk]
  refine congrArg (V m c main_arg2) ?_
  blk_ext [index2]

theorem iblk3 (c : Dev nD) (t : Fin cfg0.N) (r : Fin 512) (k : Fin 2048) :
    iblk m c 3 t (ix2 r k) = V m c main_arg3 (ix2 (rowOf t r) k) := by
  blk_simp [iblk]
  refine congrArg (V m c main_arg3) ?_
  blk_ext [index3]

end

theorem inv_apply (x : Vec Ideal S512x2048 .f32) (r : Fin 512) :
    (k0_pay2 x (ix2 r 0) : EReal) = inv fun j => x (ix2 r j) := by
  pointwise [k0_pay2]
  rfl

theorem rows_apply (x dh : Vec Ideal S512x2048 .f32) (g : Vec Ideal S1x2048 .f32) (d : Vec Ideal S512x2048 .f32) (r : Fin 512) (k : Fin 2048) :
    (k0_pay4 x dh g d (ix2 r k) : EReal)
      = kernelForm (fun j => x (ix2 r j)) (fun j => (dh (ix2 r j) * g (ix2 0 j) : EReal)) (d (ix2 r k)) count small k := by
  pointwise [k0_pay4, k0_pay3]
  rw [inv_apply]
  rfl

theorem gain_apply (x dh : Vec Ideal S512x2048 .f32) (s : Vec Ideal S1x2048 .f32) (k : Fin 2048) :
    (k0_pay5 x dh s (ix2 0 k) : EReal)
      = s (ix2 0 k) + ∑ r : Fin 512, (dh (ix2 r k) * (x (ix2 r k) * inv fun j => x (ix2 r j)) : EReal) := by
  pointwise [k0_pay5, k0_pay3]
  simp only [inv_apply]

variable (m : (ℓ : Loc nD τ sig) → Buf (Elt Ideal) ℓ)

/-- The four arguments as tables of numbers. -/
def row (c : Dev nD) (i : Fin 8192) (k : Fin 2048) : EReal := m ((c : Thread nD τ).loc main_arg0) (ix2 i k)
def gain (c : Dev nD) (k : Fin 2048) : EReal := m ((c : Thread nD τ).loc main_arg1) (ix2 (0 : Fin 1) k)
def above (c : Dev nD) (i : Fin 8192) (k : Fin 2048) : EReal := m ((c : Thread nD τ).loc main_arg2) (ix2 i k)
def base (c : Dev nD) (i : Fin 8192) (k : Fin 2048) : EReal := m ((c : Thread nD τ).loc main_arg3) (ix2 i k)

theorem row_eq (c : Dev nD) (t : Fin cfg0.N) (r : Fin 512) (k : Fin 2048) : (iblk m c 0 t (ix2 r k) : EReal) = row m c (rowOf t r) k :=
  (iblk0 m c t r k).trans (congrFun (V_main_arg0 m c) _)
theorem gain_eq (c : Dev nD) (t : Fin cfg0.N) (k : Fin 2048) : (iblk m c 1 t (ix2 (0 : Fin 1) k) : EReal) = gain m c k :=
  (iblk1 m c t k).trans (congrFun (V_main_arg1 m c) _)
theorem above_eq (c : Dev nD) (t : Fin cfg0.N) (r : Fin 512) (k : Fin 2048) : (iblk m c 2 t (ix2 r k) : EReal) = above m c (rowOf t r) k :=
  (iblk2 m c t r k).trans (congrFun (V_main_arg2 m c) _)
theorem base_eq (c : Dev nD) (t : Fin cfg0.N) (r : Fin 512) (k : Fin 2048) : (iblk m c 3 t (ix2 r k) : EReal) = base m c (rowOf t r) k :=
  (iblk3 m c t r k).trans (congrFun (V_main_arg3 m c) _)

/-- The rows' gradient at `(i, k)`. -/
def rowsEntry (c : Dev nD) (i : Fin 8192) (k : Fin 2048) : EReal :=
  kernelForm (row m c i) (fun j => above m c i j * gain m c j) (base m c i k) count small k

theorem rows_total (c : Dev nD) (t : Fin cfg0.N) (r : Fin 512) (k : Fin 2048) (i : Fin 8192) (hi : i = rowOf t r) :
    ((outsAt0 m c t.val t.isLt).1 (ix2 r k) : EReal) = rowsEntry m c i k := by
  rw [rows_at, rows_apply, hi]
  unfold rowsEntry
  rw [base_eq, show (fun j => (iblk m c 0 t (ix2 r j) : EReal)) = row m c (rowOf t r) from funext fun j => row_eq m c t r j]
  exact congrArg (fun w : Fin 2048 → EReal => kernelForm (row m c (rowOf t r)) w (base m c (rowOf t r) k) count small k)
    (funext fun j => congrArg₂ (fun x y : EReal => x * y) (above_eq m c t r j) (gain_eq m c t j))

/-- What row `i` adds to the gain's gradient. -/
def term (c : Dev nD) (k : Fin 2048) (i : Fin 8192) : EReal := above m c i k * (row m c i k * inv (row m c i))

/-- The gain's gradient. -/
def gainEntry (c : Dev nD) (k : Fin 2048) : EReal := ∑ i : Fin 8192, term m c k i

theorem part_sum (c : Dev nD) (t : Fin cfg0.N) (s : Vec Ideal S1x2048 .f32) (k : Fin 2048) :
    (k0_pay5 (iblk m c 0 t) (iblk m c 2 t) s (ix2 (0 : Fin 1) k) : EReal)
      = s (ix2 (0 : Fin 1) k) + ∑ r : Fin 512, term m c k (rowOf t r) := by
  refine (gain_apply _ _ s k).trans (congrArg (fun z : EReal => s (ix2 (0 : Fin 1) k) + z) (Finset.sum_congr rfl fun r _ => ?_))
  rw [above_eq, row_eq, show (fun j => (iblk m c 0 t (ix2 r j) : EReal)) = row m c (rowOf t r) from funext fun j => row_eq m c t r j]
  rfl

theorem gain_sum (c : Dev nD) (k : Fin 2048) : ∀ (n : ℕ) (h : n < cfg0.N),
    ((outsAt0 m c n h).2 (ix2 (0 : Fin 1) k) : EReal) = ∑ i ∈ Finset.range (512 * (n + 1)), term m c k (Fin.ofNat 8192 i)
  | 0, h => by
    rw [gain_start, part_sum, Finset.sum_range]
    have z : (k0_pay1 (F := Ideal) (ix2 (0 : Fin 1) k) : EReal) = 0 := by pointwise [k0_pay1]
    rw [z, zero_add]
    exact Finset.sum_congr rfl fun r _ => congrArg (term m c k) (Fin.ext (by
      show 512 * 0 + r.val = r.val % 8192
      omega))
  | n + 1, h => by
    have hN : n + 1 < 16 := h
    rw [gain_step, part_sum, gain_sum c k n, show 512 * (n + 1 + 1) = 512 * (n + 1) + 512 by ring, Finset.sum_range_add,
      Finset.sum_range (n := 512)]
    refine congrArg (fun z : EReal => _ + z) (Finset.sum_congr rfl fun r _ => congrArg (term m c k) (Fin.ext ?_))
    show 512 * (n + 1) + r.val = (512 * (n + 1) + r.val) % 8192
    omega

theorem gain_total (c : Dev nD) (k : Fin 2048) (h : 15 < cfg0.N) : ((outsAt0 m c 15 h).2 (ix2 (0 : Fin 1) k) : EReal) = gainEntry m c k := by
  rw [gain_sum, Finset.sum_range]
  exact Finset.sum_congr rfl fun i _ => congrArg (term m c k) (Fin.ext (Nat.mod_eq_of_lt i.isLt))

/-- The rows' gradient as the kernel leaves it. -/
theorem final_rows (c : Dev nD) : (dats m 0 c).arrAt 4 cfg0.N = fun i : S8192x2048.Idx => rowsEntry m c (i 0) (i 1) := by
  refine Pipeline.Dat.arrAt_eq_of_covers _ 4 _ (by decide +kernel) fun t hf y => ?_
  obtain ⟨r, s, rfl⟩ : ∃ (r : Fin 512) (s : Fin 2048), y = ix2 r s :=
    ⟨y 0, y 1, funext fun a => match a with | ⟨0, _⟩ => rfl | ⟨1, _⟩ => rfl⟩
  have e1 : ((win0_4.blk t).view.emb (ix2 r s) 1) = s := Fin.ext (by
    show win0_4.index t (1 : Fin 2) * 2048 + 1 * s.val = s.val; rw [index4]; show 0 * 2048 + 1 * s.val = _; omega)
  have hb := rows_total m c t r s ((win0_4.blk t).view.emb (ix2 r s) 0) (Fin.ext (by
    show win0_4.index t (0 : Fin 2) * 512 + 1 * r.val = 512 * t.val + r.val; rw [index4]; show t.val * 512 + 1 * r.val = _; omega))
  rw [after0_4]
  generalize outsAt0 m c t.val t.isLt = o at hb ⊢
  exact hb.trans (congrArg (rowsEntry m c _) e1.symm)

/-- The gain's gradient as the kernel leaves it. -/
theorem final_gain (c : Dev nD) : (dats m 0 c).arrAt 5 cfg0.N = fun i : S1x2048.Idx => gainEntry m c (i 1) := by
  refine Pipeline.Dat.arrAt_eq_of_covers _ 5 _ (by decide +kernel) fun t hf y => ?_
  have hl := (flush0_5 t).1 hf
  have ht := pt_lt t
  obtain ⟨s, rfl⟩ : ∃ s : Fin 2048, y = ix2 (0 : Fin 1) s :=
    ⟨y 1, funext fun a => match a with | ⟨0, _⟩ => Subsingleton.elim (α := Fin 1) _ _ | ⟨1, _⟩ => rfl⟩
  have e1 : ((win0_5.blk t).view.emb (ix2 (0 : Fin 1) s) 1) = s := Fin.ext (by
    show win0_5.index t (1 : Fin 2) * 2048 + 1 * s.val = s.val; rw [index5]; show 0 * 2048 + 1 * s.val = _; omega)
  have hb := gain_total m c s (by have := t.isLt; omega)
  rw [after0_5, at_same m c t.val 15 t.isLt (by have := t.isLt; omega) (by omega)]
  generalize outsAt0 m c 15 _ = o at hb ⊢
  exact hb.trans (congrArg (gainEntry m c) e1.symm)

end Cert.Kernel19Ideal.Rows

namespace Cert.Reference19Ideal.Rows

open Cert.Reference19Ideal Cert.Reference19Ideal.Gen Cert.Reference19Ideal.Read Idealize.ShloMosaic Idealize.ShloMosaic.TcCoe
open Idealize.SL.Sem Cert.Norm

variable (x0 : (⟨S8192x2048, .f32⟩ : BufTy).Contents (Elt Ideal)) (x1 : (⟨S1x2048, .f32⟩ : BufTy).Contents (Elt Ideal))
  (x2 x3 : (⟨S8192x2048, .f32⟩ : BufTy).Contents (Elt Ideal))

/-- Row `i` of the activations. -/
def row (i : Fin 8192) (k : Fin 2048) : EReal := x0 (ix2 i k)

/-- The gradient at the normalised row. -/
def scaled (i : Fin 8192) (k : Fin 2048) : EReal := (x2 (ix2 i k) : EReal) * (x1 (ix2 (0 : Fin 1) k) : EReal)

theorem zero_value : (FloatOps.ofBits .f32 0x00000000#32 : Ideal .f32) = (0 : EReal) := by
  show Ideal.ofBits .f32 0x00000000#32 = _
  simp [Ideal.ofBits, Ideal.ieee]

/-- The small number added to the mean of the row's squares. -/
theorem mean_at (p : S8192x1.Idx) : (val_main_v6 (F := Ideal) x0 p : EReal)
    = Ideal.div (∑ j, row x0 (p 0) j * row x0 (p 0) j) count + small := by
  rw [val_main_v6_apply, val_main_v4_apply, val_main_v5_apply, val_main_cst_1_apply, val_main_v3_apply, val_main_cst_0_apply,
    val_main_v2_apply, val_main_v1_apply, val_main_cst_apply, zero_value, zero_add]
  refine congrArg (fun z : EReal => Ideal.div z count + small) (Finset.sum_congr rfl fun k _ => ?_)
  rw [val_main_v0_apply]
  refine congrArg (fun q => (x0 q : EReal) * (x0 q : EReal)) ?_
  funext a
  match a with
  | ⟨0, _⟩ => rfl
  | ⟨1, _⟩ => rfl

theorem inv_at (p : S8192x1.Idx) : (val_main_v7 (F := Ideal) x0 p : EReal) = inv (row x0 (p 0)) := by
  rw [val_main_v7_apply, mean_at]
  rfl

theorem above_at (p : S8192x2048.Idx) : (val_main_v19 (F := Ideal) x1 x2 p : EReal) = scaled x1 x2 (p 0) (p 1) := by
  rw [val_main_v19_apply, val_main_v18_apply]
  refine congrArg₂ (fun x y : EReal => x * y) (congrArg x2 ?_) (congrArg x1 ?_) <;> funext a <;>
  match a with
  | ⟨0, _⟩ => rfl
  | ⟨1, _⟩ => rfl

/-- The root's derivative by the sum of the row with the gradient. -/
theorem factor_at (p : S8192x1.Idx) : (val_main_v25 (F := Ideal) x0 x1 x2 p : EReal)
    = (∑ j, row x0 (p 0) j * scaled x1 x2 (p 0) j)
      * (half * Ideal.div (inv (row x0 (p 0))) (Ideal.div (∑ j, row x0 (p 0) j * row x0 (p 0) j) count + small)) := by
  rw [val_main_v25_apply, val_main_v10_apply, val_main_v9_apply, val_main_cst_2_apply, val_main_v8_apply, inv_at, mean_at,
    val_main_v22_apply, val_main_v21_apply, val_main_cst_4_apply, zero_value, zero_add]
  refine congrArg (fun z : EReal => z * (half * Ideal.div (inv (row x0 (p 0)))
    (Ideal.div (∑ j, row x0 (p 0) j * row x0 (p 0) j) count + small))) (Finset.sum_congr rfl fun k _ => ?_)
  have e : (idx_main_v21 (idx_main_v22 p) k 0 : Fin 8192) = p 0 := Fin.ext (by
    have h : (p 1).val < 1 := (p 1).isLt
    show (p 0).val * 1 + (p 1).val = (p 0).val
    omega)
  rw [val_main_v20_apply, above_at, e]
  refine congrArg (fun q => (x0 q : EReal) * scaled x1 x2 (p 0) k) ?_
  funext a
  match a with
  | ⟨0, _⟩ => exact e
  | ⟨1, _⟩ => rfl

theorem mean_of_factor (p : S8192.Idx) : (val_main_v28 (F := Ideal) x0 x1 x2 p : EReal)
    = Ideal.div ((∑ j, row x0 (p 0) j * scaled x1 x2 (p 0) j)
      * (half * Ideal.div (inv (row x0 (p 0))) (Ideal.div (∑ j, row x0 (p 0) j * row x0 (p 0) j) count + small))) count := by
  rw [val_main_v28_apply, val_main_cst_6_apply, zero_value, zero_add, Fin.sum_univ_one, val_main_v27_apply, val_main_v26_apply,
    val_main_cst_5_apply, factor_at]
  rfl

/-- The rows' gradient of the reference. -/
theorem rows_result (i : Fin 8192) (k : Fin 2048) : (val_main_v34 (F := Ideal) x0 x1 x2 x3 (ix2 i k) : EReal)
    = plainForm (row x0 i) (scaled x1 x2 i) (x3 (ix2 i k)) count small half k := by
  rw [val_main_v34_apply, val_main_v33_apply, val_main_v32_apply, val_main_v31_apply, val_main_v30_apply, val_main_v29_apply,
    mean_of_factor, val_main_v24_apply, above_at, val_main_v23_apply, inv_at]
  rfl

/-- The gain's gradient of the reference. -/
theorem gain_result (k : Fin 2048) : (val_main_v17 (F := Ideal) x0 x2 (ix2 (0 : Fin 1) k) : EReal)
    = ∑ i : Fin 8192, (x2 (ix2 i k) : EReal) * (row x0 i k * inv (row x0 i)) := by
  rw [val_main_v17_apply, val_main_v16_apply, val_main_cst_3_apply, zero_value, zero_add]
  refine Finset.sum_congr rfl fun i _ => ?_
  have e : idx_main_v16 (idx_main_v17 (ix2 (0 : Fin 1) k)) i = ix2 i k := by
    funext a
    match a with
    | ⟨0, _⟩ => rfl
    | ⟨1, _⟩ => exact Fin.ext (by show 0 * 2048 + k.val = k.val; omega)
  rw [e, val_main_v15_apply, val_main_v12_apply, val_main_v11_apply, inv_at]
  exact mul_comm _ _

end Cert.Reference19Ideal.Rows

end
-- ==== Proof.Layer.lean ====
/-
  Two more calls of a layer: the attention's projection to queries, keys and values, the queries scaled by a named constant; and
  the gradient of the norm before the layer.
-/
module

public import proofs.«01_k».proof.Defs
public import proofs.«01_k».proof.Proof.Product18
public import proofs.«01_k».proof.Proof.Rows
public import proofs.«01_k».proof.Proof.Gen.Kernel18.Frame
public import proofs.«01_k».proof.Proof.Gen.Kernel19.Frame

@[expose] public section

set_option maxRecDepth 16384

noncomputable section

namespace Cert.Layer

open Idealize.ShloMosaic Idealize.SL.Sem

/-! ## Call 18: the projection to queries, keys and values -/

theorem printed_frame18 : Cert.quiescent_Kernel18 (hKernel18 := Cert.Kernel18.Gen.facts) := fun m g _ =>
  Cert.Kernel18.Gen.frame (F := Bits) m g

theorem exact_frame18 : Cert.quiescent_Kernel18Ideal (hKernel18Ideal := Cert.Kernel18Ideal.Gen.facts) := fun m g _ =>
  Cert.Kernel18Ideal.Gen.frame (F := Ideal) m g

theorem plain_frame18 : Cert.quiescent_Reference18Ideal (hReference18Ideal := Cert.Reference18Ideal.Gen.facts) := fun m g _ =>
  (θ_run _ _ _).mono (fun r h => ⟨fun c => (h c).2, sem_eq_zero_of_no_sems (by decide) r.2⟩) (Cert.Reference18Ideal.Value.run m g)

/-- The word of the queries' factor is the f32 nearest to the number it is named for. -/
theorem constant18 : Cert.preserves_Kernel18_Kernel18Ideal :=
  IdealRules.named_const.statement Cert.Kernel18Ideal.κ "q_fold" .f32 0x3E0293EE#32 _ rfl

theorem same18 : Cert.algebraic_Kernel18Ideal_Reference18Ideal (hKernel18Ideal := Cert.Kernel18Ideal.Gen.facts)
    (hReference18Ideal := Cert.Reference18Ideal.Gen.facts) := fun m g m' g' _ hag => by
  refine ⟨fun c => fun i : Cert.Kernel18Ideal.S8192x6144.Idx => Cert.Kernel18Ideal.Product.entry m c (i 0) (i 1),
    (θ_run _ _ _).mono (fun r h c => ⟨(h c).1.trans (Cert.Kernel18Ideal.Product.final m c), (h c).2⟩) (Cert.Kernel18Ideal.Value.run_blocks m g), ?_⟩
  refine (θ_run _ _ _).mono (fun r h c => ⟨(h c).1.trans ((Cert.Reference18Ideal.Read.val_main_v11_eq _ _).trans ?_), (h c).2⟩)
    (Cert.Reference18Ideal.Value.run m' g')
  obtain ⟨e0, e1⟩ := hag c
  rw [e0, e1]
  funext i
  obtain ⟨a, b, rfl⟩ : ∃ (a : Fin 8192) (b : Fin 6144), i = ix2 a b :=
    ⟨i 0, i 1, funext fun a => match a with | ⟨0, _⟩ => rfl | ⟨1, _⟩ => rfl⟩
  exact Cert.Reference18Ideal.Product.result _ _ a b

/-! ## Call 19: the gradient of a layer's norm -/

theorem printed_frame19 : Cert.quiescent_Kernel19 (hKernel19 := Cert.Kernel19.Gen.facts) := fun m g _ =>
  Cert.Kernel19.Gen.frame (F := Bits) m g

theorem exact_frame19 : Cert.quiescent_Kernel19Ideal (hKernel19Ideal := Cert.Kernel19Ideal.Gen.facts) := fun m g _ =>
  Cert.Kernel19Ideal.Gen.frame (F := Ideal) m g

theorem plain_frame19 : Cert.quiescent_Reference19Ideal (hReference19Ideal := Cert.Reference19Ideal.Gen.facts) := fun m g _ =>
  (θ_run _ _ _).mono (fun r h => ⟨fun c => (h c).2.2, sem_eq_zero_of_no_sems (by decide) r.2⟩) (Cert.Reference19Ideal.Value.run m g)

section

open Cert.Kernel19Ideal Cert.Kernel19Ideal.Rows Cert.Norm

/-- The reference's rows' gradient is the kernel's. -/
theorem same_rows (m : (ℓ : Loc nD τ sig) → Buf (Elt Ideal) ℓ) (c : Dev nD) (i : Fin 8192) (k : Fin 2048) :
    plainForm (row m c i) (fun j => above m c i j * gain m c j) (base m c i k) count small half k = rowsEntry m c i k := by
  obtain ⟨e, he, he'⟩ := small_eq
  exact (forms_agree _ _ count_eq he he' half_eq _ k).symm

end

theorem same19 : Cert.algebraic_Kernel19Ideal_Reference19Ideal (hKernel19Ideal := Cert.Kernel19Ideal.Gen.facts)
    (hReference19Ideal := Cert.Reference19Ideal.Gen.facts) := fun m g m' g' _ hag => by
  refine ⟨fun c => fun i : Cert.Kernel19Ideal.S8192x2048.Idx => Cert.Kernel19Ideal.Rows.rowsEntry m c (i 0) (i 1),
    fun c => fun i : Cert.Kernel19Ideal.S1x2048.Idx => Cert.Kernel19Ideal.Rows.gainEntry m c (i 1),
    (θ_run _ _ _).mono (fun r h c => ⟨(h c).1.trans (Cert.Kernel19Ideal.Rows.final_rows m c),
      (h c).2.1.trans (Cert.Kernel19Ideal.Rows.final_gain m c), (h c).2.2⟩) (Cert.Kernel19Ideal.Value.run_blocks m g), ?_⟩
  refine (θ_run _ _ _).mono (fun r h c => ⟨(h c).1.trans ((Cert.Reference19Ideal.Read.val_main_v34_eq _ _ _ _).trans ?_),
    (h c).2.1.trans ((Cert.Reference19Ideal.Read.val_main_v17_eq _ _).trans ?_), (h c).2.2⟩) (Cert.Reference19Ideal.Value.run m' g')
  · obtain ⟨e0, e1, e2, e3⟩ := hag c
    rw [e0, e1, e2, e3]
    funext i
    obtain ⟨a, b, rfl⟩ : ∃ (a : Fin 8192) (b : Fin 2048), i = ix2 a b :=
      ⟨i 0, i 1, funext fun a => match a with | ⟨0, _⟩ => rfl | ⟨1, _⟩ => rfl⟩
    exact (Cert.Reference19Ideal.Rows.rows_result _ _ _ _ a b).trans (same_rows m c a b)
  · obtain ⟨e0, _, e2, _⟩ := hag c
    rw [e0, e2]
    funext i
    obtain ⟨b, rfl⟩ : ∃ b : Fin 2048, i = ix2 (0 : Fin 1) b :=
      ⟨i 1, funext fun a => match a with | ⟨0, _⟩ => Subsingleton.elim (α := Fin 1) _ _ | ⟨1, _⟩ => rfl⟩
    exact Cert.Reference19Ideal.Rows.gain_result _ _ b

end Cert.Layer

end
-- ==== Proof.Normed.lean ====
/-
  The norm of a layer's rows: the kernel takes a block of rows a grid point, and every row is scaled by the reciprocal of its norm
  and by the gain, as the reference does it.
-/
module

public import proofs.«01_k».proof.Defs
public import proofs.«01_k».proof.Proof.Rows
public import proofs.«01_k».proof.Proof.Gen.Kernel20Ideal
public import proofs.«01_k».proof.Proof.Gen.Reference20Ideal
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel20.Frame

@[expose] public section

set_option maxRecDepth 16384

noncomputable section

namespace Cert.Kernel20Ideal.Normed

open Cert.Kernel20Ideal Cert.Kernel20Ideal.Gen Idealize.ShloMosaic Idealize.ShloMosaic.TcCoe Idealize.SL.Sem Cert.Norm

theorem corner : (![0, 0] : Fin 2 → Nat) = fun _ => 0 := funext fun a => by fin_cases a <;> rfl

section
variable {F : FTy → Type} [FloatOps F]
variable (m : (ℓ : Loc nD τ sig) → Buf (Elt F) ℓ)

/-- What a grid point writes. -/
theorem block (x : Vec F S512x2048 .f32) (g : Vec F S1x2048 .f32) : out0_2 x g = k0_pay1 x g := by
  unfold out0_2
  rw [View.canon_unit_zero corner]
  unfold r0_0 r0_1
  rw [View.ld_unit_zero (S := S512x2048) corner, View.ld_unit_zero (S := S1x2048) corner]

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

/-- A row of a block as a row of its array. -/
abbrev rowOf (t : Fin cfg0.N) (r : Fin 512) : Fin 8192 := ⟨512 * t.val + r.val, by have h : t.val < 16 := t.isLt; omega⟩

theorem iblk0 (c : Dev nD) (t : Fin cfg0.N) (r : Fin 512) (k : Fin 2048) :
    iblk m c 0 t (ix2 r k) = V m c main_arg0 (ix2 (rowOf t r) k) := by
  blk_simp [iblk]
  refine congrArg (V m c main_arg0) ?_
  blk_ext [index0]

theorem iblk1 (c : Dev nD) (t : Fin cfg0.N) (k : Fin 2048) :
    iblk m c 1 t (ix2 (0 : Fin 1) k) = V m c main_arg1 (ix2 (0 : Fin 1) k) := by
  blk_simp [iblk]
  refine congrArg (V m c main_arg1) ?_
  blk_ext [index1]

end

/-- A block's element: the row's, by the reciprocal of the row's norm and by the gain. -/
theorem block_apply (x : Vec Ideal S512x2048 .f32) (g : Vec Ideal S1x2048 .f32) (r : Fin 512) (k : Fin 2048) :
    (k0_pay1 x g (ix2 r k) : EReal) = (x (ix2 r k) * inv fun j => x (ix2 r j)) * g (ix2 (0 : Fin 1) k) := by
  pointwise [k0_pay1]
  rfl

variable (m : (ℓ : Loc nD τ sig) → Buf (Elt Ideal) ℓ)

def row (c : Dev nD) (i : Fin 8192) (k : Fin 2048) : EReal := m ((c : Thread nD τ).loc main_arg0) (ix2 i k)
def gain (c : Dev nD) (k : Fin 2048) : EReal := m ((c : Thread nD τ).loc main_arg1) (ix2 (0 : Fin 1) k)

/-- The normalised row at `(i, k)`. -/
def entry (c : Dev nD) (i : Fin 8192) (k : Fin 2048) : EReal := row m c i k * inv (row m c i) * gain m c k

theorem block_entry (c : Dev nD) (t : Fin cfg0.N) (r : Fin 512) (k : Fin 2048) (i : Fin 8192) (hi : i = rowOf t r) :
    (out0_2 (iblk m c 0 t) (iblk m c 1 t) (ix2 r k) : EReal) = entry m c i k := by
  have hx : ∀ j, (iblk m c 0 t (ix2 r j) : EReal) = row m c (rowOf t r) j := fun j => (iblk0 m c t r j).trans (congrFun (V_main_arg0 m c) _)
  have hg : (iblk m c 1 t (ix2 (0 : Fin 1) k) : EReal) = gain m c k := (iblk1 m c t k).trans (congrFun (V_main_arg1 m c) _)
  rw [block, block_apply, hi, hx, hg, show (fun j => (iblk m c 0 t (ix2 r j) : EReal)) = row m c (rowOf t r) from funext hx]
  rfl

/-- The array as the kernel leaves it. -/
theorem final (c : Dev nD) : (dats m 0 c).arrAt 2 cfg0.N = fun i : S8192x2048.Idx => entry m c (i 0) (i 1) := by
  refine Pipeline.Dat.arrAt_eq_of_covers _ 2 _ (by decide +kernel) fun t hf y => ?_
  obtain ⟨r, s, rfl⟩ : ∃ (r : Fin 512) (s : Fin 2048), y = ix2 r s :=
    ⟨y 0, y 1, funext fun a => match a with | ⟨0, _⟩ => rfl | ⟨1, _⟩ => rfl⟩
  have e1 : ((win0_2.blk t).view.emb (ix2 r s) 1) = s := Fin.ext (by
    show win0_2.index t (1 : Fin 2) * 2048 + 1 * s.val = s.val; rw [index2]; show 0 * 2048 + 1 * s.val = _; omega)
  have hb := block_entry m c t r s ((win0_2.blk t).view.emb (ix2 r s) 0) (Fin.ext (by
    show win0_2.index t (0 : Fin 2) * 512 + 1 * r.val = 512 * t.val + r.val; rw [index2]; show t.val * 512 + 1 * r.val = _; omega))
  rw [after0_2]
  generalize out0_2 (iblk m c 0 t) (iblk m c 1 t) = o at hb ⊢
  exact hb.trans (congrArg (entry m c _) e1.symm)

end Cert.Kernel20Ideal.Normed

namespace Cert.Reference20Ideal.Normed

open Cert.Reference20Ideal Cert.Reference20Ideal.Gen Cert.Reference20Ideal.Read Idealize.ShloMosaic Idealize.ShloMosaic.TcCoe
open Idealize.SL.Sem Cert.Norm

variable (x0 : (⟨S8192x2048, .f32⟩ : BufTy).Contents (Elt Ideal)) (x1 : (⟨S1x2048, .f32⟩ : BufTy).Contents (Elt Ideal))

theorem inv_at (p : S8192x1.Idx) : (val_main_v7 (F := Ideal) x0 p : EReal) = inv fun k => x0 (ix2 (p 0 : Fin 8192) k) := by
  rw [val_main_v7_apply, val_main_v6_apply, val_main_v4_apply, val_main_v5_apply, val_main_cst_1_apply, val_main_v3_apply,
    val_main_cst_0_apply, val_main_v2_apply, val_main_v1_apply, val_main_cst_apply, Cert.Reference19Ideal.Rows.zero_value, zero_add]
  refine congrArg (fun z : EReal => Ideal.rsqrt (Ideal.div z count + small)) (Finset.sum_congr rfl fun k _ => ?_)
  rw [val_main_v0_apply]
  refine congrArg (fun q => (x0 q : EReal) * (x0 q : EReal)) ?_
  funext a
  match a with
  | ⟨0, _⟩ => rfl
  | ⟨1, _⟩ => rfl

/-- What the reference computes at `(i, k)`. -/
theorem result (i : Fin 8192) (k : Fin 2048) : (val_main_v12 (F := Ideal) x0 x1 (ix2 i k) : EReal)
    = (x0 (ix2 i k) * inv fun j => x0 (ix2 i j)) * x1 (ix2 (0 : Fin 1) k) := by
  rw [val_main_v12_apply, val_main_v11_apply, val_main_v10_apply, val_main_v9_apply, val_main_v8_apply, inv_at]
  refine congrArg (fun q => ((x0 (ix2 i k) : EReal) * inv fun j => x0 (ix2 i j)) * (x1 q : EReal)) ?_
  funext a
  match a with
  | ⟨0, _⟩ => rfl
  | ⟨1, _⟩ => rfl

end Cert.Reference20Ideal.Normed

namespace Cert.Layer

open Idealize.ShloMosaic Idealize.SL.Sem

/-! ## Call 20: a layer's norm -/

theorem printed_frame20 : Cert.quiescent_Kernel20 (hKernel20 := Cert.Kernel20.Gen.facts) := fun m g _ =>
  Cert.Kernel20.Gen.frame (F := Bits) m g

theorem exact_frame20 : Cert.quiescent_Kernel20Ideal (hKernel20Ideal := Cert.Kernel20Ideal.Gen.facts) := fun m g _ =>
  Cert.Kernel20Ideal.Gen.frame (F := Ideal) m g

theorem plain_frame20 : Cert.quiescent_Reference20Ideal (hReference20Ideal := Cert.Reference20Ideal.Gen.facts) := fun m g _ =>
  (θ_run _ _ _).mono (fun r h => ⟨fun c => (h c).2, sem_eq_zero_of_no_sems (by decide) r.2⟩) (Cert.Reference20Ideal.Value.run m g)

theorem same20 : Cert.algebraic_Kernel20Ideal_Reference20Ideal (hKernel20Ideal := Cert.Kernel20Ideal.Gen.facts)
    (hReference20Ideal := Cert.Reference20Ideal.Gen.facts) := fun m g m' g' _ hag => by
  refine ⟨fun c => fun i : Cert.Kernel20Ideal.S8192x2048.Idx => Cert.Kernel20Ideal.Normed.entry m c (i 0) (i 1),
    (θ_run _ _ _).mono (fun r h c => ⟨(h c).1.trans (Cert.Kernel20Ideal.Normed.final m c), (h c).2⟩) (Cert.Kernel20Ideal.Value.run_blocks m g), ?_⟩
  refine (θ_run _ _ _).mono (fun r h c => ⟨(h c).1.trans ((Cert.Reference20Ideal.Read.val_main_v12_eq _ _).trans ?_), (h c).2⟩)
    (Cert.Reference20Ideal.Value.run m' g')
  obtain ⟨e0, e1⟩ := hag c
  rw [e0, e1]
  funext i
  obtain ⟨a, b, rfl⟩ : ∃ (a : Fin 8192) (b : Fin 2048), i = ix2 a b :=
    ⟨i 0, i 1, funext fun a => match a with | ⟨0, _⟩ => rfl | ⟨1, _⟩ => rfl⟩
  exact Cert.Reference20Ideal.Normed.result _ _ a b

end Cert.Layer

end
-- ==== Proof.Updates.lean ====
/-
  The claims of the optimiser's calls. A call's three results are functions of its four arguments element by element, a block
  of rows a grid point; over the extended reals they are the reference's, whose division and square root are the kernel's.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import Idealize.ShloMosaic.Lib.Quiescent

@[expose] public section

set_option maxRecDepth 16384

noncomputable section

namespace Cert.Updates

open Idealize.ShloMosaic Idealize.SL.Sem

/-! ## The step of norm_gains (and hgrn_lb_logits, which has its shape) -/

theorem printed_frame11 : Cert.quiescent_Kernel11 (hKernel11 := Cert.Kernel11.Gen.facts) := fun m g _ =>
  Cert.Kernel11.Gen.frame (F := Bits) m g

theorem exact_frame11 : Cert.quiescent_Kernel11Ideal (hKernel11Ideal := Cert.Kernel11Ideal.Gen.facts) := fun m g _ =>
  Cert.Kernel11Ideal.Gen.frame (F := Ideal) m g

theorem plain_frame11 : Cert.quiescent_Reference11Ideal (hReference11Ideal := Cert.Reference11Ideal.Gen.facts) := fun m g _ =>
  (θ_run _ _ _).mono (fun r h => ⟨fun c => (h c).2.2.2, sem_eq_zero_of_no_sems (by decide) r.2⟩) (Cert.Reference11Ideal.Value.run m g)

theorem same11 : Cert.algebraic_Kernel11Ideal_Reference11Ideal (hKernel11Ideal := Cert.Kernel11Ideal.Gen.facts)
    (hReference11Ideal := Cert.Reference11Ideal.Gen.facts) := fun m g m' g' _ hag => by
  refine ⟨_, _, _, Cert.Kernel11Ideal.Value.run m g, (θ_run _ _ _).mono (fun r h c => ?_) (Cert.Reference11Ideal.Value.run m' g')⟩
  obtain ⟨e0, e1, e2, e3⟩ := hag c
  obtain ⟨h0, h1, h2, hk⟩ := h c
  rw [e0, e1, e2, e3] at h0
  rw [e1, e2] at h1
  rw [e1, e3] at h2
  exact ⟨h0, h1, h2, hk⟩

/-! ## The step of fox_w_in -/

theorem printed_frame12 : Cert.quiescent_Kernel12 (hKernel12 := Cert.Kernel12.Gen.facts) := fun m g _ =>
  Cert.Kernel12.Gen.frame (F := Bits) m g

theorem exact_frame12 : Cert.quiescent_Kernel12Ideal (hKernel12Ideal := Cert.Kernel12Ideal.Gen.facts) := fun m g _ =>
  Cert.Kernel12Ideal.Gen.frame (F := Ideal) m g

theorem plain_frame12 : Cert.quiescent_Reference12Ideal (hReference12Ideal := Cert.Reference12Ideal.Gen.facts) := fun m g _ =>
  (θ_run _ _ _).mono (fun r h => ⟨fun c => (h c).2.2.2, sem_eq_zero_of_no_sems (by decide) r.2⟩) (Cert.Reference12Ideal.Value.run m g)

theorem same12 : Cert.algebraic_Kernel12Ideal_Reference12Ideal (hKernel12Ideal := Cert.Kernel12Ideal.Gen.facts)
    (hReference12Ideal := Cert.Reference12Ideal.Gen.facts) := fun m g m' g' _ hag => by
  refine ⟨_, _, _, Cert.Kernel12Ideal.Value.run m g, (θ_run _ _ _).mono (fun r h c => ?_) (Cert.Reference12Ideal.Value.run m' g')⟩
  obtain ⟨e0, e1, e2, e3⟩ := hag c
  obtain ⟨h0, h1, h2, hk⟩ := h c
  rw [e0, e1, e2, e3] at h0
  rw [e1, e2] at h1
  rw [e1, e3] at h2
  exact ⟨h0, h1, h2, hk⟩

/-! ## The step of fox_b_f -/

theorem printed_frame13 : Cert.quiescent_Kernel13 (hKernel13 := Cert.Kernel13.Gen.facts) := fun m g _ =>
  Cert.Kernel13.Gen.frame (F := Bits) m g

theorem exact_frame13 : Cert.quiescent_Kernel13Ideal (hKernel13Ideal := Cert.Kernel13Ideal.Gen.facts) := fun m g _ =>
  Cert.Kernel13Ideal.Gen.frame (F := Ideal) m g

theorem plain_frame13 : Cert.quiescent_Reference13Ideal (hReference13Ideal := Cert.Reference13Ideal.Gen.facts) := fun m g _ =>
  (θ_run _ _ _).mono (fun r h => ⟨fun c => (h c).2.2.2, sem_eq_zero_of_no_sems (by decide) r.2⟩) (Cert.Reference13Ideal.Value.run m g)

theorem same13 : Cert.algebraic_Kernel13Ideal_Reference13Ideal (hKernel13Ideal := Cert.Kernel13Ideal.Gen.facts)
    (hReference13Ideal := Cert.Reference13Ideal.Gen.facts) := fun m g m' g' _ hag => by
  refine ⟨_, _, _, Cert.Kernel13Ideal.Value.run m g, (θ_run _ _ _).mono (fun r h c => ?_) (Cert.Reference13Ideal.Value.run m' g')⟩
  obtain ⟨e0, e1, e2, e3⟩ := hag c
  obtain ⟨h0, h1, h2, hk⟩ := h c
  rw [e0, e1, e2, e3] at h0
  rw [e1, e2] at h1
  rw [e1, e3] at h2
  exact ⟨h0, h1, h2, hk⟩

/-! ## The step of hgrn_w_in -/

theorem printed_frame14 : Cert.quiescent_Kernel14 (hKernel14 := Cert.Kernel14.Gen.facts) := fun m g _ =>
  Cert.Kernel14.Gen.frame (F := Bits) m g

theorem exact_frame14 : Cert.quiescent_Kernel14Ideal (hKernel14Ideal := Cert.Kernel14Ideal.Gen.facts) := fun m g _ =>
  Cert.Kernel14Ideal.Gen.frame (F := Ideal) m g

theorem plain_frame14 : Cert.quiescent_Reference14Ideal (hReference14Ideal := Cert.Reference14Ideal.Gen.facts) := fun m g _ =>
  (θ_run _ _ _).mono (fun r h => ⟨fun c => (h c).2.2.2, sem_eq_zero_of_no_sems (by decide) r.2⟩) (Cert.Reference14Ideal.Value.run m g)

theorem same14 : Cert.algebraic_Kernel14Ideal_Reference14Ideal (hKernel14Ideal := Cert.Kernel14Ideal.Gen.facts)
    (hReference14Ideal := Cert.Reference14Ideal.Gen.facts) := fun m g m' g' _ hag => by
  refine ⟨_, _, _, Cert.Kernel14Ideal.Value.run m g, (θ_run _ _ _).mono (fun r h c => ?_) (Cert.Reference14Ideal.Value.run m' g')⟩
  obtain ⟨e0, e1, e2, e3⟩ := hag c
  obtain ⟨h0, h1, h2, hk⟩ := h c
  rw [e0, e1, e2, e3] at h0
  rw [e1, e2] at h1
  rw [e1, e3] at h2
  exact ⟨h0, h1, h2, hk⟩

/-! ## The step of hgrn_onorm -/

theorem printed_frame15 : Cert.quiescent_Kernel15 (hKernel15 := Cert.Kernel15.Gen.facts) := fun m g _ =>
  Cert.Kernel15.Gen.frame (F := Bits) m g

theorem exact_frame15 : Cert.quiescent_Kernel15Ideal (hKernel15Ideal := Cert.Kernel15Ideal.Gen.facts) := fun m g _ =>
  Cert.Kernel15Ideal.Gen.frame (F := Ideal) m g

theorem plain_frame15 : Cert.quiescent_Reference15Ideal (hReference15Ideal := Cert.Reference15Ideal.Gen.facts) := fun m g _ =>
  (θ_run _ _ _).mono (fun r h => ⟨fun c => (h c).2.2.2, sem_eq_zero_of_no_sems (by decide) r.2⟩) (Cert.Reference15Ideal.Value.run m g)

theorem same15 : Cert.algebraic_Kernel15Ideal_Reference15Ideal (hKernel15Ideal := Cert.Kernel15Ideal.Gen.facts)
    (hReference15Ideal := Cert.Reference15Ideal.Gen.facts) := fun m g m' g' _ hag => by
  refine ⟨_, _, _, Cert.Kernel15Ideal.Value.run m g, (θ_run _ _ _).mono (fun r h c => ?_) (Cert.Reference15Ideal.Value.run m' g')⟩
  obtain ⟨e0, e1, e2, e3⟩ := hag c
  obtain ⟨h0, h1, h2, hk⟩ := h c
  rw [e0, e1, e2, e3] at h0
  rw [e1, e2] at h1
  rw [e1, e3] at h2
  exact ⟨h0, h1, h2, hk⟩

/-! ## The step of w_out -/

theorem printed_frame16 : Cert.quiescent_Kernel16 (hKernel16 := Cert.Kernel16.Gen.facts) := fun m g _ =>
  Cert.Kernel16.Gen.frame (F := Bits) m g

theorem exact_frame16 : Cert.quiescent_Kernel16Ideal (hKernel16Ideal := Cert.Kernel16Ideal.Gen.facts) := fun m g _ =>
  Cert.Kernel16Ideal.Gen.frame (F := Ideal) m g

theorem plain_frame16 : Cert.quiescent_Reference16Ideal (hReference16Ideal := Cert.Reference16Ideal.Gen.facts) := fun m g _ =>
  (θ_run _ _ _).mono (fun r h => ⟨fun c => (h c).2.2.2, sem_eq_zero_of_no_sems (by decide) r.2⟩) (Cert.Reference16Ideal.Value.run m g)

theorem same16 : Cert.algebraic_Kernel16Ideal_Reference16Ideal (hKernel16Ideal := Cert.Kernel16Ideal.Gen.facts)
    (hReference16Ideal := Cert.Reference16Ideal.Gen.facts) := fun m g m' g' _ hag => by
  refine ⟨_, _, _, Cert.Kernel16Ideal.Value.run m g, (θ_run _ _ _).mono (fun r h c => ?_) (Cert.Reference16Ideal.Value.run m' g')⟩
  obtain ⟨e0, e1, e2, e3⟩ := hag c
  obtain ⟨h0, h1, h2, hk⟩ := h c
  rw [e0, e1, e2, e3] at h0
  rw [e1, e2] at h1
  rw [e1, e3] at h2
  exact ⟨h0, h1, h2, hk⟩

/-! ## The step of final_gain -/

theorem printed_frame17 : Cert.quiescent_Kernel17 (hKernel17 := Cert.Kernel17.Gen.facts) := fun m g _ =>
  Cert.Kernel17.Gen.frame (F := Bits) m g

theorem exact_frame17 : Cert.quiescent_Kernel17Ideal (hKernel17Ideal := Cert.Kernel17Ideal.Gen.facts) := fun m g _ =>
  Cert.Kernel17Ideal.Gen.frame (F := Ideal) m g

theorem plain_frame17 : Cert.quiescent_Reference17Ideal (hReference17Ideal := Cert.Reference17Ideal.Gen.facts) := fun m g _ =>
  (θ_run _ _ _).mono (fun r h => ⟨fun c => (h c).2.2.2, sem_eq_zero_of_no_sems (by decide) r.2⟩) (Cert.Reference17Ideal.Value.run m g)

theorem same17 : Cert.algebraic_Kernel17Ideal_Reference17Ideal (hKernel17Ideal := Cert.Kernel17Ideal.Gen.facts)
    (hReference17Ideal := Cert.Reference17Ideal.Gen.facts) := fun m g m' g' _ hag => by
  refine ⟨_, _, _, Cert.Kernel17Ideal.Value.run m g, (θ_run _ _ _).mono (fun r h c => ?_) (Cert.Reference17Ideal.Value.run m' g')⟩
  obtain ⟨e0, e1, e2, e3⟩ := hag c
  obtain ⟨h0, h1, h2, hk⟩ := h c
  rw [e0, e1, e2, e3] at h0
  rw [e1, e2] at h1
  rw [e1, e3] at h2
  exact ⟨h0, h1, h2, hk⟩

end Cert.Updates

end
-- ==== Proof.Run.lean ====
/- One trip of the kernel's loop over the query blocks, and the loop, as functions of the five accumulators. -/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen VecWindow

variable {F : FTy → Type} [FloatOps F] [Named F]

local notation "𝕄" => MT nD τ sig Unit (Elt F) ℕ (UR sig nD τ) ℕ

/-- The five accumulators a grid point works on: the gradients of its key and value block and of its decays, and
    over the whole head (kept from point to point) the query gradient, transposed, and its row sums. -/
structure St (F : FTy → Type) where
  dk : Vec F S1024x128 .f32
  dv : Vec F S1024x128 .f32
  dc : Vec F S1024x1 .f32
  dq : Vec F S128x8192 .f32
  rs : Vec F S1x8192 .f32

/-- What a grid point reads: its key block, value block and decays, the head's queries and output gradients, the
    rows' logarithms and the rows' sums. -/
structure Inp (F : FTy → Type) where
  k : Vec F S1024x128 .bf16
  v : Vec F S1024x128 .bf16
  q : Vec F S8192x128 .bf16
  dout : Vec F S8192x128 .bf16
  lse : Vec F S1x1x8192 .f32
  dl : Vec F S1x1x8192 .f32
  c : Vec F S1024x128 .f32

/-- A load at a unit-stride rectangle reads a window. -/
theorem readAt_window {κ : Kind} {sp : Space} {sh : Shape} {e : EltTy} (v : View sig κ sp sh e) (f : v.ty.Contents (Elt F))
    {off size : Fin sh.rank → ℕ} (inb : ∀ a, off a + size a ≤ sh.size a) :
    v.readAt (Elt F) (Rect.unit off size inb).toLoadRect f = window (v.read (Elt F) f) off size inb := rfl

/-- A window of the shape's own sizes is everything. -/
theorem window_full {sh : Shape} {α : Type} (x : sh.Idx → α) {off : Fin sh.rank → ℕ} (inb : ∀ a, off a + sh.size a ≤ sh.size a) :
    window x off sh.size inb = x :=
  funext fun y => congrArg x (Rect.emb_unit_full inb y)

section Pure

variable (i : grid0.Coords) (X : Inp F)

/-- The gradient of the logits of the loop's query block `k`. -/
def dst (k : Fin (k0_t1_loop i).trips) : FVec F S1024x1024 .f32 :=
  k0_pay9 (k0_pay27 X.k) (k0_pay28 X.v) (k0_pay29 X.c) (window X.q (k0_off5 i k) S1024x128.size (k0_off5_inb i k))
    (window X.dout (k0_off5 i k) S1024x128.size (k0_off5_inb i k)) (window X.lse (k0_off6 i k) S1x1x1024.size (k0_off6_inb i k))
    (window X.dl (k0_off6 i k) S1x1x1024.size (k0_off6_inb i k))

/-- The same as the products take it. -/
def dstb (k : Fin (k0_t1_loop i).trips) : FVec F S1024x1024 .bf16 :=
  k0_pay10 (k0_pay27 X.k) (k0_pay28 X.v) (k0_pay29 X.c) (window X.q (k0_off5 i k) S1024x128.size (k0_off5_inb i k))
    (window X.dout (k0_off5 i k) S1024x128.size (k0_off5_inb i k)) (window X.lse (k0_off6 i k) S1x1x1024.size (k0_off6_inb i k))
    (window X.dl (k0_off6 i k) S1x1x1024.size (k0_off6_inb i k))

/-- One trip of the loop: query block `k` after the diagonal one. -/
def tripSt (k : Fin (k0_t1_loop i).trips) (s : St F) : St F where
  dv := k0_pay8 (k0_pay27 X.k) (k0_pay29 X.c) (window X.q (k0_off5 i k) S1024x128.size (k0_off5_inb i k))
    (window X.dout (k0_off5 i k) S1024x128.size (k0_off5_inb i k)) (window X.lse (k0_off6 i k) S1x1x1024.size (k0_off6_inb i k)) s.dv
  dk := k0_pay11 (k0_pay27 X.k) (k0_pay28 X.v) (k0_pay29 X.c) (window X.q (k0_off5 i k) S1024x128.size (k0_off5_inb i k))
    (window X.dout (k0_off5 i k) S1024x128.size (k0_off5_inb i k)) (window X.lse (k0_off6 i k) S1x1x1024.size (k0_off6_inb i k))
    (window X.dl (k0_off6 i k) S1x1x1024.size (k0_off6_inb i k)) s.dk
  dc := k0_pay47 (dst i X k) s.dc
  dq := put s.dq (k0_off7 i k) S128x1024.size
    (k0_pay48 (k0_pay27 X.k) (dstb i X k) (window s.dq (k0_off7 i k) S128x1024.size (k0_off7_inb i k)))
  rs := put s.rs (k0_off8 i k) S1x1024.size
    (k0_pay49 (dst i X k) (window s.rs (k0_off8 i k) S1x1024.size (k0_off8_inb i k)))

/-- The accumulators before trip `k` of the loop, from those at its entry. -/
def loopSt (s : St F) : ℕ → St F
  | 0 => s
  | k + 1 => if h : k < (k0_t1_loop i).trips then tripSt i X ⟨k, h⟩ (loopSt s k) else loopSt s k

theorem loopSt_succ (s : St F) (k : Fin (k0_t1_loop i).trips) : loopSt i X s (k.val + 1) = tripSt i X k (loopSt i X s k.val) :=
  dif_pos k.isLt

/-! ## Before the loop -/

/-- The word the body asks of the key block's number: is it the first. -/
def cond1 (i : grid0.Coords) : BitVec 1 := Scalar.cmpi .ne (Scalar.extui (Scalar.cmpi .eq (BitVec.ofNat 32 (i 1).val) 0#32) : BitVec 32) 0#32

/-- The accumulators cleared: all five at a head's first key block, else the block's own three. -/
def zeroSt (s : St F) : St F where
  dk := k0_pay30
  dv := k0_pay31
  dc := k0_pay32
  dq := if cond1 i = 1#1 then k0_pay33 else s.dq
  rs := if cond1 i = 1#1 then k0_pay34 else s.rs

/-- The diagonal block's logits less the decays. -/
def diagLogit : FVec F S1024x1024 .f32 := k0_pay37 X.k X.c (window X.q (k0_off1 i) S1024x128.size (k0_off1_inb i))

/-- The gradient of the diagonal block's logits. -/
def diagDst : FVec F S1024x1024 .f32 :=
  k0_pay40 (k0_pay28 X.v) (k0_pay36 (window X.dout (k0_off1 i) S1024x128.size (k0_off1_inb i))) (diagLogit i X)
    (window X.lse (k0_off2 i) S1x1x1024.size (k0_off2_inb i)) (window X.dl (k0_off2 i) S1x1x1024.size (k0_off2_inb i))

/-- The same as the products take it. -/
def diagDstb : FVec F S1024x1024 .bf16 :=
  k0_pay41 (k0_pay28 X.v) (k0_pay36 (window X.dout (k0_off1 i) S1024x128.size (k0_off1_inb i))) (diagLogit i X)
    (window X.lse (k0_off2 i) S1x1x1024.size (k0_off2_inb i)) (window X.dl (k0_off2 i) S1x1x1024.size (k0_off2_inb i))

/-- The column sums of the diagonal block added to the decays' gradient. -/
def diagDc (s : St F) : FVec F S1024x1 .f32 :=
  k0_pay43 (k0_pay28 X.v) (k0_pay36 (window X.dout (k0_off1 i) S1024x128.size (k0_off1_inb i))) (diagLogit i X)
    (window X.lse (k0_off2 i) S1x1x1024.size (k0_off2_inb i)) (window X.dl (k0_off2 i) S1x1x1024.size (k0_off2_inb i)) s.dc

/-- The block's two gradients after the diagonal block. -/
def diagSt1 (s : St F) : St F where
  dv := k0_pay39 (k0_pay36 (window X.dout (k0_off1 i) S1024x128.size (k0_off1_inb i))) (diagLogit i X)
    (window X.lse (k0_off2 i) S1x1x1024.size (k0_off2_inb i)) s.dv
  dk := k0_pay42 (k0_pay28 X.v) (k0_pay35 (window X.q (k0_off1 i) S1024x128.size (k0_off1_inb i)))
    (k0_pay36 (window X.dout (k0_off1 i) S1024x128.size (k0_off1_inb i))) (diagLogit i X)
    (window X.lse (k0_off2 i) S1x1x1024.size (k0_off2_inb i)) (window X.dl (k0_off2 i) S1x1x1024.size (k0_off2_inb i)) s.dk
  dc := s.dc
  dq := s.dq
  rs := s.rs

/-- All five after the diagonal block. -/
def diagSt2 (s : St F) (t : St F) : St F where
  dv := t.dv
  dk := t.dk
  dc := k0_pay44 (diagDc i X s)
  dq := put t.dq (k0_off3 i) S128x1024.size
    (k0_pay45 (k0_pay27 X.k) (diagDstb i X) (window t.dq (k0_off3 i) S128x1024.size (k0_off3_inb i)))
  rs := put t.rs (k0_off4 i) S1x1024.size
    (k0_pay46 (diagDst i X) (window t.rs (k0_off4 i) S1x1024.size (k0_off4_inb i)))

/-- The accumulators after the whole of a grid point's work, from those it finds. -/
def pointSt (s : St F) : St F :=
  loopSt i X (diagSt2 i X (zeroSt i s) (diagSt1 i X (zeroSt i s))) (k0_t1_loop i).trips

/-! ## What is stored at the end -/

/-- The gradients' block: the key and value gradients into their slots; -/
def outKV (s : St F) (y : Vec F S4x8192x128 .bf16) : Vec F S4x8192x128 .bf16 :=
  put (put y (k0_off13 i) S1x1024x128.size (k0_pay53 s.dk)) (k0_off14 i) S1x1024x128.size (k0_pay1 s.dv)

/-- at a head's last key block the query gradient, eight blocks transposed, and the gate's gradient. -/
def outQ (s : St F) (g : Vec F S8192x128 .bf16) (y : Vec F S4x8192x128 .bf16) : Vec F S4x8192x128 .bf16 :=
  put (put (put (put (put (put (put (put (put y
    ![0, 0, 0] S1x1024x128.size (k0_pay19 (window s.dq ![0, 0] S128x1024.size inb_S128x8192_S128x1024_0_0)))
    ![0, 1024, 0] S1x1024x128.size (k0_pay20 (window s.dq ![0, 1024] S128x1024.size inb_S128x8192_S128x1024_0_1024)))
    ![0, 2048, 0] S1x1024x128.size (k0_pay21 (window s.dq ![0, 2048] S128x1024.size inb_S128x8192_S128x1024_0_2048)))
    ![0, 3072, 0] S1x1024x128.size (k0_pay22 (window s.dq ![0, 3072] S128x1024.size inb_S128x8192_S128x1024_0_3072)))
    ![0, 4096, 0] S1x1024x128.size (k0_pay23 (window s.dq ![0, 4096] S128x1024.size inb_S128x8192_S128x1024_0_4096)))
    ![0, 5120, 0] S1x1024x128.size (k0_pay24 (window s.dq ![0, 5120] S128x1024.size inb_S128x8192_S128x1024_0_5120)))
    ![0, 6144, 0] S1x1024x128.size (k0_pay25 (window s.dq ![0, 6144] S128x1024.size inb_S128x8192_S128x1024_0_6144)))
    ![0, 7168, 0] S1x1024x128.size (k0_pay26 (window s.dq ![0, 7168] S128x1024.size inb_S128x8192_S128x1024_0_7168)))
    ![3, 0, 0] S1x8192x128.size (k0_pay3 g)

end Pure

section Loop

variable (𝒱 : Variants) (c : Dev nD) (bd : Option 𝒱.V) (E : Set ℕ) (i : grid0.Coords) (X : Inp F)
  (arg2 : Memref sig .tc .vmem S1024x128 .bf16) (harg2 : arg2.IsWhole)
  (arg3 : Memref sig .tc .vmem S1024x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S1x1x8192 .f32) (harg6 : arg6.IsWhole)
  (arg7 : Memref sig .tc .vmem S1x1x8192 .f32) (harg7 : arg7.IsWhole)
  (arg8 : Memref sig .tc .vmem S1024x128 .f32) (harg8 : arg8.IsWhole)
  (arg9 : Memref sig .tc .vmem S8192x128 .bf16) (harg9 : arg9.IsWhole)
  (arg10 : Memref sig .tc .vmem S4x8192x128 .bf16) (harg10 : arg10.IsWhole)
  (arg11 : Memref sig .tc .vmem S1024x128 .f32) (harg11 : arg11.IsWhole)
  (arg12 : Memref sig .tc .vmem S1x1x8192 .f32) (harg12 : arg12.IsWhole)
  (arg13 : Memref sig .tc .vmem S1024x128 .f32) (harg13 : arg13.IsWhole)
  (arg14 : Memref sig .tc .vmem S1024x128 .f32) (harg14 : arg14.IsWhole)
  (arg15 : Memref sig .tc .vmem S1024x1 .f32) (harg15 : arg15.IsWhole)
  (arg16 : Memref sig .tc .vmem S128x8192 .f32) (harg16 : arg16.IsWhole)
  (arg17 : Memref sig .tc .vmem S1x8192 .f32) (harg17 : arg17.IsWhole)
  (arg1 v23 v88 : BitVec 32) (v56 : FVec F S1024x1024 .f32) (v57 : FVec F S1024x1024 .bf16) (v67 : FVec F S1024x1 .f32)
  (A4 : BufTy.Contents (Elt F) arg4.view.ty) (A5 : BufTy.Contents (Elt F) arg5.view.ty)
  (A6 : BufTy.Contents (Elt F) arg6.view.ty) (A7 : BufTy.Contents (Elt F) arg7.view.ty)

/-- What a trip touches: the four inputs it reads and the five accumulators at a state. -/
abbrev Held (s : St F) : sProp 𝕄 :=
  iprop((arg4.view.loc (c : Thread nD τ) ↦[arg4.view.set]{fullShare} A4) ∗ (arg5.view.loc (c : Thread nD τ) ↦[arg5.view.set]{fullShare} A5) ∗ (arg6.view.loc (c : Thread nD τ) ↦[arg6.view.set]{fullShare} A6) ∗ (arg7.view.loc (c : Thread nD τ) ↦[arg7.view.set]{fullShare} A7)
    ∗ (∃ f, (arg13.view.loc (c : Thread nD τ) ↦[arg13.view.set]{fullShare} f) ∗ ⌜arg13.view.read (Elt F) f = s.dk⌝)
    ∗ (∃ f, (arg14.view.loc (c : Thread nD τ) ↦[arg14.view.set]{fullShare} f) ∗ ⌜arg14.view.read (Elt F) f = s.dv⌝)
    ∗ (∃ f, (arg15.view.loc (c : Thread nD τ) ↦[arg15.view.set]{fullShare} f) ∗ ⌜arg15.view.read (Elt F) f = s.dc⌝)
    ∗ (∃ f, (arg16.view.loc (c : Thread nD τ) ↦[arg16.view.set]{fullShare} f) ∗ ⌜arg16.view.read (Elt F) f = s.dq⌝)
    ∗ (∃ f, (arg17.view.loc (c : Thread nD τ) ↦[arg17.view.set]{fullShare} f) ∗ ⌜arg17.view.read (Elt F) f = s.rs⌝))

/-- One trip of the loop takes the accumulators at `s` to `tripSt s`. -/
theorem trip_run (h4 : arg4.view.read (Elt F) A4 = X.q) (h5 : arg5.view.read (Elt F) A5 = X.dout)
    (h6 : arg6.view.read (Elt F) A6 = X.lse) (h7 : arg7.view.read (Elt F) A7 = X.dl)
    (k : Fin (k0_t1_loop i).trips) (s : St F) :
    Held c arg4 arg5 arg6 arg7 arg13 arg14 arg15 arg16 arg17 A4 A5 A6 A7 s
      ⊢ wp Idealize.ShloMosaic.frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (k0_pay27 X.k) (k0_pay28 X.v) (k0_pay29 X.c) v23 v56 v57 v67 v88 k PUnit.unit)
          (fun _ => Held c arg4 arg5 arg6 arg7 arg13 arg14 arg15 arg16 arg17 A4 A5 A6 A7 (tripSt i X k s)) := by
  unfold k0_t1_body
  iintro ⟨HR4, HR5, HR6, HR7, ⟨%f13, H13, %h13⟩, ⟨%f14, H14, %h14⟩, ⟨%f15, H15, %h15⟩, ⟨%f16, H16, %h16⟩, ⟨%f17, H17, %h17⟩⟩
  sl_exec
  sl_step
  isplitl [HR4]; · iexact HR4
  isplitl [HR5]; · iexact HR5
  isplitl [HR6]; · iexact HR6
  isplitl [HR7]; · iexact HR7
  isplitl [H13]
  · iexists _; isplitl [H13]; · iexact H13
    ipureintro
    refine (View.read_writes_full arg13.view _ _ _ _).trans ?_
    simp only [tripSt, ← h4, ← h5, ← h6, ← h7]
    rw [← window_full s.dk inb_S1024x128_S1024x128_0_0, ← h13]; rfl
  isplitl [H14]
  · iexists _; isplitl [H14]; · iexact H14
    ipureintro
    refine (View.read_writes_full arg14.view _ _ _ _).trans ?_
    simp only [tripSt, ← h4, ← h5, ← h6, ← h7]
    rw [← window_full s.dv inb_S1024x128_S1024x128_0_0, ← h14]; rfl
  isplitl [H15]
  · iexists _; isplitl [H15]; · iexact H15
    ipureintro
    refine (View.read_writes_full arg15.view _ _ _ _).trans ?_
    simp only [tripSt, dst, ← h4, ← h5, ← h6, ← h7]
    rw [← window_full s.dc inb_S1024x1_S1024x1_0_0, ← h15]; rfl
  isplitl [H16]
  · iexists _; isplitl [H16]; · iexact H16
    ipureintro
    refine (View.read_writes_cons_put arg16.view _ _ _ _ rfl).trans ?_
    simp only [tripSt, dstb, ← h4, ← h5, ← h6, ← h7, ← h16]; rfl
  iexists _; isplitl [H17]; · iexact H17
  ipureintro
  refine (View.read_writes_cons_put arg17.view _ _ _ _ rfl).trans ?_
  simp only [tripSt, dst, ← h4, ← h5, ← h6, ← h7, ← h17]; rfl

-- marker
/-- The diagonal block's adds into the decays', the query's and the row sums' accumulators: what runs before the loop. -/
def before (v1 : FVec F S1024x128 .bf16) (v56 : FVec F S1024x1024 .f32) (v57 : FVec F S1024x1024 .bf16) (v67 : FVec F S1024x1 .f32) :
    Prog (TpuEff nD τ sig (Elt F) Λ₀ .tc) PUnit := do
  Prog.lift (.store arg15 (Rect.unit (s := S1024x1) ![0, 0] S1024x1.size inb_S1024x1_S1024x1_0_0) (k0_pay44 v67) Finset.univ (View.stores_vmem_bits_univ h_S1024x1 rfl) (.inl rfl)) -- tpu.vector_store %arg15[%c0_36, %c0_37], %70 {strides = array<i32>} : memref<1024x1xf32, #tpu.memory_space<vmem>>, vector<1024x1xf32>,  @ test_k:63
  let a : Vec F S128x1024 .f32 ← Prog.lift (.load arg16 (Rect.unit (s := S128x8192) (k0_off3 i) S128x1024.size (k0_off3_inb i)).toLoadRect (View.loadsAt_vmem h_S128x1024)) -- %72 = vector.load %arg16[%c0_38, %71] : memref<128x8192xf32, #tpu.memory_space<vmem>>, vector<128x1024xf32>  @ test_k:86
  let _w76 : Vec F S128x1024 .f32 ← Prog.lift (.load arg16 (Rect.unit (s := S128x8192) (k0_off3 i) S128x1024.size (k0_off3_inb i)).toLoadRect (View.loadsAt_vmem h_S128x1024)) -- %76 = vector.load %arg16[%c0_40, %75] : memref<128x8192xf32, #tpu.memory_space<vmem>>, vector<128x1024xf32>  @ test_k:86
  Prog.lift (.store arg16 (Rect.unit (s := S128x8192) (k0_off3 i) S128x1024.size (k0_off3_inb i)) (k0_pay45 v1 v57 a) Finset.univ (View.stores_vmem_bits_univ h_S128x1024 rfl) (.inl rfl)) -- tpu.vector_store %arg16[%c0_40, %75], %78 {strides = array<i32>} : memref<128x8192xf32, #tpu.memory_space<vmem>>, vector<128x1024xf32>,  @ test_k:86
  let b : Vec F S1x1024 .f32 ← Prog.lift (.load arg17 (Rect.unit (s := S1x8192) (k0_off4 i) S1x1024.size (k0_off4_inb i)).toLoadRect (View.loadsAt_vmem h_S1x1024)) -- %80 = vector.load %arg17[%c0_41, %79] : memref<1x8192xf32, #tpu.memory_space<vmem>>, vector<1x1024xf32>  @ test_k:87
  let _w85 : Vec F S1x1024 .f32 ← Prog.lift (.load arg17 (Rect.unit (s := S1x8192) (k0_off4 i) S1x1024.size (k0_off4_inb i)).toLoadRect (View.loadsAt_vmem h_S1x1024)) -- %85 = vector.load %arg17[%c0_43, %84] : memref<1x8192xf32, #tpu.memory_space<vmem>>, vector<1x1024xf32>  @ test_k:87
  Prog.lift (.store arg17 (Rect.unit (s := S1x8192) (k0_off4 i) S1x1024.size (k0_off4_inb i)) (k0_pay46 v56 b) Finset.univ (View.stores_vmem_bits_univ h_S1x1024 rfl) (.inl rfl)) -- tpu.vector_store %arg17[%c0_43, %84], %87 {strides = array<i32>} : memref<1x8192xf32, #tpu.memory_space<vmem>>, vector<1x1024xf32>,  @ test_k:87

/-- The part that ends with the loop and the key gradient's store, cut at the loop. -/
theorem part7_split : k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (k0_pay27 X.k) (k0_pay28 X.v) (k0_pay29 X.c) v23 v56 v57 v67
    = before i arg15 arg16 arg17 (k0_pay27 X.k) v56 v57 v67 >>= fun _ =>
      Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (k0_pay27 X.k) (k0_pay28 X.v) (k0_pay29 X.c) v23 v56 v57 v67 (Scalar.addi arg1 1#32)) >>= fun _ => (do
        Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (k0_pay27 X.k) (k0_pay28 X.v) (k0_pay29 X.c) v23 v56 v57 v67 (Scalar.addi (Scalar.addi arg1 1#32) (Scalar.muli (Scalar.divsi (Scalar.subi 8#32 (Scalar.addi arg1 1#32)) 1#32) 1#32))) -- scf.for %arg18 = %93 to %90 step %c1_i32_47 : i32 {  @ test_k:95
        let v94 : BitVec 32 := Scalar.muli arg1 1024#32                       -- %94 = arith.muli %arg1, %c1024_i32_48 : i32  @ test_k:96
        let v95 : BitVec 32 := v94                                            -- %95 = tpu.assume_multiple %94, 1024 : i32  @ test_k:71
        let v96 : Vec F S1024x128 .f32 ← Prog.lift (.load arg13 (Rect.unit (s := S1024x128) ![0, 0] S1024x128.size inb_S1024x128_S1024x128_0_0).toLoadRect (View.loadsAt_vmem h_S1024x128)) -- %96 = vector.load %arg13[%c0_49, %c0_50] : memref<1024x128xf32, #tpu.memory_space<vmem>>, vector<1024x128xf32>  @ test_k:80
        -- %100 = arith.index_cast %95 : i32 to index  @ test_k:97  — not in the skeleton
        let v101 : Vec F S1x1024x128 .bf16 ← Prog.lift (.load arg10 (Rect.unit (s := S4x8192x128) (k0_off13 i) S1x1024x128.size (k0_off13_inb i)).toLoadRect (View.loadsAt_vmem h_S1x1024x128)) -- %101 = vector.load %arg10[%c1, %100, %c0_52] : memref<4x8192x128xbf16, #tpu.memory_space<vmem>>, vector<1x1024x128xbf16>  @ test_k:97
        -- %102 = vector.shape_cast %101 : vector<1x1024x128xbf16> to vector<1024x128xbf16>  @ test_k:97  — not in the skeleton
        Prog.lift (.store arg10 (Rect.unit (s := S4x8192x128) (k0_off13 i) S1x1024x128.size (k0_off13_inb i)) (k0_pay53 v96) Finset.univ (View.stores_vmem h_S1x1024x128 (harg10.storeExact_slice rfl _ (k0_off13_packedbf16 i)) (fun _ => rfl)) (.inl rfl)) -- tpu.vector_store %arg10[%c1, %100, %c0_52], %103 {strides = array<i32>} : memref<4x8192x128xbf16, #tpu.memory_space<vmem>>, vector<1x1024x128xbf16>,  @ test_k:97
        Prog.ret v95) := rfl

/-- The adds before the loop. -/
theorem before_run (s t : St F) (ht15 : v67 = diagDc i X s) (ht56 : v56 = diagDst i X) (ht57 : v57 = diagDstb i X) :
    Held c arg4 arg5 arg6 arg7 arg13 arg14 arg15 arg16 arg17 A4 A5 A6 A7 t
      ⊢ wp Idealize.ShloMosaic.frame (wpE (defs₀ (F := F)) 𝒱 (c : Thread nD τ) bd) E
          (before i arg15 arg16 arg17 (k0_pay27 X.k) v56 v57 v67)
          (fun _ => Held c arg4 arg5 arg6 arg7 arg13 arg14 arg15 arg16 arg17 A4 A5 A6 A7 (diagSt2 i X s t)) := by
  subst ht15 ht56 ht57
  unfold before
  iintro ⟨HR4, HR5, HR6, HR7, ⟨%f13, H13, %h13⟩, ⟨%f14, H14, %h14⟩, ⟨%f15, H15, %h15⟩, ⟨%f16, H16, %h16⟩, ⟨%f17, H17, %h17⟩⟩
  sl_exec
  sl_step
  isplitl [HR4]; · iexact HR4
  isplitl [HR5]; · iexact HR5
  isplitl [HR6]; · iexact HR6
  isplitl [HR7]; · iexact HR7
  isplitl [H13]
  · iexists _; isplitl [H13]; · iexact H13
    ipureintro
    exact h13
  isplitl [H14]
  · iexists _; isplitl [H14]; · iexact H14
    ipureintro
    exact h14
  isplitl [H15]
  · iexists _; isplitl [H15]; · iexact H15
    ipureintro
    exact View.read_writes_full arg15.view _ _ _ _
  isplitl [H16]
  · iexists _; isplitl [H16]; · iexact H16
    ipureintro
    refine (View.read_writes_cons_put arg16.view _ _ _ _ rfl).trans ?_
    simp only [diagSt2, ← h16]; rfl
  iexists _; isplitl [H17]; · iexact H17
  ipureintro
  refine (View.read_writes_cons_put arg17.view _ _ _ _ rfl).trans ?_
  simp only [diagSt2, ← h17]; rfl

/-- The diagonal block's gradients and the products into the block's own two accumulators. -/
theorem part6_run (h4 : arg4.view.read (Elt F) A4 = X.q) (h5 : arg5.view.read (Elt F) A5 = X.dout)
    (h6 : arg6.view.read (Elt F) A6 = X.lse) (h7 : arg7.view.read (Elt F) A7 = X.dl) (s : St F) :
    Held c arg4 arg5 arg6 arg7 arg13 arg14 arg15 arg16 arg17 A4 A5 A6 A7 s
      ⊢ wp Idealize.ShloMosaic.frame (wpE (defs₀ (F := F)) 𝒱 (c : Thread nD τ) bd) E
          (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay28 X.v) v23 (k0_pay35 (window X.q (k0_off1 i) S1024x128.size (k0_off1_inb i))) (k0_pay36 (window X.dout (k0_off1 i) S1024x128.size (k0_off1_inb i))) (diagLogit i X))
          (fun r => iprop(⌜r = ⟨diagDst i X, diagDstb i X, diagDc i X s⟩⌝ ∗ Held c arg4 arg5 arg6 arg7 arg13 arg14 arg15 arg16 arg17 A4 A5 A6 A7 (diagSt1 i X s))) := by
  rw [k0_part6_eq_skeleton]
  unfold k0_part6_skel
  iintro ⟨HR4, HR5, HR6, HR7, ⟨%f13, H13, %h13⟩, ⟨%f14, H14, %h14⟩, ⟨%f15, H15, %h15⟩, ⟨%f16, H16, %h16⟩, ⟨%f17, H17, %h17⟩⟩
  sl_exec
  sl_step
  isplitr
  · ipureintro
    simp only [diagDst, diagDstb, diagDc, ← h6, ← h7]
    rw [← window_full s.dc inb_S1024x1_S1024x1_0_0, ← h15]; rfl
  isplitl [HR4]; · iexact HR4
  isplitl [HR5]; · iexact HR5
  isplitl [HR6]; · iexact HR6
  isplitl [HR7]; · iexact HR7
  isplitl [H13]
  · iexists _; isplitl [H13]; · iexact H13
    ipureintro
    refine (View.read_writes_full arg13.view _ _ _ _).trans ?_
    simp only [diagSt1, ← h4, ← h5, ← h6, ← h7]
    rw [← window_full s.dk inb_S1024x128_S1024x128_0_0, ← h13]; rfl
  isplitl [H14]
  · iexists _; isplitl [H14]; · iexact H14
    ipureintro
    refine (View.read_writes_full arg14.view _ _ _ _).trans ?_
    simp only [diagSt1, ← h4, ← h5, ← h6, ← h7]
    rw [← window_full s.dv inb_S1024x128_S1024x128_0_0, ← h14]; rfl
  isplitl [H15]
  · iexists _; isplitl [H15]; · iexact H15
    ipureintro
    exact h15
  isplitl [H16]
  · iexists _; isplitl [H16]; · iexact H16
    ipureintro
    exact h16
  iexists _; isplitl [H17]; · iexact H17
  ipureintro
  exact h17

variable (A2 : BufTy.Contents (Elt F) arg2.view.ty) (A3 : BufTy.Contents (Elt F) arg3.view.ty)
  (A8 : BufTy.Contents (Elt F) arg8.view.ty) (A9 : BufTy.Contents (Elt F) arg9.view.ty)

/-- The block's key, value and decays. -/
abbrev Own : sProp 𝕄 :=
  iprop((arg2.view.loc (c : Thread nD τ) ↦[arg2.view.set]{fullShare} A2) ∗ (arg3.view.loc (c : Thread nD τ) ↦[arg3.view.set]{fullShare} A3)
    ∗ (arg8.view.loc (c : Thread nD τ) ↦[arg8.view.set]{fullShare} A8))

/-- The accumulators cleared and the diagonal block's logits read. -/
theorem part5_run (h2 : arg2.view.read (Elt F) A2 = X.k) (h3 : arg3.view.read (Elt F) A3 = X.v)
    (h8 : arg8.view.read (Elt F) A8 = X.c) (h4 : arg4.view.read (Elt F) A4 = X.q) (h5 : arg5.view.read (Elt F) A5 = X.dout) (s : St F) :
    iprop((arg2.view.loc (c : Thread nD τ) ↦[arg2.view.set]{fullShare} A2) ∗ (arg3.view.loc (c : Thread nD τ) ↦[arg3.view.set]{fullShare} A3)
        ∗ (arg8.view.loc (c : Thread nD τ) ↦[arg8.view.set]{fullShare} A8) ∗ Held c arg4 arg5 arg6 arg7 arg13 arg14 arg15 arg16 arg17 A4 A5 A6 A7 s)
      ⊢ wp Idealize.ShloMosaic.frame (wpE (defs₀ (F := F)) 𝒱 (c : Thread nD τ) bd) E
          (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = ⟨BitVec.ofNat 32 (i 1).val, k0_pay27 X.k, k0_pay28 X.v, k0_pay29 X.c,
              Scalar.muli (BitVec.ofNat 32 (i 1).val) 1024#32, k0_pay35 (window X.q (k0_off1 i) S1024x128.size (k0_off1_inb i)),
              k0_pay36 (window X.dout (k0_off1 i) S1024x128.size (k0_off1_inb i)), diagLogit i X⟩⌝
            ∗ (arg2.view.loc (c : Thread nD τ) ↦[arg2.view.set]{fullShare} A2) ∗ (arg3.view.loc (c : Thread nD τ) ↦[arg3.view.set]{fullShare} A3)
            ∗ (arg8.view.loc (c : Thread nD τ) ↦[arg8.view.set]{fullShare} A8) ∗ Held c arg4 arg5 arg6 arg7 arg13 arg14 arg15 arg16 arg17 A4 A5 A6 A7 (zeroSt i s))) := by
  rw [k0_part5_eq_skeleton]
  unfold k0_part5_skel
  by_cases hc : cond1 i = 1#1
  · have hc' : Scalar.cmpi .ne (Scalar.extui (Scalar.cmpi .eq (BitVec.ofNat 32 (i 1).val) 0#32) : BitVec 32) 0#32 = 1#1 := hc
    iintro ⟨HR2, HR3, HR8, HR4, HR5, HR6, HR7, ⟨%f13, H13, %h13⟩, ⟨%f14, H14, %h14⟩, ⟨%f15, H15, %h15⟩, ⟨%f16, H16, %h16⟩, ⟨%f17, H17, %h17⟩⟩
    sl_exec
    sl_step
    isplitr
    · ipureintro
      simp only [diagLogit, ← h4, ← h5]
      rw [← window_full X.k inb_S1024x128_S1024x128_0_0, ← window_full X.v inb_S1024x128_S1024x128_0_0, ← window_full X.c inb_S1024x128_S1024x128_0_0, ← h2, ← h3, ← h8]; rfl
    isplitl [HR2]; · iexact HR2
    isplitl [HR3]; · iexact HR3
    isplitl [HR8]; · iexact HR8
    isplitl [HR4]; · iexact HR4
    isplitl [HR5]; · iexact HR5
    isplitl [HR6]; · iexact HR6
    isplitl [HR7]; · iexact HR7
    isplitl [H13]
    · iexists _; isplitl [H13]; · iexact H13
      ipureintro
      exact View.read_writes_full arg13.view _ _ _ _
    isplitl [H14]
    · iexists _; isplitl [H14]; · iexact H14
      ipureintro
      exact View.read_writes_full arg14.view _ _ _ _
    isplitl [H15]
    · iexists _; isplitl [H15]; · iexact H15
      ipureintro
      exact View.read_writes_full arg15.view _ _ _ _
    isplitl [H16]
    · iexists _; isplitl [H16]; · iexact H16
      ipureintro
      exact (View.read_writes_full arg16.view _ _ _ _).trans (if_pos hc).symm
    iexists _; isplitl [H17]; · iexact H17
    ipureintro
    exact (View.read_writes_full arg17.view _ _ _ _).trans (if_pos hc).symm

  · have hc' : ¬ Scalar.cmpi .ne (Scalar.extui (Scalar.cmpi .eq (BitVec.ofNat 32 (i 1).val) 0#32) : BitVec 32) 0#32 = 1#1 := hc
    iintro ⟨HR2, HR3, HR8, HR4, HR5, HR6, HR7, ⟨%f13, H13, %h13⟩, ⟨%f14, H14, %h14⟩, ⟨%f15, H15, %h15⟩, ⟨%f16, H16, %h16⟩, ⟨%f17, H17, %h17⟩⟩
    sl_exec
    sl_step
    isplitr
    · ipureintro
      simp only [diagLogit, ← h4, ← h5]
      rw [← window_full X.k inb_S1024x128_S1024x128_0_0, ← window_full X.v inb_S1024x128_S1024x128_0_0, ← window_full X.c inb_S1024x128_S1024x128_0_0, ← h2, ← h3, ← h8]; rfl
    isplitl [HR2]; · iexact HR2
    isplitl [HR3]; · iexact HR3
    isplitl [HR8]; · iexact HR8
    isplitl [HR4]; · iexact HR4
    isplitl [HR5]; · iexact HR5
    isplitl [HR6]; · iexact HR6
    isplitl [HR7]; · iexact HR7
    isplitl [H13]
    · iexists _; isplitl [H13]; · iexact H13
      ipureintro
      exact View.read_writes_full arg13.view _ _ _ _
    isplitl [H14]
    · iexists _; isplitl [H14]; · iexact H14
      ipureintro
      exact View.read_writes_full arg14.view _ _ _ _
    isplitl [H15]
    · iexists _; isplitl [H15]; · iexact H15
      ipureintro
      exact View.read_writes_full arg15.view _ _ _ _
    isplitl [H16]
    · iexists _; isplitl [H16]; · iexact H16
      ipureintro
      exact h16.trans (if_neg hc).symm
    iexists _; isplitl [H17]; · iexact H17
    ipureintro
    exact h17.trans (if_neg hc).symm

/-- The loop, then the rest of what follows it up to the key gradient's store. -/
theorem loop_run (h4 : arg4.view.read (Elt F) A4 = X.q) (h5 : arg5.view.read (Elt F) A5 = X.dout)
    (h6 : arg6.view.read (Elt F) A6 = X.lse) (h7 : arg7.view.read (Elt F) A7 = X.dl) (s : St F) {β : Type}
    (kk : Unit → Prog (TpuEff nD τ sig (Elt F) Λ₀ .tc) β) (Q : β → sProp 𝕄) :
    iprop(Held c arg4 arg5 arg6 arg7 arg13 arg14 arg15 arg16 arg17 A4 A5 A6 A7 s ∗ (Held c arg4 arg5 arg6 arg7 arg13 arg14 arg15 arg16 arg17 A4 A5 A6 A7 (loopSt i X s (k0_t1_loop i).trips) -∗ wp Idealize.ShloMosaic.frame (wpE (defs₀ (F := F)) 𝒱 (c : Thread nD τ) bd) E
          (kk ⟨⟩) Q))
      ⊢ wp Idealize.ShloMosaic.frame (wpE (defs₀ (F := F)) 𝒱 (c : Thread nD τ) bd) E
          (Scf.Loop.for (k0_t1_loop i) (k0_t1_ok i) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (k0_pay27 X.k) (k0_pay28 X.v) (k0_pay29 X.c) v23 v56 v57 v67 v88) >>= kk) Q := by
  have h0 := Scf.wp_for_bind Idealize.ShloMosaic.frame (wpE (defs₀ (F := F)) 𝒱 (c : Thread nD τ) bd) E _ _ _ (k0_t1_ok i) ⟨⟩ _
    (fun k _ => Held c arg4 arg5 arg6 arg7 arg13 arg14 arg15 arg16 arg17 A4 A5 A6 A7 (loopSt i X s k)) (fun k acc => by
      have h := trip_run 𝒱 c bd E i X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v23 v88 v56 v57 v67 A4 A5 A6 A7 h4 h5 h6 h7 k (loopSt i X s k.val)
      rw [← loopSt_succ] at h
      exact h) (kk := kk) (Q := Q)
  exact BIClass.wand_elim (h0.trans (wand_mono (forall_intro fun _ => .rfl) .rfl))

/-- The loop over what the first leaves of the trips makes no trip. -/
theorem loop2_run {β : Type} (v93 : BitVec 32) (kk : Unit → Prog (TpuEff nD τ sig (Elt F) Λ₀ .tc) β) (Q : β → sProp 𝕄) :
    wp Idealize.ShloMosaic.frame (wpE (defs₀ (F := F)) 𝒱 (c : Thread nD τ) bd) E
          (kk ⟨⟩) Q
      ⊢ wp Idealize.ShloMosaic.frame (wpE (defs₀ (F := F)) 𝒱 (c : Thread nD τ) bd) E
          (Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (k0_pay27 X.k) (k0_pay28 X.v) (k0_pay29 X.c) v23 v56 v57 v67 v93) >>= kk) Q := by
  have h0 := Scf.wp_for_bind Idealize.ShloMosaic.frame (wpE (defs₀ (F := F)) 𝒱 (c : Thread nD τ) bd) E _ _ _ (k0_t2_ok i) ⟨⟩
    (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 (k0_pay27 X.k) (k0_pay28 X.v) (k0_pay29 X.c) v23 v56 v57 v67 v93)
    (fun _ _ => wp Idealize.ShloMosaic.frame (wpE (defs₀ (F := F)) 𝒱 (c : Thread nD τ) bd) E
          (kk ⟨⟩) Q) (fun k acc => absurd k.isLt (Nat.not_lt.2 (Nat.le_trans (k0_t2_abs i).2.1 (Nat.zero_le _)))) (kk := kk) (Q := Q)
  refine BIBase.Entails.trans ?_ (BIClass.wand_elim h0)
  iintro H
  isplitl [H]; · iexact H
  iintro %_ H
  iexact H

end Loop

end Cert.KernelIdeal.Bwd

end
-- ==== Proof.Point.lean ====
/- One grid point of the kernel: from the accumulators and output blocks it finds to those it leaves. -/
module

public import proofs.«01_k».proof.Proof.Run

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen VecWindow

variable {F : FTy → Type} [FloatOps F] [Named F]

local notation "𝕄" => MT nD τ sig Unit (Elt F) ℕ (UR sig nD τ) ℕ

/-- The block of the three gradients and the gate's after a grid point. -/
def out10 (i : grid0.Coords) (s : St F) (g : Vec F S8192x128 .bf16) (y : Vec F S4x8192x128 .bf16) : Vec F S4x8192x128 .bf16 :=
  if k0_cond2 i = 1#1 then outQ s g (outKV i s y) else outKV i s y

/-- The row sums' block after a grid point. -/
def out12 (i : grid0.Coords) (s : St F) (y : Vec F S1x1x8192 .f32) : Vec F S1x1x8192 .f32 :=
  if k0_cond2 i = 1#1 then k0_pay4 s.rs else y

variable (𝒱 : Variants) (c : Dev nD) (bd : Option 𝒱.V) (E : Set ℕ) (i : grid0.Coords) (X : Inp F)
  (arg2 : Memref sig .tc .vmem S1024x128 .bf16) (harg2 : arg2.IsWhole)
  (arg3 : Memref sig .tc .vmem S1024x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S1x1x8192 .f32) (harg6 : arg6.IsWhole)
  (arg7 : Memref sig .tc .vmem S1x1x8192 .f32) (harg7 : arg7.IsWhole)
  (arg8 : Memref sig .tc .vmem S1024x128 .f32) (harg8 : arg8.IsWhole)
  (arg9 : Memref sig .tc .vmem S8192x128 .bf16) (harg9 : arg9.IsWhole)
  (arg10 : Memref sig .tc .vmem S4x8192x128 .bf16) (harg10 : arg10.IsWhole)
  (arg11 : Memref sig .tc .vmem S1024x128 .f32) (harg11 : arg11.IsWhole)
  (arg12 : Memref sig .tc .vmem S1x1x8192 .f32) (harg12 : arg12.IsWhole)
  (arg13 : Memref sig .tc .vmem S1024x128 .f32) (harg13 : arg13.IsWhole)
  (arg14 : Memref sig .tc .vmem S1024x128 .f32) (harg14 : arg14.IsWhole)
  (arg15 : Memref sig .tc .vmem S1024x1 .f32) (harg15 : arg15.IsWhole)
  (arg16 : Memref sig .tc .vmem S128x8192 .f32) (harg16 : arg16.IsWhole)
  (arg17 : Memref sig .tc .vmem S1x8192 .f32) (harg17 : arg17.IsWhole)
  (A2 : BufTy.Contents (Elt F) arg2.view.ty) (A3 : BufTy.Contents (Elt F) arg3.view.ty) (A4 : BufTy.Contents (Elt F) arg4.view.ty) (A5 : BufTy.Contents (Elt F) arg5.view.ty)
  (A6 : BufTy.Contents (Elt F) arg6.view.ty) (A7 : BufTy.Contents (Elt F) arg7.view.ty)
  (A8 : BufTy.Contents (Elt F) arg8.view.ty) (A9 : BufTy.Contents (Elt F) arg9.view.ty)

omit [FloatOps F] [Named F] in
/-- A load of a memref's own sizes reads what the memref reads. -/
theorem readAt_whole {s : Shape} {e : EltTy} (M : Memref sig .tc .vmem s e) (f : BufTy.Contents (Elt F) M.view.ty) {off : Fin s.rank → ℕ}
    (inb : ∀ a, off a + s.size a ≤ s.size a) {v : Vec F s e} (h : M.view.read (Elt F) f = v) :
    M.view.readAt (Elt F) (Rect.unit off s.size inb).toLoadRect f = v :=
  (View.readAt_full M.view f inb).trans h

/-- A whole grid point. -/
theorem point_run (h2 : arg2.view.read (Elt F) A2 = X.k) (h3 : arg3.view.read (Elt F) A3 = X.v)
    (h8 : arg8.view.read (Elt F) A8 = X.c) (h4 : arg4.view.read (Elt F) A4 = X.q) (h5 : arg5.view.read (Elt F) A5 = X.dout)
    (h6 : arg6.view.read (Elt F) A6 = X.lse) (h7 : arg7.view.read (Elt F) A7 = X.dl)
    (g : Vec F S8192x128 .bf16) (h9 : arg9.view.read (Elt F) A9 = g)
    (s : St F) (y10 : Vec F S4x8192x128 .bf16) (y11 : Vec F S1024x128 .f32) (y12 : Vec F S1x1x8192 .f32) :
    iprop((arg2.view.loc (c : Thread nD τ) ↦[arg2.view.set]{fullShare} A2) ∗ (arg3.view.loc (c : Thread nD τ) ↦[arg3.view.set]{fullShare} A3)
    ∗ (arg8.view.loc (c : Thread nD τ) ↦[arg8.view.set]{fullShare} A8) ∗ (Held c arg4 arg5 arg6 arg7 arg13 arg14 arg15 arg16 arg17 A4 A5 A6 A7 s) ∗ (arg9.view.loc (c : Thread nD τ) ↦[arg9.view.set]{fullShare} A9)
    ∗ (∃ f, (arg10.view.loc (c : Thread nD τ) ↦[arg10.view.set]{fullShare} f) ∗ ⌜arg10.view.read (Elt F) f = y10⌝)
    ∗ (∃ f, (arg11.view.loc (c : Thread nD τ) ↦[arg11.view.set]{fullShare} f) ∗ ⌜arg11.view.read (Elt F) f = y11⌝)
    ∗ (∃ f, (arg12.view.loc (c : Thread nD τ) ↦[arg12.view.set]{fullShare} f) ∗ ⌜arg12.view.read (Elt F) f = y12⌝))
      ⊢ wp Idealize.ShloMosaic.frame (wpE (defs₀ (F := F)) 𝒱 (c : Thread nD τ) bd) E
          (cc0_fox_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} A2) ∗ (arg3.view.loc (c : Thread nD τ) ↦[arg3.view.set]{fullShare} A3)
    ∗ (arg8.view.loc (c : Thread nD τ) ↦[arg8.view.set]{fullShare} A8) ∗ (Held c arg4 arg5 arg6 arg7 arg13 arg14 arg15 arg16 arg17 A4 A5 A6 A7 (pointSt i X s))
            ∗ (arg9.view.loc (c : Thread nD τ) ↦[arg9.view.set]{fullShare} A9)
    ∗ (∃ f, (arg10.view.loc (c : Thread nD τ) ↦[arg10.view.set]{fullShare} f) ∗ ⌜arg10.view.read (Elt F) f = out10 i (pointSt i X s) g y10⌝)
    ∗ (∃ f, (arg11.view.loc (c : Thread nD τ) ↦[arg11.view.set]{fullShare} f) ∗ ⌜arg11.view.read (Elt F) f = k0_pay2 (pointSt i X s).dc⌝)
    ∗ (∃ f, (arg12.view.loc (c : Thread nD τ) ↦[arg12.view.set]{fullShare} f) ∗ ⌜arg12.view.read (Elt F) f = out12 i (pointSt i X s) y12⌝))) := by
  rw [cc0_fox_attn_bwd_eq_skeleton]
  unfold cc0_fox_attn_bwd_skel
  iintro ⟨HR2, HR3, HR8, HH, HR9, HO⟩
  rw [wp_bind]
  iapply (wp_wand_r Idealize.ShloMosaic.frame (wpE (defs₀ (F := F)) 𝒱 (c : Thread nD τ) bd) E)
  isplitl [HR2 HR3 HR8 HH]
  · iapply (part5_run 𝒱 c bd E i X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 A4 A5 A6 A7 A2 A3 A8 h2 h3 h8 h4 h5 s)
    isplitl [HR2]; · iexact HR2
    isplitl [HR3]; · iexact HR3
    isplitl [HR8]; · iexact HR8
    iexact HH
  iintro %r ⟨%hr, HR2, HR3, HR8, HH⟩
  subst hr
  dsimp only
  rw [wp_bind]
  iapply (wp_wand_r Idealize.ShloMosaic.frame (wpE (defs₀ (F := F)) 𝒱 (c : Thread nD τ) bd) E)
  isplitl [HH]
  · iapply (part6_run 𝒱 c bd E i X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ A4 A5 A6 A7 h4 h5 h6 h7 (zeroSt i s))
    iexact HH
  iintro %r ⟨%hr, HH⟩
  subst hr
  dsimp only
  rw [wp_bind, part7_split i X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17, wp_bind]
  iapply (wp_wand_r Idealize.ShloMosaic.frame (wpE (defs₀ (F := F)) 𝒱 (c : Thread nD τ) bd) E)
  isplitl [HH]
  · iapply (before_run 𝒱 c bd E i X arg4 arg5 arg6 arg7 arg13 arg14 arg15 arg16 arg17 _ _ _ A4 A5 A6 A7 (zeroSt i s) (diagSt1 i X (zeroSt i s)) rfl rfl rfl)
    iexact HH
  iintro %_ HH
  iapply (loop_run 𝒱 c bd E i X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ A4 A5 A6 A7 h4 h5 h6 h7 (diagSt2 i X (zeroSt i s) (diagSt1 i X (zeroSt i s))))
  isplitl [HH]; · iexact HH
  rw [show loopSt i X (diagSt2 i X (zeroSt i s) (diagSt1 i X (zeroSt i s))) (k0_t1_loop i).trips = pointSt i X s from rfl]
  generalize pointSt i X s = p
  iintro HH
  iapply (loop2_run 𝒱 c bd E i X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _)
  icases HH with ⟨HR4, HR5, HR6, HR7, ⟨%f13, H13, %h13⟩, ⟨%f14, H14, %h14⟩, ⟨%f15, H15, %h15⟩, ⟨%f16, H16, %h16⟩, ⟨%f17, H17, %h17⟩⟩
  icases HO with ⟨⟨%f10, H10, %h10⟩, ⟨%f11, H11, %h11⟩, ⟨%f12, H12, %h12⟩⟩
  by_cases hc : k0_cond2 i = 1#1
  · sl_exec
    sl_step
    isplitl [HR2]; · iexact HR2
    isplitl [HR3]; · iexact HR3
    isplitl [HR8]; · iexact HR8
    isplitl [HR4 HR5 HR6 HR7 H13 H14 H15 H16 H17]
    · isplitl [HR4]; · iexact HR4
      isplitl [HR5]; · iexact HR5
      isplitl [HR6]; · iexact HR6
      isplitl [HR7]; · iexact HR7
      isplitl [H13]
      · iexists _; isplitl [H13]; · iexact H13
        ipureintro; exact h13
      isplitl [H14]
      · iexists _; isplitl [H14]; · iexact H14
        ipureintro; exact h14
      isplitl [H15]
      · iexists _; isplitl [H15]; · iexact H15
        ipureintro; exact h15
      isplitl [H16]
      · iexists _; isplitl [H16]; · iexact H16
        ipureintro; exact h16
      iexists _; isplitl [H17]; · iexact H17
      ipureintro; exact h17
    isplitl [HR9]; · iexact HR9
    isplitl [H10]
    · iexists _; isplitl [H10]; · iexact H10
      ipureintro
      refine Eq.trans ?_ (if_pos hc).symm
      refine (View.read_writes_cons_put arg10.view _ _ _ _ rfl).trans (congrArg₂ (fun a b => put a _ _ b) ?_ ?_)
      rotate_left
      · exact congrArg k0_pay3 (readAt_whole arg9 A9 _ h9)
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · rw [← h16]; rfl
      refine (View.read_writes_cons_put arg10.view _ _ _ _ rfl).trans (congrArg₂ (fun a b => put a _ _ b) ?_ ?_)
      rotate_left
      · exact congrArg k0_pay1 (readAt_whole arg14 f14 _ h14)
      refine (View.read_writes_cons_put arg10.view _ _ _ _ rfl).trans (congrArg₂ (fun a b => put a _ _ b) ?_ ?_)
      rotate_left
      · exact congrArg k0_pay53 (readAt_whole arg13 f13 _ h13)
      exact h10
    isplitl [H11]
    · iexists _; isplitl [H11]; · iexact H11
      ipureintro
      exact (View.read_writes_full arg11.view _ _ _ _).trans (congrArg k0_pay2 (readAt_whole arg15 f15 _ h15))
    iexists _; isplitl [H12]; · iexact H12
    ipureintro
    refine Eq.trans ?_ (if_pos hc).symm
    exact (View.read_writes_full arg12.view _ _ _ _).trans (congrArg k0_pay4 (readAt_whole arg17 f17 _ h17))
  · sl_exec
    sl_step
    isplitl [HR2]; · iexact HR2
    isplitl [HR3]; · iexact HR3
    isplitl [HR8]; · iexact HR8
    isplitl [HR4 HR5 HR6 HR7 H13 H14 H15 H16 H17]
    · isplitl [HR4]; · iexact HR4
      isplitl [HR5]; · iexact HR5
      isplitl [HR6]; · iexact HR6
      isplitl [HR7]; · iexact HR7
      isplitl [H13]
      · iexists _; isplitl [H13]; · iexact H13
        ipureintro; exact h13
      isplitl [H14]
      · iexists _; isplitl [H14]; · iexact H14
        ipureintro; exact h14
      isplitl [H15]
      · iexists _; isplitl [H15]; · iexact H15
        ipureintro; exact h15
      isplitl [H16]
      · iexists _; isplitl [H16]; · iexact H16
        ipureintro; exact h16
      iexists _; isplitl [H17]; · iexact H17
      ipureintro; exact h17
    isplitl [HR9]; · iexact HR9
    isplitl [H10]
    · iexists _; isplitl [H10]; · iexact H10
      ipureintro
      refine Eq.trans ?_ (if_neg hc).symm
      refine (View.read_writes_cons_put arg10.view _ _ _ _ rfl).trans (congrArg₂ (fun a b => put a _ _ b) ?_ ?_)
      rotate_left
      · exact congrArg k0_pay1 (readAt_whole arg14 f14 _ h14)
      refine (View.read_writes_cons_put arg10.view _ _ _ _ rfl).trans (congrArg₂ (fun a b => put a _ _ b) ?_ ?_)
      rotate_left
      · exact congrArg k0_pay53 (readAt_whole arg13 f13 _ h13)
      exact h10
    isplitl [H11]
    · iexists _; isplitl [H11]; · iexact H11
      ipureintro
      exact (View.read_writes_full arg11.view _ _ _ _).trans (congrArg k0_pay2 (readAt_whole arg15 f15 _ h15))
    iexists _; isplitl [H12]; · iexact H12
    ipureintro
    exact h12.trans (if_neg hc).symm

end Cert.KernelIdeal.Bwd

end
-- ==== Proof.Body.lean ====
/- The body obligation of the launch: what each grid point finds and leaves in the blocks and the accumulators. -/
module

public import proofs.«01_k».proof.Proof.Point

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen VecWindow

variable {F : FTy → Type} [FloatOps F] [Named F]

local notation "𝕄" => MT nD τ sig Unit (Elt F) ℕ (UR sig nD τ) ℕ

section Owns

variable (𝒱 : Variants) (c : Dev nD) (bd : Option 𝒱.V) (E : Set ℕ) (i : grid0.Coords) (X : Inp F)
  (arg2 : Memref sig .tc .vmem S1024x128 .bf16) (harg2 : arg2.IsWhole)
  (arg3 : Memref sig .tc .vmem S1024x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S1x1x8192 .f32) (harg6 : arg6.IsWhole)
  (arg7 : Memref sig .tc .vmem S1x1x8192 .f32) (harg7 : arg7.IsWhole)
  (arg8 : Memref sig .tc .vmem S1024x128 .f32) (harg8 : arg8.IsWhole)
  (arg9 : Memref sig .tc .vmem S8192x128 .bf16) (harg9 : arg9.IsWhole)
  (arg10 : Memref sig .tc .vmem S4x8192x128 .bf16) (harg10 : arg10.IsWhole)
  (arg11 : Memref sig .tc .vmem S1024x128 .f32) (harg11 : arg11.IsWhole)
  (arg12 : Memref sig .tc .vmem S1x1x8192 .f32) (harg12 : arg12.IsWhole)
  (arg13 : Memref sig .tc .vmem S1024x128 .f32) (harg13 : arg13.IsWhole)
  (arg14 : Memref sig .tc .vmem S1024x128 .f32) (harg14 : arg14.IsWhole)
  (arg15 : Memref sig .tc .vmem S1024x1 .f32) (harg15 : arg15.IsWhole)
  (arg16 : Memref sig .tc .vmem S128x8192 .f32) (harg16 : arg16.IsWhole)
  (arg17 : Memref sig .tc .vmem S1x8192 .f32) (harg17 : arg17.IsWhole)

/-- A whole grid point, its sixteen memrefs owned at what they read. -/
theorem point_owns (g : Vec F S8192x128 .bf16) (s : St F) (y10 : Vec F S4x8192x128 .bf16) (y11 : Vec F S1024x128 .f32) (y12 : Vec F S1x1x8192 .f32) :
    (iprop(owns (c : Thread nD τ) arg2 fullShare X.k
      ∗ owns (c : Thread nD τ) arg3 fullShare X.v
      ∗ owns (c : Thread nD τ) arg4 fullShare X.q
      ∗ owns (c : Thread nD τ) arg5 fullShare X.dout
      ∗ owns (c : Thread nD τ) arg6 fullShare X.lse
      ∗ owns (c : Thread nD τ) arg7 fullShare X.dl
      ∗ owns (c : Thread nD τ) arg8 fullShare X.c
      ∗ owns (c : Thread nD τ) arg9 fullShare g
      ∗ owns (c : Thread nD τ) arg10 fullShare y10
      ∗ owns (c : Thread nD τ) arg11 fullShare y11
      ∗ owns (c : Thread nD τ) arg12 fullShare y12
      ∗ owns (c : Thread nD τ) arg13 fullShare s.dk
      ∗ owns (c : Thread nD τ) arg14 fullShare s.dv
      ∗ owns (c : Thread nD τ) arg15 fullShare s.dc
      ∗ owns (c : Thread nD τ) arg16 fullShare s.dq
      ∗ owns (c : Thread nD τ) arg17 fullShare s.rs) : sProp 𝕄)
      ⊢ wp Idealize.ShloMosaic.frame (wpE (defs₀ (F := F)) 𝒱 (c : Thread nD τ) bd) E
          (cc0_fox_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg2 fullShare X.k
      ∗ owns (c : Thread nD τ) arg3 fullShare X.v
      ∗ owns (c : Thread nD τ) arg4 fullShare X.q
      ∗ owns (c : Thread nD τ) arg5 fullShare X.dout
      ∗ owns (c : Thread nD τ) arg6 fullShare X.lse
      ∗ owns (c : Thread nD τ) arg7 fullShare X.dl
      ∗ owns (c : Thread nD τ) arg8 fullShare X.c
      ∗ owns (c : Thread nD τ) arg9 fullShare g
      ∗ owns (c : Thread nD τ) arg10 fullShare (out10 i (pointSt i X s) g y10)
      ∗ owns (c : Thread nD τ) arg11 fullShare (k0_pay2 (pointSt i X s).dc)
      ∗ owns (c : Thread nD τ) arg12 fullShare (out12 i (pointSt i X s) y12)
      ∗ owns (c : Thread nD τ) arg13 fullShare (pointSt i X s).dk
      ∗ owns (c : Thread nD τ) arg14 fullShare (pointSt i X s).dv
      ∗ owns (c : Thread nD τ) arg15 fullShare (pointSt i X s).dc
      ∗ owns (c : Thread nD τ) arg16 fullShare (pointSt i X s).dq
      ∗ owns (c : Thread nD τ) arg17 fullShare (pointSt i X s).rs)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩⟩
  iapply (wp_wand_r Idealize.ShloMosaic.frame (wpE (defs₀ (F := F)) 𝒱 (c : Thread nD τ) bd) E)
  isplitl [H2 H3 H4 H5 H6 H7 H8 H9 H10 H11 H12 H13 H14 H15 H16 H17]
  · iapply (point_run 𝒱 c bd E i X arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 h2 h3 h8 h4 h5 h6 h7 g h9 s y10 y11 y12)
    isplitl [H2]; · iexact H2
    isplitl [H3]; · iexact H3
    isplitl [H8]; · iexact H8
    isplitl [H4 H5 H6 H7 H13 H14 H15 H16 H17]
    · isplitl [H4]; · iexact H4
      isplitl [H5]; · iexact H5
      isplitl [H6]; · iexact H6
      isplitl [H7]; · iexact H7
      isplitl [H13]
      · iexists f13; isplitl [H13]; · iexact H13
        ipureintro; exact h13
      isplitl [H14]
      · iexists f14; isplitl [H14]; · iexact H14
        ipureintro; exact h14
      isplitl [H15]
      · iexists f15; isplitl [H15]; · iexact H15
        ipureintro; exact h15
      isplitl [H16]
      · iexists f16; isplitl [H16]; · iexact H16
        ipureintro; exact h16
      iexists f17; isplitl [H17]; · iexact H17
      ipureintro; exact h17
    isplitl [H9]; · iexact H9
    isplitl [H10]
    · iexists f10; isplitl [H10]; · iexact H10
      ipureintro; exact h10
    isplitl [H11]
    · iexists f11; isplitl [H11]; · iexact H11
      ipureintro; exact h11
    iexists f12; isplitl [H12]; · iexact H12
    ipureintro; exact h12
  · iintro %_ ⟨H2, H3, H8, ⟨H4, H5, H6, H7, ⟨%e13, H13, %h13⟩, ⟨%e14, H14, %h14⟩, ⟨%e15, H15, %h15⟩, ⟨%e16, H16, %h16⟩, ⟨%e17, H17, %h17⟩⟩, H9, ⟨%e10, H10, %h10⟩, ⟨%e11, H11, %h11⟩, ⟨%e12, H12, %h12⟩⟩
    isplitl [H2]
    · iexists _; isplitr [H2]
      · ipureintro; exact h2
      · iexact H2
    isplitl [H3]
    · iexists _; isplitr [H3]
      · ipureintro; exact h3
      · iexact H3
    isplitl [H4]
    · iexists _; isplitr [H4]
      · ipureintro; exact h4
      · iexact H4
    isplitl [H5]
    · iexists _; isplitr [H5]
      · ipureintro; exact h5
      · iexact H5
    isplitl [H6]
    · iexists _; isplitr [H6]
      · ipureintro; exact h6
      · iexact H6
    isplitl [H7]
    · iexists _; isplitr [H7]
      · ipureintro; exact h7
      · iexact H7
    isplitl [H8]
    · iexists _; isplitr [H8]
      · ipureintro; exact h8
      · iexact H8
    isplitl [H9]
    · iexists _; isplitr [H9]
      · ipureintro; exact h9
      · iexact H9
    isplitl [H10]
    · iexists _; isplitr [H10]
      · ipureintro; exact h10
      · iexact H10
    isplitl [H11]
    · iexists _; isplitr [H11]
      · ipureintro; exact h11
      · iexact H11
    isplitl [H12]
    · iexists _; isplitr [H12]
      · ipureintro; exact h12
      · iexact H12
    isplitl [H13]
    · iexists _; isplitr [H13]
      · ipureintro; exact h13
      · iexact H13
    isplitl [H14]
    · iexists _; isplitr [H14]
      · ipureintro; exact h14
      · iexact H14
    isplitl [H15]
    · iexists _; isplitr [H15]
      · ipureintro; exact h15
      · iexact H15
    isplitl [H16]
    · iexists _; isplitr [H16]
      · ipureintro; exact h16
      · iexact H16
    iexists _; isplitr [H17]
    · ipureintro; exact h17
    · iexact H17

end Owns

/-! ## What the points find and leave -/

section Points

variable (m : (ℓ : Loc nD τ sig) → Buf (Elt F) ℓ)

/-- The blocks a point reads. -/
def inp (c : Dev nD) (t : Fin cfg0.N) : Inp F where
  k := iblk m c 0 t
  v := iblk m c 1 t
  q := iblk m c 2 t
  dout := iblk m c 3 t
  lse := iblk m c 4 t
  dl := iblk m c 5 t
  c := iblk m c 6 t

/-- The gate's gradient a point reads. -/
def gat (c : Dev nD) (t : Fin cfg0.N) : Vec F S8192x128 .bf16 := iblk m c 7 t

/-- The accumulators before the `n`-th point, point after point; before the first, anything. -/
def stAt (c : Dev nD) : ℕ → St F
  | 0 => ⟨k0_pay30, k0_pay31, k0_pay32, k0_pay33, k0_pay34⟩
  | n + 1 => if h : n < cfg0.N then pointSt (grid0.coords ⟨n, h⟩) (inp m c ⟨n, h⟩) (stAt c n) else stAt c n

theorem stAt_succ (c : Dev nD) (t : Fin cfg0.N) : stAt m c (t.val + 1) = pointSt (grid0.coords t) (inp m c t) (stAt m c t.val) :=
  dif_pos t.isLt

/-- The scratch at the accumulators before a point (any at a head's first), and the generator's register. -/
def phi (c : Dev nD) (n : ℕ) : sProp 𝕄 :=
  iprop((∃ s : St F, ⌜n % 8 ≠ 0 → s = stAt m c n⌝
    ∗ owns (c : Thread nD τ) (Memref.whole cc0_scratch0) fullShare s.dk ∗ owns (c : Thread nD τ) (Memref.whole cc0_scratch1) fullShare s.dv
    ∗ owns (c : Thread nD τ) (Memref.whole cc0_scratch2) fullShare s.dc ∗ owns (c : Thread nD τ) (Memref.whole cc0_scratch3) fullShare s.dq
    ∗ owns (c : Thread nD τ) (Memref.whole cc0_scratch4) fullShare s.rs) ∗ ∃ r, prngReg c r)

/-- What a point leaves in a block, of what it finds there. -/
def leaves (c : Dev nD) : (w : Fin cfg0.W) → (t : Fin cfg0.N) → (Y X : (cfg0.win w).block.Idx → Elt F (cfg0.win w).elt) → Prop
  | 8, t, Y, X => X = out10 (grid0.coords t) (stAt m c (t.val + 1)) (gat m c t) Y
  | 9, t, _, X => X = k0_pay2 (stAt m c (t.val + 1)).dc
  | 10, t, Y, X => X = out12 (grid0.coords t) (stAt m c (t.val + 1)) Y
  | _, _, Y, X => X = Y

/-- The launch's proof data. -/
def rdat (c : Dev nD) : Pipeline.RDat τ (Elt F) Unit ℕ (UR sig nD τ) ℕ cfg0 c where
  A w := V m c (Pipeline.arrRef spec0 w)
  after := leaves m c
  Φ t := phi m c t.val
  q := Pipeline.shareOf spec0
  owed _ := 0

/-- A head's first key block clears the carried accumulators. -/
theorem cond1_iff : ∀ t : Fin cfg0.N, cond1 (grid0.coords t) = 1#1 ↔ t.val % 8 = 0 :=
  (by decide +kernel : ∀ t : Fin grid0.N, cond1 (grid0.coords t) = 1#1 ↔ t.val % 8 = 0)

/-- A head's last key block stores what was carried. -/
theorem cond2_iff : ∀ t : Fin cfg0.N, k0_cond2 (grid0.coords t) = 1#1 ↔ t.val % 8 = 7 :=
  (by decide +kernel : ∀ t : Fin grid0.N, k0_cond2 (grid0.coords t) = 1#1 ↔ t.val % 8 = 7)

/-- At a head's first key block nothing the accumulators held matters. -/
theorem pointSt_first (i : grid0.Coords) (X : Inp F) (h : cond1 i = 1#1) (s s' : St F) : pointSt i X s = pointSt i X s' := by
  have e : zeroSt i s = zeroSt i s' := by simp only [zeroSt, if_pos h]
  simp only [pointSt, e]

theorem find0 (c : Dev nD) (t : Fin cfg0.N) (Y) (h : (rdat m c).Finds 0 t Y) : Y = (inp m c t).k := by
  obtain ⟨d, hd⟩ := Pipeline.RDat.finds_in_eq_fetched (rdat m c) 0 rfl (fun _ _ _ => rfl) (fun _ _ _ h => h) t Y h
  exact hd.trans (by unfold Pipeline.RDat.fetched Pipeline.RDat.blockOf; rfl)

theorem find1 (c : Dev nD) (t : Fin cfg0.N) (Y) (h : (rdat m c).Finds 1 t Y) : Y = (inp m c t).v := by
  obtain ⟨d, hd⟩ := Pipeline.RDat.finds_in_eq_fetched (rdat m c) 1 rfl (fun _ _ _ => rfl) (fun _ _ _ h => h) t Y h
  exact hd.trans (by unfold Pipeline.RDat.fetched Pipeline.RDat.blockOf; rfl)

theorem find2 (c : Dev nD) (t : Fin cfg0.N) (Y) (h : (rdat m c).Finds 2 t Y) : Y = (inp m c t).q := by
  obtain ⟨d, hd⟩ := Pipeline.RDat.finds_in_eq_fetched (rdat m c) 2 rfl (fun _ _ _ => rfl) (fun _ _ _ h => h) t Y h
  exact hd.trans (by unfold Pipeline.RDat.fetched Pipeline.RDat.blockOf; rfl)

theorem find3 (c : Dev nD) (t : Fin cfg0.N) (Y) (h : (rdat m c).Finds 3 t Y) : Y = (inp m c t).dout := by
  obtain ⟨d, hd⟩ := Pipeline.RDat.finds_in_eq_fetched (rdat m c) 3 rfl (fun _ _ _ => rfl) (fun _ _ _ h => h) t Y h
  exact hd.trans (by unfold Pipeline.RDat.fetched Pipeline.RDat.blockOf; rfl)

theorem find4 (c : Dev nD) (t : Fin cfg0.N) (Y) (h : (rdat m c).Finds 4 t Y) : Y = (inp m c t).lse := by
  obtain ⟨d, hd⟩ := Pipeline.RDat.finds_in_eq_fetched (rdat m c) 4 rfl (fun _ _ _ => rfl) (fun _ _ _ h => h) t Y h
  exact hd.trans (by unfold Pipeline.RDat.fetched Pipeline.RDat.blockOf; rfl)

theorem find5 (c : Dev nD) (t : Fin cfg0.N) (Y) (h : (rdat m c).Finds 5 t Y) : Y = (inp m c t).dl := by
  obtain ⟨d, hd⟩ := Pipeline.RDat.finds_in_eq_fetched (rdat m c) 5 rfl (fun _ _ _ => rfl) (fun _ _ _ h => h) t Y h
  exact hd.trans (by unfold Pipeline.RDat.fetched Pipeline.RDat.blockOf; rfl)

theorem find6 (c : Dev nD) (t : Fin cfg0.N) (Y) (h : (rdat m c).Finds 6 t Y) : Y = (inp m c t).c := by
  obtain ⟨d, hd⟩ := Pipeline.RDat.finds_in_eq_fetched (rdat m c) 6 rfl (fun _ _ _ => rfl) (fun _ _ _ h => h) t Y h
  exact hd.trans (by unfold Pipeline.RDat.fetched Pipeline.RDat.blockOf; rfl)

theorem find7 (c : Dev nD) (t : Fin cfg0.N) (Y) (h : (rdat m c).Finds 7 t Y) : Y = gat m c t := by
  obtain ⟨d, hd⟩ := Pipeline.RDat.finds_in_eq_fetched (rdat m c) 7 rfl (fun _ _ _ => rfl) (fun _ _ _ h => h) t Y h
  exact hd.trans (by unfold Pipeline.RDat.fetched Pipeline.RDat.blockOf; rfl)

set_option maxHeartbeats 1000000 in
/-- The body obligation: each point takes the blocks and the accumulators where the proof data say. -/
theorem body (𝒱₀ : Variants) (c : Dev nD) : (rdat m c).BodyObligation (defs₀ (F := F)) 𝒱₀ () Set.univ := by
  intro t Y hY
  have e0 := find0 m c t _ (hY 0)
  have e1 := find1 m c t _ (hY 1)
  have e2 := find2 m c t _ (hY 2)
  have e3 := find3 m c t _ (hY 3)
  have e4 := find4 m c t _ (hY 4)
  have e5 := find5 m c t _ (hY 5)
  have e6 := find6 m c t _ (hY 6)
  have e7 := find7 m c t _ (hY 7)
  show _ ⊢ wp _ _ _ (bodyAt0 t) _
  rw [bigSep_W0, bigSep_W0]
  rw [show (rdat m c).Φ t.castSucc = phi m c t.val from rfl, show (rdat m c).Φ t.succ = phi m c (t.val + 1) from rfl]
  unfold phi
  iintro ⟨⟨⟨%s, %hs, S0, S1, S2, S3, S4⟩, HP⟩, HO, W0, W1, W2, W3, W4, W5, W6, W7, W8, W9, W10⟩
  have hst : pointSt (grid0.coords t) (inp m c t) s = stAt m c (t.val + 1) := by
    rw [stAt_succ]
    by_cases h : t.val % 8 = 0
    · exact pointSt_first _ _ ((cond1_iff t).2 h) _ _
    · rw [hs h]
  iapply (wp_wand_r Idealize.ShloMosaic.frame (wpE (defs₀ (F := F)) 𝒱₀ (c : Thread nD τ) none) Set.univ)
  isplitl [S0 S1 S2 S3 S4 W0 W1 W2 W3 W4 W5 W6 W7 W8 W9 W10]
  · iapply (point_owns 𝒱₀ c none Set.univ (grid0.coords t) (inp m c t) _ _ _ _ _ _ _ _ _ _ _ _ _ _ _ _ _ _ _ _ _ _ _ _ _ _ _ _ _ _ _ _ (gat m c t) s (Y 8) (Y 9) (Y 10))
    rw [← e0, ← e1, ← e2, ← e3, ← e4, ← e5, ← e6, ← e7]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [S0]; · iexact S0
    isplitl [S1]; · iexact S1
    isplitl [S2]; · iexact S2
    isplitl [S3]; · iexact S3
    iexact S4
  · iintro %_ ⟨W0, W1, W2, W3, W4, W5, W6, W7, W8, W9, W10, S0, S1, S2, S3, S4⟩
    rw [hst]
    isplitl [S0 S1 S2 S3 S4 HP]
    · isplitl [S0 S1 S2 S3 S4]
      · iexists stAt m c (t.val + 1)
        isplitr; · ipureintro; exact fun _ => rfl
        isplitl [S0]; · iexact S0
        isplitl [S1]; · iexact S1
        isplitl [S2]; · iexact S2
        isplitl [S3]; · iexact S3
        iexact S4
      · iexact HP
    isplitl [HO]; · iexact HO
    isplitl [W0]
    · iexists _; isplitr [W0]
      · ipureintro; exact (e0.symm)
      · iexact W0
    isplitl [W1]
    · iexists _; isplitr [W1]
      · ipureintro; exact (e1.symm)
      · iexact W1
    isplitl [W2]
    · iexists _; isplitr [W2]
      · ipureintro; exact (e2.symm)
      · iexact W2
    isplitl [W3]
    · iexists _; isplitr [W3]
      · ipureintro; exact (e3.symm)
      · iexact W3
    isplitl [W4]
    · iexists _; isplitr [W4]
      · ipureintro; exact (e4.symm)
      · iexact W4
    isplitl [W5]
    · iexists _; isplitr [W5]
      · ipureintro; exact (e5.symm)
      · iexact W5
    isplitl [W6]
    · iexists _; isplitr [W6]
      · ipureintro; exact (e6.symm)
      · iexact W6
    isplitl [W7]
    · iexists _; isplitr [W7]
      · ipureintro; exact (e7.symm)
      · iexact W7
    isplitl [W8]
    · iexists _; isplitr [W8]
      · ipureintro; exact rfl
      · iexact W8
    isplitl [W9]
    · iexists _; isplitr [W9]
      · ipureintro; exact rfl
      · iexact W9
    iexists _; isplitr [W10]
    · ipureintro; exact rfl
    · iexact W10

theorem phi_in (c : Dev nD) : (Pipeline.ΦA spec0 c : sProp 𝕄) ⊢ (rdat m c).Φ 0 := by
  show _ ⊢ phi m c 0
  unfold Pipeline.ΦA phi
  rw [scopedRest0_eq]
  simp only [← owns_whole]
  iintro ⟨⟨⟨%f0, S0⟩, ⟨%f1, S1⟩, ⟨%f2, S2⟩, ⟨%f3, S3⟩, ⟨%f4, S4⟩⟩, HP⟩
  isplitr [HP]
  · iexists (⟨f0, f1, f2, f3, f4⟩ : St F)
    isplitr; · ipureintro; exact fun h => absurd rfl h
    isplitl [S0]; · iexact S0
    isplitl [S1]; · iexact S1
    isplitl [S2]; · iexact S2
    isplitl [S3]; · iexact S3
    iexact S4
  · iexact HP

theorem phi_out (c : Dev nD) : (rdat m c).Φ (Fin.last cfg0.N) ⊢ (Pipeline.ΦA spec0 c : sProp 𝕄) := by
  show phi m c cfg0.N ⊢ _
  unfold Pipeline.ΦA phi
  rw [scopedRest0_eq]
  simp only [← owns_whole]
  iintro ⟨⟨%s, %hs, S0, S1, S2, S3, S4⟩, HP⟩
  isplitr [HP]
  · isplitl [S0]; · iexists _; iexact S0
    isplitl [S1]; · iexists _; iexact S1
    isplitl [S2]; · iexists _; iexact S2
    isplitl [S3]; · iexists _; iexact S3
    iexists _; iexact S4
  · iexact HP

/-- The run: every argument as launched, every counter at zero, every result as the points left it. -/
theorem run (ρ : Dev nD → PrngReg) :
    θ_run defs (onTc (τ := τ) (main (F := F))) ⟨m, fun _ => 0, ρ⟩
      (fun r => Pipeline.RDat.FramePost cfg0 (rdat m) (V m) r ∧ r.2.sem = fun _ => 0) :=
  Pipeline.RDat.θ_run_frame_track_shared cfgs 0 launch₀0 defs₀ Variants.none (rdat m) m ρ main (body m _) (fun _ _ _ => rfl) (fun _ _ => rfl)
    (V m) (hmain m _) (fun _ _ => rfl) (phi_in m) (phi_out m) _ (fun _ h => h)

/-- The run read at the arguments. -/
theorem args_kept (r : PUnit × MemSt nD τ sig (Elt F)) (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Points

end Cert.KernelIdeal.Bwd

end
-- ==== Proof.Entry.lean ====
/- What a grid point's blocks are of the arrays the kernel is called with. -/
module

public import proofs.«01_k».proof.Proof.Body
public import Idealize.ShloMosaic.Lib.Pipeline.ValueKit.Geometry
public import Idealize.ShloMosaic.Lib.Pointwise

@[expose] public section

set_option maxRecDepth 16384

noncomputable section

namespace Cert.KernelIdeal.Bwd

open Idealize.ShloMosaic Cert.KernelIdeal.Gen

variable {F : FTy → Type} [FloatOps F] [Named F]
variable (m : (ℓ : Loc nD τ sig) → Buf (Elt F) ℓ)

theorem pt_lt (t : Fin cfg0.N) : t.val < 128 := t.isLt

/-- The second grid coordinate is the key block. -/
theorem coord1 : ∀ t : Fin cfg0.N, (grid0.coords t 1).val = t.val % 8 :=
  (by decide +kernel : ∀ t : Fin grid0.N, (grid0.coords t 1).val = t.val % 8)

/-- The loop runs over the query blocks after the diagonal one. -/
theorem trips_eq : ∀ t : Fin cfg0.N, (k0_t1_loop (grid0.coords t)).trips + (grid0.coords t 1).val = 7 :=
  (by decide +kernel : ∀ t : Fin grid0.N, (k0_t1_loop (grid0.coords t)).trips + (grid0.coords t 1).val = 7)

theorem index0 : ∀ t : Fin cfg0.N, win0_0.index t = ![t.val % 8, 16 + t.val / 8] :=
  (by decide +kernel : ∀ t : Fin grid0.N, win0_0.index t = ![t.val % 8, 16 + t.val / 8])
theorem index1 : ∀ t : Fin cfg0.N, win0_1.index t = ![t.val % 8, 32 + t.val / 8] :=
  (by decide +kernel : ∀ t : Fin grid0.N, win0_1.index t = ![t.val % 8, 32 + t.val / 8])
theorem index2 : ∀ t : Fin cfg0.N, win0_2.index t = ![0, t.val / 8] :=
  (by decide +kernel : ∀ t : Fin grid0.N, win0_2.index t = ![0, t.val / 8])
theorem index3 : ∀ t : Fin cfg0.N, win0_3.index t = ![0, t.val / 8] :=
  (by decide +kernel : ∀ t : Fin grid0.N, win0_3.index t = ![0, t.val / 8])
theorem index4 : ∀ t : Fin cfg0.N, win0_4.index t = ![t.val / 8, 0, 0] :=
  (by decide +kernel : ∀ t : Fin grid0.N, win0_4.index t = ![t.val / 8, 0, 0])
theorem index5 : ∀ t : Fin cfg0.N, win0_5.index t = ![t.val / 8, 0, 0] :=
  (by decide +kernel : ∀ t : Fin grid0.N, win0_5.index t = ![t.val / 8, 0, 0])
theorem index6 : ∀ t : Fin cfg0.N, win0_6.index t = ![t.val % 8, t.val / 8] :=
  (by decide +kernel : ∀ t : Fin grid0.N, win0_6.index t = ![t.val % 8, t.val / 8])
theorem index7 : ∀ t : Fin cfg0.N, win0_7.index t = ![0, t.val / 8] :=
  (by decide +kernel : ∀ t : Fin grid0.N, win0_7.index t = ![0, t.val / 8])
theorem index8 : ∀ t : Fin cfg0.N, win0_8.index t = ![0, 0, t.val / 8] :=
  (by decide +kernel : ∀ t : Fin grid0.N, win0_8.index t = ![0, 0, t.val / 8])
theorem index9 : ∀ t : Fin cfg0.N, win0_9.index t = ![t.val % 8, t.val / 8] :=
  (by decide +kernel : ∀ t : Fin grid0.N, win0_9.index t = ![t.val % 8, t.val / 8])
theorem index10 : ∀ t : Fin cfg0.N, win0_10.index t = ![t.val / 8, 0, 0] :=
  (by decide +kernel : ∀ t : Fin grid0.N, win0_10.index t = ![t.val / 8, 0, 0])

theorem iblk0 (c : Dev nD) (t : Fin cfg0.N) (r : Fin 1024) (d : Fin 128) :
    iblk m c 0 t (ix2 r d)
      = V m c main_v8 (ix2 (⟨1024 * (t.val % 8) + r.val, by have := pt_lt t; omega⟩ : Fin 8192)
          (⟨2048 + 128 * (t.val / 8) + d.val, by have := pt_lt t; omega⟩ : Fin 6144)) := by
  blk_simp [iblk]
  refine congrArg (V m c main_v8) ?_
  blk_ext [index0]

theorem iblk1 (c : Dev nD) (t : Fin cfg0.N) (r : Fin 1024) (d : Fin 128) :
    iblk m c 1 t (ix2 r d)
      = V m c main_v8 (ix2 (⟨1024 * (t.val % 8) + r.val, by have := pt_lt t; omega⟩ : Fin 8192)
          (⟨4096 + 128 * (t.val / 8) + d.val, by have := pt_lt t; omega⟩ : Fin 6144)) := by
  blk_simp [iblk]
  refine congrArg (V m c main_v8) ?_
  blk_ext [index1]

theorem iblk2 (c : Dev nD) (t : Fin cfg0.N) (r : Fin 8192) (d : Fin 128) :
    iblk m c 2 t (ix2 r d)
      = V m c main_v8 (ix2 (⟨r.val, by have := pt_lt t; omega⟩ : Fin 8192)
          (⟨128 * (t.val / 8) + d.val, by have := pt_lt t; omega⟩ : Fin 6144)) := by
  blk_simp [iblk]
  refine congrArg (V m c main_v8) ?_
  blk_ext [index2]

theorem iblk3 (c : Dev nD) (t : Fin cfg0.N) (r : Fin 8192) (d : Fin 128) :
    iblk m c 3 t (ix2 r d)
      = V m c main_v53 (ix2 (⟨r.val, by have := pt_lt t; omega⟩ : Fin 8192)
          (⟨128 * (t.val / 8) + d.val, by have := pt_lt t; omega⟩ : Fin 2048)) := by
  blk_simp [iblk]
  refine congrArg (V m c main_v53) ?_
  blk_ext [index3]

theorem iblk6 (c : Dev nD) (t : Fin cfg0.N) (r : Fin 1024) (d : Fin 128) :
    iblk m c 6 t (ix2 r d)
      = V m c main_v13 (ix2 (⟨1024 * (t.val % 8) + r.val, by have := pt_lt t; omega⟩ : Fin 8192)
          (⟨128 * (t.val / 8) + d.val, by have := pt_lt t; omega⟩ : Fin 2048)) := by
  blk_simp [iblk]
  refine congrArg (V m c main_v13) ?_
  blk_ext [index6]

theorem iblk7 (c : Dev nD) (t : Fin cfg0.N) (r : Fin 8192) (d : Fin 128) :
    iblk m c 7 t (ix2 r d)
      = V m c main_v54 (ix2 (⟨r.val, by have := pt_lt t; omega⟩ : Fin 8192)
          (⟨128 * (t.val / 8) + d.val, by have := pt_lt t; omega⟩ : Fin 2048)) := by
  blk_simp [iblk]
  refine congrArg (V m c main_v54) ?_
  blk_ext [index7]

theorem iblk4 (c : Dev nD) (t : Fin cfg0.N) (r : Fin 8192) :
    iblk m c 4 t (ix3 0 0 r) = V m c main_v55 (ix3 (⟨t.val / 8, by have := pt_lt t; omega⟩ : Fin 16) 0 r) := by
  blk_simp [iblk]
  refine congrArg (V m c main_v55) ?_
  blk_ext [index4]

theorem iblk5 (c : Dev nD) (t : Fin cfg0.N) (r : Fin 8192) :
    iblk m c 5 t (ix3 0 0 r) = V m c main_v56 (ix3 (⟨t.val / 8, by have := pt_lt t; omega⟩ : Fin 16) 0 r) := by
  blk_simp [iblk]
  refine congrArg (V m c main_v56) ?_
  blk_ext [index5]

end Cert.KernelIdeal.Bwd
-- ==== Proof.Host.lean ====
/- The arrays the kernel is called with, as functions of the program's arguments: each host operation before the
   call as a definition over the ones before it, and what the region then finds in its eight arrays. -/
module

public import proofs.«01_k».proof.Proof.Entry
public import Idealize.ShloMosaic.Lib.Claim

@[expose] public section

set_option maxRecDepth 16384

noncomputable section

namespace Cert.KernelIdeal.Bwd

open Idealize.ShloMosaic Idealize.ShloMosaic.TcCoe Idealize.SL.Sem Cert.KernelIdeal.Gen

/-- What the host operation writing `main_cst` leaves, as a function of the arguments it reaches. -/
def hcst : FVec Ideal S_ .f32 :=
  (constant S_ .f32 0x40000000#32)

/-- What the host operation writing `main_v0` leaves, as a function of the arguments it reaches. -/
def h0 : FVec Ideal S_ .f32 :=
  Host.log hcst

/-- What the host operation writing `main_cst_0` leaves, as a function of the arguments it reaches. -/
def hcst_0 : FVec Ideal S_ .f32 :=
  (constant S_ .f32 0x3DB504F3#32)

/-- What the host operation writing `main_v1` leaves, as a function of the arguments it reaches. -/
def h1 : FVec Ideal S8192x2048 .f32 :=
  (broadcastInDim S8192x2048 ![] bcast_S_S8192x2048) hcst_0

/-- What the host operation writing `main_v2` leaves, as a function of the arguments it reaches. -/
def h2 (a0 : FVec Ideal S8192x2048 .f32) : FVec Ideal S8192x2048 .f32 :=
  mulf a0 h1

/-- What the host operation writing `main_v3` leaves, as a function of the arguments it reaches. -/
def h3 : FVec Ideal S8192x2048 .f32 :=
  (broadcastInDim S8192x2048 ![] bcast_S_S8192x2048) h0

/-- What the host operation writing `main_v4` leaves, as a function of the arguments it reaches. -/
def h4 (a0 : FVec Ideal S8192x2048 .f32) : FVec Ideal S8192x2048 .f32 :=
  Host.divf (h2 a0) h3

/-- What the host operation writing `main_v5` leaves, as a function of the arguments it reaches. -/
def h5 (a0 : FVec Ideal S8192x2048 .f32) : FVec Ideal S8192x2048 .bf16 :=
  truncf .bf16 (h4 a0) bitsLt_bf16_f32

/-- What the host operation writing `main_v6` leaves, as a function of the arguments it reaches. -/
def h6 (a1 : FVec Ideal S8192x2048 .f32) : FVec Ideal S8192x2048 .bf16 :=
  truncf .bf16 a1 bitsLt_bf16_f32

/-- What the host operation writing `main_v7` leaves, as a function of the arguments it reaches. -/
def h7 (a2 : FVec Ideal S8192x2048 .f32) : FVec Ideal S8192x2048 .bf16 :=
  truncf .bf16 a2 bitsLt_bf16_f32

/-- Three arrays side by side, column block after column block. -/
def beside (x y z : FVec Ideal S8192x2048 .bf16) : FVec Ideal S8192x6144 .bf16 :=
  concatenate S8192x6144 1 [⟨S8192x2048, x⟩, ⟨S8192x2048, y⟩, ⟨S8192x2048, z⟩] concatenates_S8192x2048_S8192x2048_S8192x2048_S8192x6144_d1

/-- What the host operation writing `main_v8` leaves, as a function of the arguments it reaches. -/
def h8 (a0 : FVec Ideal S8192x2048 .f32) (a1 : FVec Ideal S8192x2048 .f32) (a2 : FVec Ideal S8192x2048 .f32) : FVec Ideal S8192x6144 .bf16 :=
  beside (h5 a0) (h6 a1) (h7 a2)

/-- What the host operation writing `main_v9` leaves, as a function of the arguments it reaches. -/
def h9 : FVec Ideal S16x8192 .f32 :=
  (broadcastInDim S16x8192 ![] bcast_S_S16x8192) h0

/-- What the host operation writing `main_v10` leaves, as a function of the arguments it reaches. -/
def h10 (a3 : FVec Ideal S16x8192 .f32) : FVec Ideal S16x8192 .f32 :=
  Host.divf a3 h9

/-- What the host operation writing `main_v11` leaves, as a function of the arguments it reaches. -/
def h11 (a3 : FVec Ideal S16x8192 .f32) : FVec Ideal S8192x16 .f32 :=
  transpose S8192x16 [1, 0] (h10 a3) transposes_S16x8192_S8192x16_1_0

/-- What the host operation writing `main_v12` leaves, as a function of the arguments it reaches. -/
def h12 (a3 : FVec Ideal S16x8192 .f32) : FVec Ideal S8192x16x128 .f32 :=
  (broadcastInDim S8192x16x128 ![0, 1] bcast_S8192x16_S8192x16x128_0_1) (h11 a3)

/-- What the host operation writing `main_v13` leaves, as a function of the arguments it reaches. -/
def h13 (a3 : FVec Ideal S16x8192 .f32) : FVec Ideal S8192x2048 .f32 :=
  shapeCast S8192x2048 (h12 a3) shapeCasts_S8192x16x128_S8192x2048

/-- What the host operation writing `main_v14` leaves, as a function of the arguments it reaches. -/
def h14 (a0 : FVec Ideal S8192x2048 .f32) : FVec Ideal S8192x16x128 .f32 :=
  shapeCast S8192x16x128 a0 shapeCasts_S8192x2048_S8192x16x128

/-- What the host operation writing `main_v15` leaves, as a function of the arguments it reaches. -/
def h15 (a0 : FVec Ideal S8192x2048 .f32) : FVec Ideal S16x8192x128 .f32 :=
  transpose S16x8192x128 [1, 0, 2] (h14 a0) transposes_S8192x16x128_S16x8192x128_1_0_2

/-- What the host operation writing `main_v16` leaves, as a function of the arguments it reaches. -/
def h16 (a1 : FVec Ideal S8192x2048 .f32) : FVec Ideal S8192x16x128 .f32 :=
  shapeCast S8192x16x128 a1 shapeCasts_S8192x2048_S8192x16x128

/-- What the host operation writing `main_v17` leaves, as a function of the arguments it reaches. -/
def h17 (a1 : FVec Ideal S8192x2048 .f32) : FVec Ideal S16x8192x128 .f32 :=
  transpose S16x8192x128 [1, 0, 2] (h16 a1) transposes_S8192x16x128_S16x8192x128_1_0_2

/-- What the host operation writing `main_v18` leaves, as a function of the arguments it reaches. -/
def h18 (a0 : FVec Ideal S8192x2048 .f32) (a1 : FVec Ideal S8192x2048 .f32) : FVec Ideal S16x8192x8192 .f32 :=
  Host.dotGeneral dot_S16x8192x128_S16x8192x128_S16x8192x8192_2_2_1_1_0_0 none (h15 a0) (h17 a1)

/-- What the host operation writing `main_cst_1` leaves, as a function of the arguments it reaches. -/
def hcst_1 : FVec Ideal S_ .f32 :=
  (constant S_ .f32 0x3DB504F3#32)

/-- What the host operation writing `main_v19` leaves, as a function of the arguments it reaches. -/
def h19 : FVec Ideal S16x8192x8192 .f32 :=
  (broadcastInDim S16x8192x8192 ![] bcast_S_S16x8192x8192) hcst_1

/-- What the host operation writing `main_v20` leaves, as a function of the arguments it reaches. -/
def h20 (a0 : FVec Ideal S8192x2048 .f32) (a1 : FVec Ideal S8192x2048 .f32) : FVec Ideal S16x8192x8192 .f32 :=
  mulf (h18 a0 a1) h19

/-- What the host operation writing `main_v21` leaves, as a function of the arguments it reaches. -/
def h21 (a3 : FVec Ideal S16x8192 .f32) : FVec Ideal S16x1x8192 .f32 :=
  (broadcastInDim S16x1x8192 ![0, 2] bcast_S16x8192_S16x1x8192_0_2) a3

/-- What the host operation writing `main_v22` leaves, as a function of the arguments it reaches. -/
def h22 (a3 : FVec Ideal S16x8192 .f32) : FVec Ideal S16x8192x8192 .f32 :=
  (broadcastInDim S16x8192x8192 ![0, 1, 2] bcast_S16x1x8192_S16x8192x8192_0_1_2) (h21 a3)

/-- What the host operation writing `main_v23` leaves, as a function of the arguments it reaches. -/
def h23 (a0 : FVec Ideal S8192x2048 .f32) (a1 : FVec Ideal S8192x2048 .f32) (a3 : FVec Ideal S16x8192 .f32) : FVec Ideal S16x8192x8192 .f32 :=
  subf (h20 a0 a1) (h22 a3)

/-- What the host operation writing `main_v24` leaves, as a function of the arguments it reaches. -/
def h24 : IVec S8192 32 :=
  (iotaInDim S8192 32 0)

/-- What the host operation writing `main_v25` leaves, as a function of the arguments it reaches. -/
def h25 : IVec S1x8192 32 :=
  (broadcastInDim S1x8192 ![1] bcast_S8192_S1x8192_1) h24

/-- What the host operation writing `main_v26` leaves, as a function of the arguments it reaches. -/
def h26 : IVec S8192x1 32 :=
  (broadcastInDim S8192x1 ![0] bcast_S8192_S8192x1_0) h24

/-- What the host operation writing `main_v27` leaves, as a function of the arguments it reaches. -/
def h27 : IVec S8192x8192 32 :=
  (broadcastInDim S8192x8192 ![0, 1] bcast_S1x8192_S8192x8192_0_1) h25

/-- What the host operation writing `main_v28` leaves, as a function of the arguments it reaches. -/
def h28 : IVec S8192x8192 32 :=
  (broadcastInDim S8192x8192 ![0, 1] bcast_S8192x1_S8192x8192_0_1) h26

/-- What the host operation writing `main_v29` leaves, as a function of the arguments it reaches. -/
def h29 : IVec S8192x8192 1 :=
  (cmpi .sle) h27 h28

/-- What the host operation writing `main_cst_2` leaves, as a function of the arguments it reaches. -/
def hcst_2 : FVec Ideal S_ .f32 :=
  (constant S_ .f32 0xFF800000#32)

/-- What the host operation writing `main_call0_v0` leaves, as a function of the arguments it reaches. -/
def hw0 : FVec Ideal S_ .f32 :=
  id hcst_2

/-- What the host operation writing `main_call0_v1` leaves, as a function of the arguments it reaches. -/
def hw1 : IVec S16x8192x8192 1 :=
  (broadcastInDim S16x8192x8192 ![1, 2] bcast_S8192x8192_S16x8192x8192_1_2) h29

/-- What the host operation writing `main_call0_v2` leaves, as a function of the arguments it reaches. -/
def hw2 : FVec Ideal S16x8192x8192 .f32 :=
  (broadcastInDim S16x8192x8192 ![] bcast_S_S16x8192x8192) hw0

/-- What the host operation writing `main_v30` leaves, as a function of the arguments it reaches. -/
def h30 (a0 : FVec Ideal S8192x2048 .f32) (a1 : FVec Ideal S8192x2048 .f32) (a3 : FVec Ideal S16x8192 .f32) : FVec Ideal S16x8192x8192 .f32 :=
  select hw1 (h23 a0 a1 a3) hw2

/-- What the host operation writing `main_cst_3` leaves, as a function of the arguments it reaches. -/
def hcst_3 : FVec Ideal S_ .f32 :=
  (constant S_ .f32 0xFF800000#32)

/-- What the host operation writing `main_v31` leaves, as a function of the arguments it reaches. -/
def h31 (a0 : FVec Ideal S8192x2048 .f32) (a1 : FVec Ideal S8192x2048 .f32) (a3 : FVec Ideal S16x8192 .f32) : FVec Ideal S16x8192 .f32 :=
  Host.reduce FloatOps.maximumf (h30 a0 a1 a3) hcst_3 reducesTo_S16x8192x8192_S16x8192_d2 h_S_

/-- What the host operation writing `main_v32` leaves, as a function of the arguments it reaches. -/
def h32 (a0 : FVec Ideal S8192x2048 .f32) (a1 : FVec Ideal S8192x2048 .f32) (a3 : FVec Ideal S16x8192 .f32) : FVec Ideal S16x8192x1 .f32 :=
  (broadcastInDim S16x8192x1 ![0, 1] bcast_S16x8192_S16x8192x1_0_1) (h31 a0 a1 a3)

/-- What the host operation writing `main_v33` leaves, as a function of the arguments it reaches. -/
def h33 (a0 : FVec Ideal S8192x2048 .f32) (a1 : FVec Ideal S8192x2048 .f32) (a3 : FVec Ideal S16x8192 .f32) : FVec Ideal S16x8192x8192 .f32 :=
  (broadcastInDim S16x8192x8192 ![0, 1, 2] bcast_S16x8192x1_S16x8192x8192_0_1_2) (h32 a0 a1 a3)

/-- What the host operation writing `main_v34` leaves, as a function of the arguments it reaches. -/
def h34 (a0 : FVec Ideal S8192x2048 .f32) (a1 : FVec Ideal S8192x2048 .f32) (a3 : FVec Ideal S16x8192 .f32) : FVec Ideal S16x8192x8192 .f32 :=
  subf (h30 a0 a1 a3) (h33 a0 a1 a3)

/-- What the host operation writing `main_v35` leaves, as a function of the arguments it reaches. -/
def h35 (a0 : FVec Ideal S8192x2048 .f32) (a1 : FVec Ideal S8192x2048 .f32) (a3 : FVec Ideal S16x8192 .f32) : FVec Ideal S16x8192x8192 .f32 :=
  Host.exp (h34 a0 a1 a3)

/-- What the host operation writing `main_cst_4` leaves, as a function of the arguments it reaches. -/
def hcst_4 : FVec Ideal S_ .f32 :=
  (constant S_ .f32 0x00000000#32)

/-- What the host operation writing `main_v36` leaves, as a function of the arguments it reaches. -/
def h36 (a0 : FVec Ideal S8192x2048 .f32) (a1 : FVec Ideal S8192x2048 .f32) (a3 : FVec Ideal S16x8192 .f32) : FVec Ideal S16x8192 .f32 :=
  Host.reduceAdd (h35 a0 a1 a3) hcst_4 reducesTo_S16x8192x8192_S16x8192_d2 h_S_

/-- What the host operation writing `main_v37` leaves, as a function of the arguments it reaches. -/
def h37 (a0 : FVec Ideal S8192x2048 .f32) (a1 : FVec Ideal S8192x2048 .f32) (a3 : FVec Ideal S16x8192 .f32) : FVec Ideal S16x8192x1 .f32 :=
  (broadcastInDim S16x8192x1 ![0, 1] bcast_S16x8192_S16x8192x1_0_1) (h36 a0 a1 a3)

/-- What the host operation writing `main_v38` leaves, as a function of the arguments it reaches. -/
def h38 (a0 : FVec Ideal S8192x2048 .f32) (a1 : FVec Ideal S8192x2048 .f32) (a3 : FVec Ideal S16x8192 .f32) : FVec Ideal S16x8192x8192 .f32 :=
  (broadcastInDim S16x8192x8192 ![0, 1, 2] bcast_S16x8192x1_S16x8192x8192_0_1_2) (h37 a0 a1 a3)

/-- What the host operation writing `main_v39` leaves, as a function of the arguments it reaches. -/
def h39 (a0 : FVec Ideal S8192x2048 .f32) (a1 : FVec Ideal S8192x2048 .f32) (a3 : FVec Ideal S16x8192 .f32) : FVec Ideal S16x8192x8192 .f32 :=
  Host.divf (h35 a0 a1 a3) (h38 a0 a1 a3)

/-- What the host operation writing `main_v40` leaves, as a function of the arguments it reaches. -/
def h40 (a2 : FVec Ideal S8192x2048 .f32) : FVec Ideal S8192x16x128 .f32 :=
  shapeCast S8192x16x128 a2 shapeCasts_S8192x2048_S8192x16x128

/-- What the host operation writing `main_v41` leaves, as a function of the arguments it reaches. -/
def h41 (a2 : FVec Ideal S8192x2048 .f32) : FVec Ideal S16x8192x128 .f32 :=
  transpose S16x8192x128 [1, 0, 2] (h40 a2) transposes_S8192x16x128_S16x8192x128_1_0_2

/-- What the host operation writing `main_v42` leaves, as a function of the arguments it reaches. -/
def h42 (a0 : FVec Ideal S8192x2048 .f32) (a1 : FVec Ideal S8192x2048 .f32) (a2 : FVec Ideal S8192x2048 .f32) (a3 : FVec Ideal S16x8192 .f32) : FVec Ideal S16x8192x128 .f32 :=
  Host.dotGeneral dot_S16x8192x8192_S16x8192x128_S16x8192x128_2_1_1_2_0_0 none (h39 a0 a1 a3) (h41 a2)

/-- What the host operation writing `main_v43` leaves, as a function of the arguments it reaches. -/
def h43 (a0 : FVec Ideal S8192x2048 .f32) (a1 : FVec Ideal S8192x2048 .f32) (a3 : FVec Ideal S16x8192 .f32) : FVec Ideal S16x8192x1 .f32 :=
  Host.log (h37 a0 a1 a3)

/-- What the host operation writing `main_v44` leaves, as a function of the arguments it reaches. -/
def h44 (a0 : FVec Ideal S8192x2048 .f32) (a1 : FVec Ideal S8192x2048 .f32) (a3 : FVec Ideal S16x8192 .f32) : FVec Ideal S16x8192x1 .f32 :=
  addf (h32 a0 a1 a3) (h43 a0 a1 a3)

/-- What the host operation writing `main_v45` leaves, as a function of the arguments it reaches. -/
def h45 (a0 : FVec Ideal S8192x2048 .f32) (a1 : FVec Ideal S8192x2048 .f32) (a3 : FVec Ideal S16x8192 .f32) : FVec Ideal S16x8192 .f32 :=
  shapeCast S16x8192 (h44 a0 a1 a3) shapeCasts_S16x8192x1_S16x8192

/-- What the host operation writing `main_cst_5` leaves, as a function of the arguments it reaches. -/
def hcst_5 : FVec Ideal S_ .f32 :=
  (constant S_ .f32 0x40000000#32)

/-- What the host operation writing `main_v46` leaves, as a function of the arguments it reaches. -/
def h46 : FVec Ideal S_ .f32 :=
  Host.log hcst_5

/-- What the host operation writing `main_v47` leaves, as a function of the arguments it reaches. -/
def h47 : FVec Ideal S16x8192 .f32 :=
  (broadcastInDim S16x8192 ![] bcast_S_S16x8192) h46

/-- What the host operation writing `main_v48` leaves, as a function of the arguments it reaches. -/
def h48 (a0 : FVec Ideal S8192x2048 .f32) (a1 : FVec Ideal S8192x2048 .f32) (a3 : FVec Ideal S16x8192 .f32) : FVec Ideal S16x8192 .f32 :=
  Host.divf (h45 a0 a1 a3) h47

/-- What the host operation writing `main_v49` leaves, as a function of the arguments it reaches. -/
def h49 (a4 : FVec Ideal S8192x2048 .f32) : FVec Ideal S8192x16x128 .f32 :=
  shapeCast S8192x16x128 a4 shapeCasts_S8192x2048_S8192x16x128

/-- What the host operation writing `main_v50` leaves, as a function of the arguments it reaches. -/
def h50 (a4 : FVec Ideal S8192x2048 .f32) : FVec Ideal S16x8192x128 .f32 :=
  transpose S16x8192x128 [1, 0, 2] (h49 a4) transposes_S8192x16x128_S16x8192x128_1_0_2

/-- What the host operation writing `main_v51` leaves, as a function of the arguments it reaches. -/
def h51 (a0 : FVec Ideal S8192x2048 .f32) (a1 : FVec Ideal S8192x2048 .f32) (a2 : FVec Ideal S8192x2048 .f32) (a3 : FVec Ideal S16x8192 .f32) (a4 : FVec Ideal S8192x2048 .f32) : FVec Ideal S16x8192x128 .f32 :=
  mulf (h50 a4) (h42 a0 a1 a2 a3)

/-- What the host operation writing `main_cst_6` leaves, as a function of the arguments it reaches. -/
def hcst_6 : FVec Ideal S_ .f32 :=
  (constant S_ .f32 0x00000000#32)

/-- What the host operation writing `main_v52` leaves, as a function of the arguments it reaches. -/
def h52 (a0 : FVec Ideal S8192x2048 .f32) (a1 : FVec Ideal S8192x2048 .f32) (a2 : FVec Ideal S8192x2048 .f32) (a3 : FVec Ideal S16x8192 .f32) (a4 : FVec Ideal S8192x2048 .f32) : FVec Ideal S16x8192 .f32 :=
  Host.reduceAdd (h51 a0 a1 a2 a3 a4) hcst_6 reducesTo_S16x8192x128_S16x8192_d2 h_S_

/-- What the host operation writing `main_v53` leaves, as a function of the arguments it reaches. -/
def h53 (a4 : FVec Ideal S8192x2048 .f32) : FVec Ideal S8192x2048 .bf16 :=
  truncf .bf16 a4 bitsLt_bf16_f32

/-- What the host operation writing `main_v54` leaves, as a function of the arguments it reaches. -/
def h54 (a5 : FVec Ideal S8192x2048 .f32) : FVec Ideal S8192x2048 .bf16 :=
  truncf .bf16 a5 bitsLt_bf16_f32

/-- What the host operation writing `main_v55` leaves, as a function of the arguments it reaches. -/
def h55 (a0 : FVec Ideal S8192x2048 .f32) (a1 : FVec Ideal S8192x2048 .f32) (a3 : FVec Ideal S16x8192 .f32) : FVec Ideal S16x1x8192 .f32 :=
  shapeCast S16x1x8192 (h48 a0 a1 a3) shapeCasts_S16x8192_S16x1x8192

/-- What the host operation writing `main_v56` leaves, as a function of the arguments it reaches. -/
def h56 (a0 : FVec Ideal S8192x2048 .f32) (a1 : FVec Ideal S8192x2048 .f32) (a2 : FVec Ideal S8192x2048 .f32) (a3 : FVec Ideal S16x8192 .f32) (a4 : FVec Ideal S8192x2048 .f32) : FVec Ideal S16x1x8192 .f32 :=
  shapeCast S16x1x8192 (h52 a0 a1 a2 a3 a4) shapeCasts_S16x8192_S16x1x8192

variable (m : (ℓ : Loc nD τ sig) → Buf (Elt Ideal) ℓ)

/-- Argument 0 as launched. -/
abbrev arg0 (c : Dev nD) : FVec Ideal S8192x2048 .f32 := m ((c : Thread nD τ).loc main_arg0)

/-- Argument 1 as launched. -/
abbrev arg1 (c : Dev nD) : FVec Ideal S8192x2048 .f32 := m ((c : Thread nD τ).loc main_arg1)

/-- Argument 2 as launched. -/
abbrev arg2 (c : Dev nD) : FVec Ideal S8192x2048 .f32 := m ((c : Thread nD τ).loc main_arg2)

/-- Argument 3 as launched. -/
abbrev arg3 (c : Dev nD) : FVec Ideal S16x8192 .f32 := m ((c : Thread nD τ).loc main_arg3)

/-- Argument 4 as launched. -/
abbrev arg4 (c : Dev nD) : FVec Ideal S8192x2048 .f32 := m ((c : Thread nD τ).loc main_arg4)

/-- Argument 5 as launched. -/
abbrev arg5 (c : Dev nD) : FVec Ideal S8192x2048 .f32 := m ((c : Thread nD τ).loc main_arg5)

/-- The region finds `main_v53` at its term of the arguments. -/
theorem found_v53 (c : Dev nD) : V m c main_v53 = h53 (arg4 m c) := by
  simp only [V, hostOps0, hostOps0_1, hostOps0_2, List.flatten_cons, List.flatten_nil, List.append_nil, List.cons_append,
    List.nil_append]
  after_results_simp
  rfl

/-- The region finds `main_v54` at its term of the arguments. -/
theorem found_v54 (c : Dev nD) : V m c main_v54 = h54 (arg5 m c) := by
  simp only [V, hostOps0, hostOps0_1, hostOps0_2, List.flatten_cons, List.flatten_nil, List.append_nil, List.cons_append,
    List.nil_append]
  after_results_simp
  rfl

/-- The region finds `main_v13` at its term of the arguments. -/
theorem found_v13 (c : Dev nD) : V m c main_v13 = h13 (arg3 m c) := by
  simp only [V, hostOps0, hostOps0_1, hostOps0_2, List.flatten_cons, List.flatten_nil, List.append_nil, List.cons_append,
    List.nil_append]
  after_results_simp
  rfl

/-- The region finds `main_v8` at its term of the arguments. -/
theorem found_v8 (c : Dev nD) : V m c main_v8 = h8 (arg0 m c) (arg1 m c) (arg2 m c) := by
  simp only [V, hostOps0, hostOps0_1, hostOps0_2, List.flatten_cons, List.flatten_nil, List.append_nil, List.cons_append,
    List.nil_append]
  after_results_simp
  change beside _ _ _ = beside (h5 _) (h6 _) (h7 _)
  refine congr (congr (congrArg beside ?_) ?_) ?_ <;>
    (simp only [Matrix.cons_val_zero, Matrix.cons_val_one, Matrix.cons_val]; after_results_simp; rfl)

/-- The region finds `main_v55` at its term of the arguments. -/
theorem found_v55 (c : Dev nD) : V m c main_v55 = h55 (arg0 m c) (arg1 m c) (arg3 m c) := by
  simp only [V, hostOps0, hostOps0_1, hostOps0_2, List.flatten_cons, List.flatten_nil, List.append_nil, List.cons_append,
    List.nil_append]
  after_results_simp
  rfl

/-- The region finds `main_v56` at its term of the arguments. -/
theorem found_v56 (c : Dev nD) : V m c main_v56 = h56 (arg0 m c) (arg1 m c) (arg2 m c) (arg3 m c) (arg4 m c) := by
  simp only [V, hostOps0, hostOps0_1, hostOps0_2, List.flatten_cons, List.flatten_nil, List.append_nil, List.cons_append,
    List.nil_append]
  after_results_simp
  rfl

end Cert.KernelIdeal.Bwd
-- ==== Proof.Tile.lean ====
/- What the kernel's values on one tile are, entry by entry, over the extended reals. -/
module

public import proofs.«01_k».proof.Proof.Run
public import Idealize.ShloMosaic.Lib.Pointwise

@[expose] public section

set_option maxRecDepth 16384

noncomputable section

namespace Cert.KernelIdeal.Bwd

open Idealize.ShloMosaic Cert.KernelIdeal.Gen

/-- The rows' decays, one column repeated: column `s` of the wide tile is column `s % 128`. -/
theorem pay29_apply (c : FVec Ideal S1024x128 .f32) (r s : Fin 1024) :
    k0_pay29 c (ix2 r s) = c (ix2 r ⟨s.val % 128, Nat.mod_lt _ (by norm_num)⟩) := by
  unfold k0_pay29
  refine (concatenate_replicate_apply (s₁ := S1024x128) (t := S1024x1024) 1 8 _ _ rfl (ix2 r s)
    (ix2 r ⟨s.val % 128, Nat.mod_lt _ (by norm_num)⟩) rfl ?_).trans ?_
  · intro b hb
    match b with
    | ⟨0, _⟩ => rfl
    | ⟨1, _⟩ => exact absurd rfl hb
  · rw [shapeCast_self]

theorem pay7_apply (k : FVec Ideal S1024x128 .bf16) (c : FVec Ideal S1024x1024 .f32) (q : FVec Ideal S1024x128 .bf16)
    (l : FVec Ideal S1x1x1024 .f32) (r s : Fin 1024) :
    k0_pay7 k c q l (ix2 r s) = Ideal.exp2 ((∑ d : Fin 128, k (ix2 r d) * q (ix2 s d)) - c (ix2 r s) - l (ix3 0 0 s)) := by
  pointwise [k0_pay7, k0_pay5]
  rfl

theorem pay9_apply (k v : FVec Ideal S1024x128 .bf16) (c : FVec Ideal S1024x1024 .f32) (q g : FVec Ideal S1024x128 .bf16)
    (l dl : FVec Ideal S1x1x1024 .f32) (r s : Fin 1024) :
    k0_pay9 k v c q g l dl (ix2 r s)
      = k0_pay7 k c q l (ix2 r s) * ((∑ d : Fin 128, v (ix2 r d) * g (ix2 s d)) - dl (ix3 0 0 s)) := by
  pointwise [k0_pay9, k0_pay6]

theorem pay10_eq (k v : FVec Ideal S1024x128 .bf16) (c : FVec Ideal S1024x1024 .f32) (q g : FVec Ideal S1024x128 .bf16)
    (l dl : FVec Ideal S1x1x1024 .f32) (r s : Fin 1024) :
    k0_pay10 k v c q g l dl (ix2 r s) = k0_pay9 k v c q g l dl (ix2 r s) := rfl

theorem pay8_apply (k : FVec Ideal S1024x128 .bf16) (c : FVec Ideal S1024x1024 .f32) (q g : FVec Ideal S1024x128 .bf16)
    (l : FVec Ideal S1x1x1024 .f32) (a : FVec Ideal S1024x128 .f32) (r : Fin 1024) (d : Fin 128) :
    k0_pay8 k c q g l a (ix2 r d) = a (ix2 r d) + ∑ s : Fin 1024, k0_pay7 k c q l (ix2 r s) * g (ix2 s d) := by
  pointwise [k0_pay8, k0_pay6]

theorem pay11_apply (k v : FVec Ideal S1024x128 .bf16) (c : FVec Ideal S1024x1024 .f32) (q g : FVec Ideal S1024x128 .bf16)
    (l dl : FVec Ideal S1x1x1024 .f32) (a : FVec Ideal S1024x128 .f32) (r : Fin 1024) (d : Fin 128) :
    k0_pay11 k v c q g l dl a (ix2 r d)
      = a (ix2 r d) + ∑ s : Fin 1024, k0_pay9 k v c q g l dl (ix2 r s) * q (ix2 s d) := by
  pointwise [k0_pay11, k0_pay10, k0_pay5]

theorem pay47_apply (x : FVec Ideal S1024x1024 .f32) (a : FVec Ideal S1024x1 .f32) (r : Fin 1024) :
    k0_pay47 x a (ix2 r 0) = a (ix2 r 0) + ∑ s : Fin 1024, x (ix2 r s) := by
  pointwise [k0_pay47]

theorem pay48_apply (k : FVec Ideal S1024x128 .bf16) (x : FVec Ideal S1024x1024 .bf16) (a : FVec Ideal S128x1024 .f32)
    (d : Fin 128) (s : Fin 1024) :
    k0_pay48 k x a (ix2 d s) = a (ix2 d s) + ∑ r : Fin 1024, k (ix2 r d) * x (ix2 r s) := by
  pointwise [k0_pay48]

theorem pay49_apply (x : FVec Ideal S1024x1024 .f32) (a : FVec Ideal S1x1024 .f32) (s : Fin 1024) :
    k0_pay49 x a (ix2 0 s) = a (ix2 0 s) + ∑ r : Fin 1024, x (ix2 r s) := by
  pointwise [k0_pay49]

theorem pay37_apply (k : FVec Ideal S1024x128 .bf16) (c : FVec Ideal S1024x128 .f32) (q : FVec Ideal S1024x128 .bf16)
    (r s : Fin 1024) :
    (k0_pay37 (F := Ideal) k c q (ix2 r s) : EReal) = (∑ d : Fin 128, k (ix2 r d) * q (ix2 s d)) - (k0_pay29 (F := Ideal) c (ix2 r s) : EReal) := by
  pointwise [k0_pay37, k0_pay27, k0_pay35]

theorem pay40_apply (v g : FVec Ideal S1024x128 .bf16) (x : FVec Ideal S1024x1024 .f32)
    (l dl : FVec Ideal S1x1x1024 .f32) (r s : Fin 1024) :
    k0_pay40 v g x l dl (ix2 r s) = k0_pay38 x l (ix2 r s) * ((∑ d : Fin 128, v (ix2 r d) * g (ix2 s d)) - dl (ix3 0 0 s)) := by
  pointwise [k0_pay40]

theorem pay38_apply (x : FVec Ideal S1024x1024 .f32) (l : FVec Ideal S1x1x1024 .f32) (r s : Fin 1024) :
    k0_pay38 x l (ix2 r s) = if r.val ≤ s.val then Ideal.exp2 (x (ix2 r s) - l (ix3 0 0 s)) else 0 := by
  pointwise [k0_pay38]
  rw [WordCmp.cmpi_sge_ofNat (by omega) (by omega)]
  by_cases h : r.val ≤ s.val
  · simp only [h, decide_true, if_pos]; rfl
  · simp only [h, decide_false, if_neg, not_false_eq_true]; rfl

theorem pay39_apply (g : FVec Ideal S1024x128 .bf16) (x : FVec Ideal S1024x1024 .f32)
    (l : FVec Ideal S1x1x1024 .f32) (a : FVec Ideal S1024x128 .f32) (r : Fin 1024) (d : Fin 128) :
    k0_pay39 g x l a (ix2 r d) = a (ix2 r d) + ∑ s : Fin 1024, k0_pay38 x l (ix2 r s) * g (ix2 s d) := by
  pointwise [k0_pay39]

theorem pay41_eq (v g : FVec Ideal S1024x128 .bf16) (x : FVec Ideal S1024x1024 .f32)
    (l dl : FVec Ideal S1x1x1024 .f32) (r s : Fin 1024) :
    k0_pay41 v g x l dl (ix2 r s) = k0_pay40 v g x l dl (ix2 r s) := rfl

theorem pay42_apply (v q g : FVec Ideal S1024x128 .bf16) (x : FVec Ideal S1024x1024 .f32)
    (l dl : FVec Ideal S1x1x1024 .f32) (a : FVec Ideal S1024x128 .f32) (r : Fin 1024) (d : Fin 128) :
    k0_pay42 v q g x l dl a (ix2 r d) = a (ix2 r d) + ∑ s : Fin 1024, k0_pay40 v g x l dl (ix2 r s) * q (ix2 s d) := by
  pointwise [k0_pay42, k0_pay41]

theorem pay43_apply (v g : FVec Ideal S1024x128 .bf16) (x : FVec Ideal S1024x1024 .f32)
    (l dl : FVec Ideal S1x1x1024 .f32) (a : FVec Ideal S1024x1 .f32) (r : Fin 1024) :
    k0_pay44 (k0_pay43 v g x l dl a) (ix2 r 0) = a (ix2 r 0) + ∑ s : Fin 1024, k0_pay40 v g x l dl (ix2 r s) := by
  pointwise [k0_pay44, k0_pay43]

theorem pay45_apply (k : FVec Ideal S1024x128 .bf16) (x : FVec Ideal S1024x1024 .bf16) (a : FVec Ideal S128x1024 .f32)
    (d : Fin 128) (s : Fin 1024) :
    k0_pay45 k x a (ix2 d s) = a (ix2 d s) + ∑ r : Fin 1024, k (ix2 r d) * x (ix2 r s) := by
  pointwise [k0_pay45]

theorem pay46_apply (x : FVec Ideal S1024x1024 .f32) (a : FVec Ideal S1x1024 .f32) (s : Fin 1024) :
    k0_pay46 x a (ix2 0 s) = a (ix2 0 s) + ∑ r : Fin 1024, x (ix2 r s) := by
  pointwise [k0_pay46]

theorem pay27_eq (v : FVec Ideal S1024x128 .bf16) : k0_pay27 v = v := shapeCast_self _ _
theorem pay28_eq (v : FVec Ideal S1024x128 .bf16) : k0_pay28 v = v := shapeCast_self _ _
theorem pay35_eq (v : FVec Ideal S1024x128 .bf16) : k0_pay35 v = v := shapeCast_self _ _
theorem pay36_eq (v : FVec Ideal S1024x128 .bf16) : k0_pay36 v = v := shapeCast_self _ _

theorem pay30_apply (j : S1024x128.Idx) : k0_pay30 (F := Ideal) j = 0 := by pointwise [k0_pay30]
theorem pay31_apply (j : S1024x128.Idx) : k0_pay31 (F := Ideal) j = 0 := by pointwise [k0_pay31]
theorem pay32_apply (j : S1024x1.Idx) : k0_pay32 (F := Ideal) j = 0 := by pointwise [k0_pay32]
theorem pay33_apply (j : S128x8192.Idx) : k0_pay33 (F := Ideal) j = 0 := by pointwise [k0_pay33]
theorem pay34_apply (j : S1x8192.Idx) : k0_pay34 (F := Ideal) j = 0 := by pointwise [k0_pay34]

/-- The scale of the query gradient. -/
abbrev scaleW : EReal := Ideal.ofBits .f32 0x3DB504F3#32

theorem pay19_apply (x : FVec Ideal S128x1024 .f32) (r : Fin 1024) (d : Fin 128) :
    (k0_pay19 (F := Ideal) x (ix3 0 r d) : EReal) = x (ix2 d r) * scaleW := by
  pointwise [k0_pay19]
theorem pay20_eq (x : FVec Ideal S128x1024 .f32) : k0_pay20 (F := Ideal) x = k0_pay19 (F := Ideal) x := rfl
theorem pay21_eq (x : FVec Ideal S128x1024 .f32) : k0_pay21 (F := Ideal) x = k0_pay19 (F := Ideal) x := rfl
theorem pay22_eq (x : FVec Ideal S128x1024 .f32) : k0_pay22 (F := Ideal) x = k0_pay19 (F := Ideal) x := rfl
theorem pay23_eq (x : FVec Ideal S128x1024 .f32) : k0_pay23 (F := Ideal) x = k0_pay19 (F := Ideal) x := rfl
theorem pay24_eq (x : FVec Ideal S128x1024 .f32) : k0_pay24 (F := Ideal) x = k0_pay19 (F := Ideal) x := rfl
theorem pay25_eq (x : FVec Ideal S128x1024 .f32) : k0_pay25 (F := Ideal) x = k0_pay19 (F := Ideal) x := rfl
theorem pay26_eq (x : FVec Ideal S128x1024 .f32) : k0_pay26 (F := Ideal) x = k0_pay19 (F := Ideal) x := rfl

theorem ln2_eq : (Named.named κ "ln2" 0x3F317218#32 : Ideal .f32) = ((Real.log 2 : ℝ) : EReal) :=
  IdealRules.named_const.ideal_named_scalar _ _ _ _ rfl

theorem pay53_apply (x : FVec Ideal S1024x128 .f32) (r : Fin 1024) (d : Fin 128) :
    (k0_pay53 (F := Ideal) x (ix3 0 r d) : EReal) = x (ix2 r d) * ((Real.log 2 : ℝ) : EReal) := by
  pointwise [k0_pay53]
  rw [ln2_eq]

theorem pay1_apply (x : FVec Ideal S1024x128 .f32) (r : Fin 1024) (d : Fin 128) :
    (k0_pay1 (F := Ideal) x (ix3 0 r d) : EReal) = x (ix2 r d) := by
  pointwise [k0_pay1]

theorem pay2_apply (x : FVec Ideal S1024x1 .f32) (r : Fin 1024) (d : Fin 128) :
    k0_pay2 x (ix2 r d) = 0 - x (ix2 r 0) := by
  pointwise [k0_pay2]

theorem pay3_apply (x : FVec Ideal S8192x128 .bf16) (r : Fin 8192) (d : Fin 128) :
    k0_pay3 x (ix3 0 r d) = x (ix2 r d) := by
  pointwise [k0_pay3]

theorem pay4_apply (x : FVec Ideal S1x8192 .f32) (r : Fin 8192) :
    k0_pay4 x (ix3 0 0 r) = x (ix2 0 r) := by
  pointwise [k0_pay4]

end Cert.KernelIdeal.Bwd
-- ==== Proof.HostRead.lean ====
/- The host operations' arrays entry by entry: each stage's entry from the entries of the stage before. -/
module

public import proofs.«01_k».proof.Proof.Host
public import proofs.«01_k».proof.Proof.Tile

@[expose] public section

set_option maxRecDepth 16384

noncomputable section

namespace Cert.KernelIdeal.Bwd

open Idealize.ShloMosaic Cert.KernelIdeal.Gen

variable (a0 a1 a2 a4 a5 : FVec Ideal S8192x2048 .f32) (a3 : FVec Ideal S16x8192 .f32)

/-- The literal two, as the machine's word gives it. -/
abbrev twoW : EReal := Ideal.ofBits .f32 0x40000000#32

/-- The first third of the joined array: the queries, scaled and in base two. -/
theorem h8_q (i : Fin 8192) (j : Fin 2048) (hj : j.val < 6144) :
    (h8 a0 a1 a2 (ix2 i ⟨j.val, hj⟩) : EReal) = Ideal.div (a0 (ix2 i j) * scaleW) (Ideal.log twoW) := by
  pointwise [h8, beside, h5, h6, h7, h4, h3, h2, h1, h0, hcst, hcst_0]

/-- The second third: the keys. -/
theorem h8_k (i : Fin 8192) (j : Fin 2048) (hj : 2048 + j.val < 6144) :
    (h8 a0 a1 a2 (ix2 i ⟨2048 + j.val, hj⟩) : EReal) = a1 (ix2 i j) := by
  pointwise [h8, beside, h5, h6, h7, h4, h3, h2, h1, h0, hcst, hcst_0]

/-- The last third: the values. -/
theorem h8_v (i : Fin 8192) (j : Fin 2048) (hj : 4096 + j.val < 6144) :
    (h8 a0 a1 a2 (ix2 i ⟨4096 + j.val, hj⟩) : EReal) = a2 (ix2 i j) := by
  pointwise [h8, beside, h5, h6, h7, h4, h3, h2, h1, h0, hcst, hcst_0]
  have h1 : 4096 + j.val - 2048 - 2048 = j.val := by omega
  have hl := j.isLt
  rw [dif_neg (by show ¬ 4096 + j.val < 2048; omega), dif_neg (by show ¬ 4096 + j.val - 2048 < 2048; omega)]
  exact congrArg (fun z => a2 (ix2 i z)) (Fin.ext h1)

/-- The bias, in base two, repeated along a head's 128 columns. -/
theorem h13_apply (i : Fin 8192) (j : Fin 2048) (hj : j.val / 128 < 16) :
    (h13 a3 (ix2 i j) : EReal) = Ideal.div (a3 (ix2 ⟨j.val / 128, hj⟩ i)) (Ideal.log twoW) := by
  pointwise [h13, h12, h11, h10, h9, h0, hcst]

theorem h53_apply (i : Fin 8192) (j : Fin 2048) : (h53 a4 (ix2 i j) : EReal) = a4 (ix2 i j) := rfl

theorem h54_apply (i : Fin 8192) (j : Fin 2048) : (h54 a5 (ix2 i j) : EReal) = a5 (ix2 i j) := rfl

/-- The logits, masked. -/
theorem h30_apply (h : Fin 16) (i j : Fin 8192) :
    (h30 a0 a1 a3 (ix3 h i j) : EReal) = Scalar.select (IntOp.cmpi .sle (BitVec.ofNat 32 j.val) (BitVec.ofNat 32 i.val))
      ((∑ x : Fin 128, a0 (ix2 i ⟨h.val * 128 + x.val, by omega⟩) * a1 (ix2 j ⟨h.val * 128 + x.val, by omega⟩)) * scaleW
        - a3 (ix2 h j)) (Ideal.ofBits .f32 0xFF800000#32) := by
  pointwise [h30, hw0, hw1, hw2, hcst_2, h29, h28, h27, h26, h25, h24, h23, h22, h21, h20, h19, hcst_1, h18, h17, h16, h15, h14]
  rfl

/-- A row's maximum. -/
theorem h31_apply (h : Fin 16) (i : Fin 8192) :
    (h31 a0 a1 a3 (ix2 h i) : EReal) = Finset.univ.fold max (Ideal.ofBits .f32 0xFF800000#32) fun x : Fin 8192 => h30 a0 a1 a3 (ix3 h i x) := by
  pointwise [h31, hcst_3]

/-- The exponentials. -/
theorem h35_apply (h : Fin 16) (i j : Fin 8192) :
    (h35 a0 a1 a3 (ix3 h i j) : EReal) = Ideal.exp (h30 a0 a1 a3 (ix3 h i j) - h31 a0 a1 a3 (ix2 h i)) := by
  pointwise [h35, h34, h33, h32]

/-- Their row sums. -/
theorem h36_apply (h : Fin 16) (i : Fin 8192) :
    (h36 a0 a1 a3 (ix2 h i) : EReal) = ∑ x : Fin 8192, h35 a0 a1 a3 (ix3 h i x) := by
  pointwise [h36, hcst_4]

/-- The softmax. -/
theorem h39_apply (h : Fin 16) (i j : Fin 8192) :
    (h39 a0 a1 a3 (ix3 h i j) : EReal) = Ideal.div (h35 a0 a1 a3 (ix3 h i j)) (h36 a0 a1 a3 (ix2 h i)) := by
  pointwise [h39, h38, h37]

/-- A rank-two array given a last axis of one. -/
theorem column_apply (x : FVec Ideal S16x8192 .f32) (h : Fin 16) (i : Fin 8192) (o : Fin 1) :
    broadcastInDim S16x8192x1 ![0, 1] bcast_S16x8192_S16x8192x1_0_1 x (ix3 h i o) = x (ix2 h i) :=
  broadcastInDim_apply _ bcast_S16x8192_S16x8192x1_0_1 x (ix3 h i o) (ix2 h i) fun a => match a with
    | ⟨0, _⟩ => by show h.val = if (16 : ℕ) = 1 then 0 else h.val; rw [if_neg (by decide)]
    | ⟨1, _⟩ => by show i.val = if (8192 : ℕ) = 1 then 0 else i.val; rw [if_neg (by decide)]

/-- A rank-three array whose last axis is one, as a rank-two array. -/
theorem flat_apply (x : FVec Ideal S16x8192x1 .f32) (h : Fin 16) (i : Fin 8192) :
    shapeCast S16x8192 x shapeCasts_S16x8192x1_S16x8192 (ix2 h i) = x (ix3 h i 0) :=
  shapeCast_apply x shapeCasts_S16x8192x1_S16x8192 (ix2 h i) (ix3 h i 0) (by
    rewrite [Shape.rowMajor_val_two, Shape.rowMajor_val_three]
    show (h.val * 8192 + i.val) * 1 + 0 = h.val * 8192 + i.val
    omega)

/-- A rank-two array given a middle axis of one. -/
theorem middle_apply (x : FVec Ideal S16x8192 .f32) (h : Fin 16) (i : Fin 8192) :
    shapeCast S16x1x8192 x shapeCasts_S16x8192_S16x1x8192 (ix3 h 0 i) = x (ix2 h i) :=
  shapeCast_apply x shapeCasts_S16x8192_S16x1x8192 (ix3 h 0 i) (ix2 h i) (by
    rewrite [Shape.rowMajor_val_two, Shape.rowMajor_val_three]
    show h.val * 8192 + i.val = (h.val * 1 + 0) * 8192 + i.val
    omega)

theorem h32_apply (h : Fin 16) (i : Fin 8192) (o : Fin 1) : h32 a0 a1 a3 (ix3 h i o) = h31 a0 a1 a3 (ix2 h i) := by
  unfold h32; generalize h31 a0 a1 a3 = x; exact column_apply x h i o

theorem h37_apply (h : Fin 16) (i : Fin 8192) (o : Fin 1) : h37 a0 a1 a3 (ix3 h i o) = h36 a0 a1 a3 (ix2 h i) := by
  unfold h37; generalize h36 a0 a1 a3 = x; exact column_apply x h i o

theorem h43_apply (h : Fin 16) (i : Fin 8192) (o : Fin 1) : (h43 a0 a1 a3 (ix3 h i o) : EReal) = Ideal.log (h36 a0 a1 a3 (ix2 h i)) := by
  rw [← h37_apply a0 a1 a3 h i o]; unfold h43; generalize h37 a0 a1 a3 = x; rfl

theorem add_at (x y : FVec Ideal S16x8192x1 .f32) (j : S16x8192x1.Idx) (u v : EReal) (p : x j = u) (q : y j = v) :
    (addf x y j : EReal) = u + v := by
  subst p q; rfl

theorem h44_apply (h : Fin 16) (i : Fin 8192) (o : Fin 1) :
    (h44 a0 a1 a3 (ix3 h i o) : EReal) = h31 a0 a1 a3 (ix2 h i) + Ideal.log (h36 a0 a1 a3 (ix2 h i)) :=
  add_at _ _ _ _ _ (h32_apply a0 a1 a3 h i o) (h43_apply a0 a1 a3 h i o)

theorem half_at (x : FVec Ideal S16x8192 .f32) (h : Fin 16) (i : Fin 8192) (u : EReal) (p : x (ix2 h i) = u) :
    (shapeCast S16x1x8192 (Host.divf x h47) shapeCasts_S16x8192_S16x1x8192 (ix3 h 0 i) : EReal) = Ideal.div u (Ideal.log twoW) := by
  subst p
  refine (middle_apply _ h i).trans ?_
  pointwise [h47, h46, hcst_5]

/-- The logarithm of a row's sum, shifted back, in base two. -/
theorem h55_apply (h : Fin 16) (i : Fin 8192) :
    (h55 a0 a1 a3 (ix3 h 0 i) : EReal) = Ideal.div (h31 a0 a1 a3 (ix2 h i) + Ideal.log (h36 a0 a1 a3 (ix2 h i))) (Ideal.log twoW) :=
  half_at (h45 a0 a1 a3) h i _ ((flat_apply (h44 a0 a1 a3) h i).trans (h44_apply a0 a1 a3 h i 0))

/-- The output. -/
theorem h42_apply (h : Fin 16) (i : Fin 8192) (d : Fin 128) :
    (h42 a0 a1 a2 a3 (ix3 h i d) : EReal)
      = ∑ x : Fin 8192, h39 a0 a1 a3 (ix3 h i x) * a2 (ix2 x ⟨h.val * 128 + d.val, by omega⟩) := by
  pointwise [h42, h41, h40]

/-- The output's product with its gradient. -/
theorem h56_apply (h : Fin 16) (i : Fin 8192) :
    (h56 a0 a1 a2 a3 a4 (ix3 h 0 i) : EReal)
      = ∑ x : Fin 128, a4 (ix2 i ⟨h.val * 128 + x.val, by omega⟩) * h42 a0 a1 a2 a3 (ix3 h i x) := by
  pointwise [h56, h52, h51, h50, h49, hcst_6]

end Cert.KernelIdeal.Bwd
-- ==== Proof.Block.lean ====
/- One tile of the kernel, and one key block's whole work, as the sums of Proof/Model.lean. -/
module

public import proofs.«01_k».proof.Proof.Tile
public import proofs.«01_k».proof.Proof.Model

@[expose] public section

set_option maxRecDepth 16384

noncomputable section

namespace Cert.KernelIdeal.Bwd

open Idealize.ShloMosaic Cert.KernelIdeal.Gen VecWindow Cert.Model Finset

/-- The query as the kernel takes it: scaled, in base two. -/
def qf (A : Head) (i d : ℕ) : ℝ := A.Q i d * A.sc / Real.log 2

/-- A key block's three operands, from its first row `a`. -/
structure Keys (A : Head) (a : ℕ) (k v : FVec Ideal S1024x128 .bf16) (c : FVec Ideal S1024x128 .f32) : Prop where
  k : ∀ (r : Fin 1024) (d : Fin 128), k (ix2 r d) = ((A.K (a + r.val) d.val : ℝ) : EReal)
  v : ∀ (r : Fin 1024) (d : Fin 128), v (ix2 r d) = ((A.V (a + r.val) d.val : ℝ) : EReal)
  c : ∀ (r : Fin 1024) (d : Fin 128), c (ix2 r d) = ((A.C (a + r.val) / Real.log 2 : ℝ) : EReal)

/-- A query block's four operands, from its first row `b`. -/
structure Rows (A : Head) (ls : ℕ → ℝ) (b : ℕ) (q g : FVec Ideal S1024x128 .bf16) (l dl : FVec Ideal S1x1x1024 .f32) : Prop where
  q : ∀ (s : Fin 1024) (d : Fin 128), q (ix2 s d) = ((qf A (b + s.val) d.val : ℝ) : EReal)
  g : ∀ (s : Fin 1024) (d : Fin 128), g (ix2 s d) = ((A.G (b + s.val) d.val : ℝ) : EReal)
  l : ∀ s : Fin 1024, l (ix3 0 0 s) = ((ls (b + s.val) : ℝ) : EReal)
  dl : ∀ s : Fin 1024, dl (ix3 0 0 s) = ((A.Dl (b + s.val) : ℝ) : EReal)

/-- The rows' base-two logarithms of their denominators give the softmax. -/
def Logs (A : Head) (ls : ℕ → ℝ) : Prop :=
  ∀ i y, i < 8192 → y ≤ i → Real.rpow 2 (A.z i y / Real.log 2 - ls i) = A.P i y

section Tile

variable {A : Head} {ls : ℕ → ℝ} {a b : ℕ} {k v q g : FVec Ideal S1024x128 .bf16} {c : FVec Ideal S1024x128 .f32}
  {l dl : FVec Ideal S1x1x1024 .f32} (hk : Keys A a k v c) (hq : Rows A ls b q g l dl)

include hk hq

theorem logit_val (r s : Fin 1024) :
    (∑ d : Fin 128, k (ix2 r d) * q (ix2 s d) : EReal) - k0_pay29 (F := Ideal) c (ix2 r s) - l (ix3 0 0 s)
      = ((A.z (b + s.val) (a + r.val) / Real.log 2 - ls (b + s.val) : ℝ) : EReal) := by
  rw [sum_fin_coe (fun d => A.K (a + r.val) d * qf A (b + s.val) d) (fun d => by rw [hk.k, hq.q, EReal.coe_mul]),
    pay29_apply, hk.c, hq.l, ← EReal.coe_sub, ← EReal.coe_sub]
  refine congrArg _ ?_
  unfold Head.z qf
  rw [sub_div, sum_mul, sum_div]
  refine congrArg (· - _ - _) (sum_congr rfl fun d _ => by ring)

theorem grad_val (r s : Fin 1024) :
    (∑ d : Fin 128, v (ix2 r d) * g (ix2 s d) : EReal) - dl (ix3 0 0 s)
      = ((A.dP (b + s.val) (a + r.val) - A.Dl (b + s.val) : ℝ) : EReal) := by
  rw [sum_fin_coe (fun d => A.V (a + r.val) d * A.G (b + s.val) d) (fun d => by rw [hk.v, hq.g, EReal.coe_mul]),
    hq.dl, ← EReal.coe_sub]
  refine congrArg _ ?_
  unfold Head.dP
  refine congrArg (· - _) (sum_congr rfl fun d _ => by ring)

variable (hl : Logs A ls) (hb : b + 1024 ≤ 8192)

include hl hb

theorem pay7_val (hab : a + 1024 ≤ b + 1) (r s : Fin 1024) :
    k0_pay7 (F := Ideal) k (k0_pay29 c) q l (ix2 r s) = ((A.P (b + s.val) (a + r.val) : ℝ) : EReal) := by
  rw [pay7_apply, logit_val hk hq, Ideal.exp2_coe, hl _ _ (by omega) (by omega)]

theorem pay9_val (hab : a + 1024 ≤ b + 1) (r s : Fin 1024) :
    k0_pay9 (F := Ideal) k v (k0_pay29 c) q g l dl (ix2 r s) = ((A.D (b + s.val) (a + r.val) : ℝ) : EReal) := by
  rw [pay9_apply, pay7_val hk hq hl hb hab, grad_val hk hq, ← EReal.coe_mul]
  rfl

theorem pay38_val (hab : a = b) (r s : Fin 1024) :
    k0_pay38 (F := Ideal) (k0_pay37 k c q) l (ix2 r s) = ((A.P (b + s.val) (a + r.val) : ℝ) : EReal) := by
  rw [pay38_apply]
  split
  · rw [pay37_apply, logit_val hk hq, Ideal.exp2_coe, hl _ _ (by omega) (by omega)]
  · rw [A.P_above (by omega)]; rfl

theorem pay40_val (hab : a = b) (r s : Fin 1024) :
    k0_pay40 (F := Ideal) v g (k0_pay37 k c q) l dl (ix2 r s) = ((A.D (b + s.val) (a + r.val) : ℝ) : EReal) := by
  rw [pay40_apply, pay38_val hk hq hl hb hab, grad_val hk hq, ← EReal.coe_mul]
  rfl

end Tile

/-! ## The accumulators -/

/-- A sum over a block of 1024 added to the sum before it. -/
theorem add_tile (f : ℕ → ℝ) {lo e : ℕ} (h : lo ≤ e) {x : EReal} (hx : x = ((∑ i ∈ Ico lo e, f i : ℝ) : EReal)) {g : Fin 1024 → EReal}
    (hg : ∀ s : Fin 1024, g s = ((f (e + s.val) : ℝ) : EReal)) :
    x + ∑ s, g s = ((∑ i ∈ Ico lo (e + 1024), f i : ℝ) : EReal) := by
  rw [hx, sum_fin_coe (fun s => f (e + s)) hg, ← EReal.coe_add, ← sum_Ico_consecutive f h (by omega : e ≤ e + 1024),
    sum_Ico_eq_sum_range f e, show e + 1024 - e = 1024 by omega]

/-- The accumulators of the head `A` within key block `a …`, after the query blocks up to `e`. -/
structure Acc (A : Head) (a e : ℕ) (s : St Ideal) : Prop where
  dk : ∀ (r : Fin 1024) (d : Fin 128), s.dk (ix2 r d) = ((∑ i ∈ Ico a e, A.D i (a + r.val) * qf A i d.val : ℝ) : EReal)
  dv : ∀ (r : Fin 1024) (d : Fin 128), s.dv (ix2 r d) = ((∑ i ∈ Ico a e, A.P i (a + r.val) * A.G i d.val : ℝ) : EReal)
  dc : ∀ r : Fin 1024, s.dc (ix2 r 0) = ((∑ i ∈ Ico a e, A.D i (a + r.val) : ℝ) : EReal)
  dq : ∀ (d : Fin 128) (i : Fin 8192), s.dq (ix2 d i)
    = ((∑ y ∈ Ico 0 (if a ≤ i.val ∧ i.val < e then a + 1024 else a), A.K y d.val * A.D i.val y : ℝ) : EReal)
  rs : ∀ i : Fin 8192, s.rs (ix2 0 i)
    = ((∑ y ∈ Ico 0 (if a ≤ i.val ∧ i.val < e then a + 1024 else a), A.D i.val y : ℝ) : EReal)

/-- A window at an entry. -/
theorem window_at {sh : Shape} {α : Type} (x : sh.Idx → α) {off size : Fin sh.rank → ℕ} (inb : ∀ a, off a + size a ≤ sh.size a)
    (y : (Rect.unit off size inb).shape.Idx) (z : sh.Idx) (h : ∀ a, (z a).val = off a + (y a).val) : window x off size inb y = x z :=
  congrArg x (funext fun a => Fin.ext (by
    show off a + 1 * (y a).val = (z a).val
    rw [h a]; omega))

/-- An entry inside what was put. -/
theorem put_inside {sh : Shape} {α : Type} (x : sh.Idx → α) {off size : Fin sh.rank → ℕ} (w : ((a : Fin sh.rank) → Fin (size a)) → α)
    (z : sh.Idx) (y : (a : Fin sh.rank) → Fin (size a)) (h : ∀ a, (z a).val = off a + (y a).val) : put x off size w z = w y := by
  unfold put
  rw [dif_pos fun a => by have := h a; have := (y a).isLt; omega]
  exact congrArg w (funext fun a => Fin.ext (by
    show (z a).val - off a = (y a).val
    rw [h a]; omega))

/-- An entry outside what was put. -/
theorem put_outside {sh : Shape} {α : Type} (x : sh.Idx → α) {off size : Fin sh.rank → ℕ} (w : ((a : Fin sh.rank) → Fin (size a)) → α)
    (z : sh.Idx) (a : Fin sh.rank) (h : (z a).val < off a ∨ off a + size a ≤ (z a).val) : put x off size w z = x z := by
  unfold put
  rw [dif_neg fun hh => by have := hh a; omega]

/-- The query gradient after one more tile: columns `e …` gain the block's keys. -/
theorem dq_tile {A : Head} {a e : ℕ} (hae : a ≤ e) (he : e + 1024 ≤ 8192) (x : Vec Ideal S128x8192 .f32) {off : Fin 2 → ℕ}
    (hoff : off = ![0, e]) (inb : ∀ b, off b + S128x1024.size b ≤ S128x8192.size b) (w : Vec Ideal S128x1024 .f32 → Vec Ideal S128x1024 .f32)
    (f : ℕ → ℕ → ℕ → ℝ)
    (hx : ∀ (d : Fin 128) (i : Fin 8192), x (ix2 d i)
      = ((∑ y ∈ Ico 0 (if a ≤ i.val ∧ i.val < e then a + 1024 else a), f d.val i.val y : ℝ) : EReal))
    (g : Fin 128 → Fin 1024 → Fin 1024 → EReal) (hg : ∀ d s r, g d s r = ((f d.val (e + s.val) (a + r.val) : ℝ) : EReal))
    (hw : ∀ u d s, w u (ix2 d s) = (u (ix2 d s) : EReal) + ∑ r : Fin 1024, g d s r) (d : Fin 128) (i : Fin 8192) :
    put x off S128x1024.size (w (window x off S128x1024.size inb)) (ix2 d i)
      = ((∑ y ∈ Ico 0 (if a ≤ i.val ∧ i.val < e + 1024 then a + 1024 else a), f d.val i.val y : ℝ) : EReal) := by
  subst hoff
  by_cases hin : e ≤ i.val ∧ i.val < e + 1024
  · have hs : i.val - e < 1024 := by omega
    have hz : ∀ b : Fin 2, ((ix2 d i : S128x8192.Idx) b).val = (![0, e] : Fin 2 → ℕ) b + ((ix2 d ⟨i.val - e, hs⟩ : S128x1024.Idx) b).val := by
      intro b
      match b with
      | ⟨0, _⟩ => exact (Nat.zero_add _).symm
      | ⟨1, _⟩ => show i.val = e + (i.val - e); omega
    refine (put_inside x (off := ![0, e]) (size := S128x1024.size) _ (ix2 d i) (ix2 d ⟨i.val - e, hs⟩ : S128x1024.Idx) hz).trans ?_
    rw [hw, if_pos ⟨by omega, hin.2⟩]
    refine add_tile (fun y => f d.val i.val y) (Nat.zero_le _) ?_ fun r => ?_
    · refine (window_at x inb (ix2 d ⟨i.val - e, hs⟩ : S128x1024.Idx) (ix2 d i) hz).trans ?_
      rw [hx, if_neg (by omega)]
    · rw [hg]
      exact congrArg (fun n => ((f d.val n (a + r.val) : ℝ) : EReal)) (show e + (i.val - e) = i.val by omega)
  · refine (put_outside x (off := ![0, e]) (size := S128x1024.size) _ (ix2 d i) 1 (show i.val < e ∨ e + 1024 ≤ i.val by omega)).trans ?_
    rw [hx]
    by_cases h : a ≤ i.val ∧ i.val < e
    · rw [if_pos h, if_pos ⟨h.1, by omega⟩]
    · rw [if_neg h, if_neg (by omega)]

/-- The row sums after one more tile. -/
theorem rs_tile {A : Head} {a e : ℕ} (hae : a ≤ e) (he : e + 1024 ≤ 8192) (x : Vec Ideal S1x8192 .f32) {off : Fin 2 → ℕ}
    (hoff : off = ![0, e]) (inb : ∀ b, off b + S1x1024.size b ≤ S1x8192.size b) (w : Vec Ideal S1x1024 .f32 → Vec Ideal S1x1024 .f32)
    (f : ℕ → ℕ → ℝ)
    (hx : ∀ (i : Fin 8192), x (ix2 0 i)
      = ((∑ y ∈ Ico 0 (if a ≤ i.val ∧ i.val < e then a + 1024 else a), f i.val y : ℝ) : EReal))
    (g : Fin 1024 → Fin 1024 → EReal) (hg : ∀ s r, g s r = ((f (e + s.val) (a + r.val) : ℝ) : EReal))
    (hw : ∀ u s, w u (ix2 0 s) = (u (ix2 0 s) : EReal) + ∑ r : Fin 1024, g s r) (i : Fin 8192) :
    put x off S1x1024.size (w (window x off S1x1024.size inb)) (ix2 0 i)
      = ((∑ y ∈ Ico 0 (if a ≤ i.val ∧ i.val < e + 1024 then a + 1024 else a), f i.val y : ℝ) : EReal) := by
  subst hoff
  by_cases hin : e ≤ i.val ∧ i.val < e + 1024
  · have hs : i.val - e < 1024 := by omega
    have hz : ∀ b : Fin 2, ((ix2 0 i : S1x8192.Idx) b).val = (![0, e] : Fin 2 → ℕ) b + ((ix2 0 ⟨i.val - e, hs⟩ : S1x1024.Idx) b).val := by
      intro b
      match b with
      | ⟨0, _⟩ => rfl
      | ⟨1, _⟩ => show i.val = e + (i.val - e); omega
    refine (put_inside x (off := ![0, e]) (size := S1x1024.size) _ (ix2 0 i) (ix2 0 ⟨i.val - e, hs⟩ : S1x1024.Idx) hz).trans ?_
    rw [hw, if_pos ⟨by omega, hin.2⟩]
    refine add_tile (fun y => f i.val y) (Nat.zero_le _) ?_ fun r => ?_
    · refine (window_at x inb (ix2 0 ⟨i.val - e, hs⟩ : S1x1024.Idx) (ix2 0 i) hz).trans ?_
      rw [hx, if_neg (by omega)]
    · rw [hg]
      exact congrArg (fun n => ((f n (a + r.val) : ℝ) : EReal)) (show e + (i.val - e) = i.val by omega)
  · refine (put_outside x (off := ![0, e]) (size := S1x1024.size) _ (ix2 0 i) 1 (show i.val < e ∨ e + 1024 ≤ i.val by omega)).trans ?_
    rw [hx]
    by_cases h : a ≤ i.val ∧ i.val < e
    · rw [if_pos h, if_pos ⟨h.1, by omega⟩]
    · rw [if_neg h, if_neg (by omega)]

end Cert.KernelIdeal.Bwd
-- ==== Proof.Point2.lean ====
/- What one grid point does to the accumulators, and what a head's points leave in them. -/
module

public import proofs.«01_k».proof.Proof.Block

@[expose] public section

set_option maxRecDepth 16384

noncomputable section

namespace Cert.KernelIdeal.Bwd

open Idealize.ShloMosaic Cert.KernelIdeal.Gen VecWindow Cert.Model Finset

/-- A grid point reads the head `A`, its key block from row `a`. -/
structure Reads (A : Head) (ls : ℕ → ℝ) (a : ℕ) (X : Inp Ideal) : Prop where
  keys : Keys A a X.k X.v X.c
  q : ∀ (i : Fin 8192) (d : Fin 128), X.q (ix2 i d) = ((qf A i.val d.val : ℝ) : EReal)
  g : ∀ (i : Fin 8192) (d : Fin 128), X.dout (ix2 i d) = ((A.G i.val d.val : ℝ) : EReal)
  l : ∀ i : Fin 8192, X.lse (ix3 0 0 i) = ((ls i.val : ℝ) : EReal)
  dl : ∀ i : Fin 8192, X.dl (ix3 0 0 i) = ((A.Dl i.val : ℝ) : EReal)

variable {A : Head} {ls : ℕ → ℝ}

/-- The windows of the head's operands at a query block are its rows. -/
theorem Reads.rows {a : ℕ} {X : Inp Ideal} (h : Reads A ls a X) {b : ℕ} (hb : b + 1024 ≤ 8192) {off : Fin 2 → ℕ} {off' : Fin 3 → ℕ}
    (e : off = ![b, 0]) (e' : off' = ![0, 0, b]) (inb : ∀ x, off x + S1024x128.size x ≤ S8192x128.size x)
    (inb' : ∀ x, off' x + S1x1x1024.size x ≤ S1x1x8192.size x) :
    Rows A ls b (window X.q off S1024x128.size inb) (window X.dout off S1024x128.size inb)
      (window X.lse off' S1x1x1024.size inb') (window X.dl off' S1x1x1024.size inb') := by
  subst e e'
  have e2 : ∀ (s : Fin 1024) (d : Fin 128) (x : Fin 2),
      ((ix2 (⟨b + s.val, by omega⟩ : Fin 8192) d : S8192x128.Idx) x).val = (![b, 0] : Fin 2 → ℕ) x + ((ix2 s d : S1024x128.Idx) x).val := by
    intro s d x
    match x with
    | ⟨0, _⟩ => rfl
    | ⟨1, _⟩ => exact (Nat.zero_add _).symm
  have e3 : ∀ (s : Fin 1024) (x : Fin 3),
      ((ix3 0 0 (⟨b + s.val, by omega⟩ : Fin 8192) : S1x1x8192.Idx) x).val = (![0, 0, b] : Fin 3 → ℕ) x + ((ix3 0 0 s : S1x1x1024.Idx) x).val := by
    intro s x
    match x with
    | ⟨0, _⟩ => rfl
    | ⟨1, _⟩ => rfl
    | ⟨2, _⟩ => rfl
  exact ⟨fun s d => (window_at X.q inb _ _ (e2 s d)).trans (h.q _ d), fun s d => (window_at X.dout inb _ _ (e2 s d)).trans (h.g _ d),
    fun s => (window_at X.lse inb' _ _ (e3 s)).trans (h.l _), fun s => (window_at X.dl inb' _ _ (e3 s)).trans (h.dl _)⟩

variable (hl : Logs A ls) (i : grid0.Coords) {X : Inp Ideal} (h : Reads A ls (1024 * (i 1).val) X)

include hl h

/-- One trip of the loop. -/
theorem trip_acc (k : Fin (k0_t1_loop i).trips) (hk : (i 1).val + k.val < 7) (s : St Ideal)
    (hs : Acc A (1024 * (i 1).val) (1024 * (i 1).val + 1024 * k.val + 1024) s) :
    Acc A (1024 * (i 1).val) (1024 * (i 1).val + 1024 * k.val + 1024 + 1024) (tripSt i X k s) := by
  have hb : 1024 * (i 1).val + 1024 * k.val + 1024 + 1024 ≤ 8192 := by omega
  have hr := h.rows hb (k0_off5_eq i k) (k0_off6_eq i k) (k0_off5_inb i k) (k0_off6_inb i k)
  generalize hE : 1024 * (i 1).val + 1024 * k.val + 1024 = e at *
  have hae : 1024 * (i 1).val + 1024 ≤ e + 1 := by omega
  have hD : ∀ r s, dst i X k (ix2 r s) = ((A.D (e + s.val) (1024 * (i 1).val + r.val) : ℝ) : EReal) := fun r s => by
    unfold dst
    rw [pay27_eq, pay28_eq]
    exact pay9_val h.keys hr hl hb hae r s
  constructor
  · intro r d
    unfold tripSt
    dsimp only
    rw [pay11_apply, pay27_eq, pay28_eq]
    refine add_tile (fun i' => A.D i' (1024 * (i 1).val + r.val) * qf A i' d.val) (by omega) (hs.dk r d) fun x => ?_
    rw [pay9_val h.keys hr hl hb hae, hr.q, EReal.coe_mul]
  · intro r d
    unfold tripSt
    dsimp only
    rw [pay8_apply, pay27_eq]
    refine add_tile (fun i' => A.P i' (1024 * (i 1).val + r.val) * A.G i' d.val) (by omega) (hs.dv r d) fun x => ?_
    rw [pay7_val h.keys hr hl hb hae, hr.g, EReal.coe_mul]
  · intro r
    unfold tripSt
    dsimp only
    rw [pay47_apply]
    exact add_tile (fun i' => A.D i' (1024 * (i 1).val + r.val)) (by omega) (hs.dc r) fun x => hD r x
  · have := dq_tile (A := A) (a := 1024 * (i 1).val) (e := e) (by omega) hb s.dq ((k0_off7_eq i k).trans (by rw [hE])) (k0_off7_inb i k)
      (fun u => k0_pay48 (F := Ideal) (k0_pay27 X.k) (dstb i X k) u) (fun d i' y => A.K y d * A.D i' y) hs.dq
      (fun d s r => k0_pay27 (F := Ideal) X.k (ix2 r d) * dst i X k (ix2 r s))
      (fun d s r => by rw [pay27_eq, h.keys.k, hD, EReal.coe_mul]) (fun u d s => pay48_apply _ _ u d s)
    exact this
  · have := rs_tile (A := A) (a := 1024 * (i 1).val) (e := e) (by omega) hb s.rs ((k0_off8_eq i k).trans (by rw [hE])) (k0_off8_inb i k)
      (fun u => k0_pay49 (F := Ideal) (dst i X k) u) (fun i' y => A.D i' y) hs.rs
      (fun s r => dst i X k (ix2 r s)) (fun s r => hD r s) (fun u s => pay49_apply _ u s)
    exact this

/-- The diagonal block. -/
theorem diag_acc (hi : (i 1).val < 8) (s : St Ideal) (hs : Acc A (1024 * (i 1).val) (1024 * (i 1).val) s) :
    Acc A (1024 * (i 1).val) (1024 * (i 1).val + 1024) (diagSt2 i X s (diagSt1 i X s)) := by
  have hb : 1024 * (i 1).val + 1024 ≤ 8192 := by omega
  have hr := h.rows hb (k0_off1_eq i) (k0_off2_eq i) (k0_off1_inb i) (k0_off2_inb i)
  have hD : ∀ r s, diagDst i X (ix2 r s) = ((A.D (1024 * (i 1).val + s.val) (1024 * (i 1).val + r.val) : ℝ) : EReal) := fun r s => by
    unfold diagDst diagLogit
    rw [pay28_eq, pay36_eq]
    exact pay40_val h.keys hr hl hb rfl r s
  constructor
  · intro r d
    unfold diagSt2 diagSt1 diagLogit
    dsimp only
    rw [pay42_apply, pay28_eq, pay35_eq, pay36_eq]
    refine add_tile (fun i' => A.D i' (1024 * (i 1).val + r.val) * qf A i' d.val) le_rfl (hs.dk r d) fun x => ?_
    rw [pay40_val h.keys hr hl hb rfl, hr.q, EReal.coe_mul]
  · intro r d
    unfold diagSt2 diagSt1 diagLogit
    dsimp only
    rw [pay39_apply, pay36_eq]
    refine add_tile (fun i' => A.P i' (1024 * (i 1).val + r.val) * A.G i' d.val) le_rfl (hs.dv r d) fun x => ?_
    rw [pay38_val h.keys hr hl hb rfl, hr.g, EReal.coe_mul]
  · intro r
    unfold diagSt2 diagDc
    dsimp only
    rw [pay43_apply]
    exact add_tile (fun i' => A.D i' (1024 * (i 1).val + r.val)) le_rfl (hs.dc r) fun x => hD r x
  · have := dq_tile (A := A) (a := 1024 * (i 1).val) (e := 1024 * (i 1).val) le_rfl hb s.dq (k0_off3_eq i) (k0_off3_inb i)
      (fun u => k0_pay45 (F := Ideal) (k0_pay27 X.k) (diagDstb i X) u) (fun d i' y => A.K y d * A.D i' y) hs.dq
      (fun d s r => k0_pay27 (F := Ideal) X.k (ix2 r d) * diagDst i X (ix2 r s))
      (fun d s r => by rw [pay27_eq, h.keys.k, hD, EReal.coe_mul]) (fun u d s => pay45_apply _ _ u d s)
    exact this
  · have := rs_tile (A := A) (a := 1024 * (i 1).val) (e := 1024 * (i 1).val) le_rfl hb s.rs (k0_off4_eq i) (k0_off4_inb i)
      (fun u => k0_pay46 (F := Ideal) (diagDst i X) u) (fun i' y => A.D i' y) hs.rs
      (fun s r => diagDst i X (ix2 r s)) (fun s r => hD r s) (fun u s => pay46_apply _ u s)
    exact this

omit hl h in
/-- Of the two accumulators kept over a head: what the key blocks below row `a` gave. -/
structure Kept (A : Head) (a : ℕ) (s : St Ideal) : Prop where
  dq : ∀ (d : Fin 128) (i : Fin 8192), s.dq (ix2 d i) = ((∑ y ∈ range a, A.K y d.val * A.D i.val y : ℝ) : EReal)
  rs : ∀ i : Fin 8192, s.rs (ix2 0 i) = ((∑ y ∈ range a, A.D i.val y : ℝ) : EReal)

omit hl h in
/-- What a point's own three hold at its end. -/
structure Done (A : Head) (a : ℕ) (s : St Ideal) : Prop where
  dk : ∀ (r : Fin 1024) (d : Fin 128), s.dk (ix2 r d) = ((∑ i ∈ range 8192, A.D i (a + r.val) * qf A i d.val : ℝ) : EReal)
  dv : ∀ (r : Fin 1024) (d : Fin 128), s.dv (ix2 r d) = ((∑ i ∈ range 8192, A.P i (a + r.val) * A.G i d.val : ℝ) : EReal)
  dc : ∀ r : Fin 1024, s.dc (ix2 r 0) = ((∑ i ∈ range 8192, A.D i (a + r.val) : ℝ) : EReal)

omit hl h in
theorem zero_acc (c1 : cond1 i = 1#1 ↔ (i 1).val = 0) (s : St Ideal) (hs : (i 1).val ≠ 0 → Kept A (1024 * (i 1).val) s) :
    Acc A (1024 * (i 1).val) (1024 * (i 1).val) (zeroSt i s) := by
  constructor
  · intro r d
    rw [Ico_self, sum_empty]; exact pay30_apply (ix2 r d)
  · intro r d
    rw [Ico_self, sum_empty]; exact pay31_apply (ix2 r d)
  · intro r
    rw [Ico_self, sum_empty]; exact pay32_apply (ix2 r 0)
  · intro d i'
    rw [if_neg (by omega), ← range_eq_Ico]
    unfold zeroSt
    dsimp only
    split
    · next hc => rw [c1.1 hc]; exact pay33_apply (ix2 d i')
    · next hc => exact (hs (mt c1.2 hc)).dq d i'
  · intro i'
    rw [if_neg (by omega), ← range_eq_Ico]
    unfold zeroSt
    dsimp only
    split
    · next hc => rw [c1.1 hc]; exact pay34_apply (ix2 0 i')
    · next hc => exact (hs (mt c1.2 hc)).rs i'

omit hl h in
/-- At the end of the loop the sums are whole: what is missing from them is zero. -/
theorem end_acc {a : ℕ} (ha : a + 1024 ≤ 8192) (s : St Ideal) (e : Acc A a 8192 s) : Kept A (a + 1024) s ∧ Done A a s := by
  refine ⟨⟨fun d i' => ?_, fun i' => ?_⟩, ⟨fun r d => ?_, fun r d => ?_, fun r => ?_⟩⟩
  · refine (e.dq d i').trans (congrArg _ ?_)
    rw [← range_eq_Ico]
    split
    · rfl
    · next hn => exact A.sum_D_of_le (i := i'.val) (a := a) (b := a + 1024) (by omega) (by omega) (fun y => A.K y d.val)
  · refine (e.rs i').trans (congrArg _ ?_)
    rw [← range_eq_Ico]
    split
    · rfl
    · next hn =>
      have := A.sum_D_of_le (i := i'.val) (a := a) (b := a + 1024) (by omega) (by omega) (fun _ => 1)
      simpa using this
  · exact (e.dk r d).trans (congrArg _ (A.sum_Ico_D (y := a + r.val) (a := a) (by omega) (by omega) _))
  · exact (e.dv r d).trans (congrArg _ (A.sum_Ico_P (y := a + r.val) (a := a) (by omega) _))
  · refine (e.dc r).trans (congrArg _ ?_)
    have := A.sum_Ico_D (y := a + r.val) (a := a) (by omega) (by omega) (fun _ => 1)
    simpa using this

/-- A whole grid point. -/
theorem point_acc (hi : (i 1).val < 8) (ht : (k0_t1_loop i).trips + (i 1).val = 7) (c1 : cond1 i = 1#1 ↔ (i 1).val = 0) (s : St Ideal)
    (hs : (i 1).val ≠ 0 → Kept A (1024 * (i 1).val) s) :
    Kept A (1024 * (i 1).val + 1024) (pointSt i X s) ∧ Done A (1024 * (i 1).val) (pointSt i X s) := by
  have hloop : ∀ n, n ≤ (k0_t1_loop i).trips → Acc A (1024 * (i 1).val) (1024 * (i 1).val + 1024 * n + 1024)
      (loopSt i X (diagSt2 i X (zeroSt i s) (diagSt1 i X (zeroSt i s))) n) := by
    intro n
    induction n with
    | zero => exact fun _ => diag_acc hl i h hi _ (zero_acc i c1 s hs)
    | succ n ih =>
      intro hn
      rw [loopSt_succ i X _ ⟨n, hn⟩, show 1024 * (i 1).val + 1024 * (n + 1) + 1024 = 1024 * (i 1).val + 1024 * n + 1024 + 1024 by ring]
      exact trip_acc hl i h ⟨n, hn⟩ (by show (i 1).val + n < 7; omega) _ (ih (by omega))
  have e := hloop _ le_rfl
  rw [show 1024 * (i 1).val + 1024 * (k0_t1_loop i).trips + 1024 = 8192 by omega] at e
  exact end_acc (by omega) _ e

end Cert.KernelIdeal.Bwd
-- ==== Proof.HostVal.lean ====
/- The host operations' arrays as numbers: for inputs that are numbers, what the kernel is called with are one head's
   queries, keys, values, gradients, the logarithms of the softmax's denominators and the gradient's row sums. -/
module

public import proofs.«01_k».proof.Proof.HostRead
public import proofs.«01_k».proof.Proof.Soft
public import proofs.«01_k».proof.Proof.Point2

@[expose] public section

set_option maxRecDepth 16384

noncomputable section

namespace Cert.KernelIdeal.Bwd

open Idealize.ShloMosaic Cert.KernelIdeal.Gen Cert.Model

/-- A matrix as a function of row and column. -/
abbrev mat (a : FVec Ideal S8192x2048 .f32) : Fin 8192 → Fin 2048 → EReal := fun i j => a (ix2 i j)
/-- The biases as a function of head and key. -/
abbrev bias (a : FVec Ideal S16x8192 .f32) : Fin 16 → Fin 8192 → EReal := fun h j => a (ix2 h j)

variable {a0 a1 a2 a4 : FVec Ideal S8192x2048 .f32} {a3 : FVec Ideal S16x8192 .f32}

/-- Head `h` of the arguments. -/
abbrev hd (a0 a1 a2 a4 : FVec Ideal S8192x2048 .f32) (a3 : FVec Ideal S16x8192 .f32) (h : ℕ) : Head :=
  headOf (mat a0) (mat a1) (mat a2) (mat a4) (bias a3) h

theorem mat_entry {a : FVec Ideal S8192x2048 .f32} (f : Finite (mat a)) (i : Fin 8192) (j : Fin 2048) {i' j' : ℕ} (hi : i.val = i')
    (hj : j.val = j') : (a (ix2 i j) : EReal) = (entry (mat a) i' j' : EReal) := f.entry_eq i j hi hj

theorem bias_entry {a : FVec Ideal S16x8192 .f32} (f : Finite (bias a)) (h : Fin 16) (j : Fin 8192) {h' j' : ℕ} (hh : h.val = h')
    (hj : j.val = j') : (a (ix2 h j) : EReal) = (entry (bias a) h' j' : EReal) := f.entry_eq h j hh hj

theorem log2_ne : Real.log 2 ≠ 0 := (Real.log_pos (by norm_num)).ne'

theorem h30_val (f0 : Finite (mat a0)) (f1 : Finite (mat a1)) (f3 : Finite (bias a3)) (h : Fin 16) (i j : Fin 8192) :
    (h30 a0 a1 a3 (ix3 h i j) : EReal)
      = if j.val ≤ i.val then (((hd a0 a1 a2 a4 a3 h.val).z i.val j.val + 0 : ℝ) : EReal) else ⊥ := by
  refine (h30_apply a0 a1 a3 h i j).trans ?_
  rw [bottom_eq, WordCmp.cmpi_sle_ofNat (by omega) (by omega), dot_real (q := mat a0) (k := mat a1) (v := mat a2) (g := mat a4) (c := bias a3) f0 f1 h i j]
  have e : scaleW = (((hd a0 a1 a2 a4 a3 h.val).sc : ℝ) : EReal) := scale_eq
  rw [e, bias_entry f3 h j rfl rfl, ← EReal.coe_mul, ← EReal.coe_sub]
  by_cases hj : j.val ≤ i.val
  · rw [if_pos hj, decide_eq_true hj, add_zero]; rfl
  · rw [if_neg hj, decide_eq_false hj]; rfl

/-- The maximum of a row, as a number. -/
def top (a0 a1 : FVec Ideal S8192x2048 .f32) (a3 : FVec Ideal S16x8192 .f32) (h : Fin 16) (i : Fin 8192) : ℝ :=
  (h31 a0 a1 a3 (ix2 h i) : EReal).toReal

theorem row_val (f0 : Finite (mat a0)) (f1 : Finite (mat a1)) (f3 : Finite (bias a3)) (h : Fin 16) (i : Fin 8192) :
    (h31 a0 a1 a3 (ix2 h i) : EReal) = (top a0 a1 a3 h i : EReal)
      ∧ (∀ j : Fin 8192, (h35 a0 a1 a3 (ix3 h i j) : EReal)
          = (((hd a0 a1 a2 a4 a3 h.val).w i.val j.val * Real.exp (0 - top a0 a1 a3 h i) : ℝ) : EReal))
      ∧ (h36 a0 a1 a3 (ix2 h i) : EReal) = (((hd a0 a1 a2 a4 a3 h.val).L i.val * Real.exp (0 - top a0 a1 a3 h i) : ℝ) : EReal) := by
  obtain ⟨M, hM, he, hs⟩ := soft_row (hd a0 a1 a2 a4 a3 h.val) i 0 (fun j => h30 a0 a1 a3 (ix3 h i j)) (h30_val f0 f1 f3 h i)
  have e31 : (h31 a0 a1 a3 (ix2 h i) : EReal) = (M : EReal) := by
    refine (h31_apply a0 a1 a3 h i).trans ?_
    rw [bottom_eq]; exact hM
  have et : top a0 a1 a3 h i = M := by unfold top; rw [e31, EReal.toReal_coe]
  rw [et]
  have e35 : ∀ j : Fin 8192, (h35 a0 a1 a3 (ix3 h i j) : EReal) = Ideal.exp (h30 a0 a1 a3 (ix3 h i j) - (M : EReal)) := fun j => by
    refine (h35_apply a0 a1 a3 h i j).trans ?_
    rw [e31]
  refine ⟨e31, fun j => (e35 j).trans (he j), ?_⟩
  refine (h36_apply a0 a1 a3 h i).trans (Eq.trans ?_ hs)
  exact Finset.sum_congr rfl fun j _ => e35 j

theorem h39_val (f0 : Finite (mat a0)) (f1 : Finite (mat a1)) (f3 : Finite (bias a3)) (h : Fin 16) (i j : Fin 8192) :
    (h39 a0 a1 a3 (ix3 h i j) : EReal) = (((hd a0 a1 a2 a4 a3 h.val).P i.val j.val : ℝ) : EReal) := by
  obtain ⟨-, h35, h36⟩ := row_val (a2 := a2) (a4 := a4) f0 f1 f3 h i
  have hL := (hd a0 a1 a2 a4 a3 h.val).L_pos i.isLt
  have hE := Real.exp_pos (0 - top a0 a1 a3 h i)
  refine (h39_apply a0 a1 a3 h i j).trans ?_
  rw [h35 j, h36, div_real _ (mul_pos hL hE).ne', mul_div_mul_right _ _ hE.ne']
  rfl

theorem h42_val (f0 : Finite (mat a0)) (f1 : Finite (mat a1)) (f2 : Finite (mat a2)) (f3 : Finite (bias a3)) (h : Fin 16) (i : Fin 8192)
    (d : Fin 128) :
    (h42 a0 a1 a2 a3 (ix3 h i d) : EReal)
      = ((∑ j ∈ Finset.range 8192, (hd a0 a1 a2 a4 a3 h.val).P i.val j * (hd a0 a1 a2 a4 a3 h.val).V j d.val : ℝ) : EReal) := by
  refine (h42_apply a0 a1 a2 a3 h i d).trans ?_
  refine sum_fin_coe (fun j => (hd a0 a1 a2 a4 a3 h.val).P i.val j * (hd a0 a1 a2 a4 a3 h.val).V j d.val) fun x => ?_
  rw [h39_val (a2 := a2) (a4 := a4) f0 f1 f3 h i x, mat_entry f2 x ⟨h.val * 128 + d.val, by omega⟩ rfl rfl, ← EReal.coe_mul]
  rfl

theorem h56_val (f0 : Finite (mat a0)) (f1 : Finite (mat a1)) (f2 : Finite (mat a2)) (f3 : Finite (bias a3)) (f4 : Finite (mat a4))
    (h : Fin 16) (i : Fin 8192) :
    (h56 a0 a1 a2 a3 a4 (ix3 h 0 i) : EReal) = (((hd a0 a1 a2 a4 a3 h.val).Dl i.val : ℝ) : EReal) := by
  refine (h56_apply a0 a1 a2 a4 a3 h i).trans ?_
  rw [Head.Dl_eq]
  refine sum_fin_coe (fun d => (hd a0 a1 a2 a4 a3 h.val).G i.val d * ∑ j ∈ Finset.range 8192, (hd a0 a1 a2 a4 a3 h.val).P i.val j * (hd a0 a1 a2 a4 a3 h.val).V j d)
    fun x => ?_
  rw [h42_val (a4 := a4) f0 f1 f2 f3 h i x, mat_entry f4 i ⟨h.val * 128 + x.val, by omega⟩ rfl rfl, ← EReal.coe_mul]
  rfl

/-- The shifted logarithm of a row's denominator, in base two. -/
def lseOf (a0 a1 a2 a4 : FVec Ideal S8192x2048 .f32) (a3 : FVec Ideal S16x8192 .f32) (h : Fin 16) (i : ℕ) : ℝ :=
  (top a0 a1 a3 h (Fin.ofNat 8192 i)
    + Real.log ((hd a0 a1 a2 a4 a3 h.val).L i * Real.exp (-top a0 a1 a3 h (Fin.ofNat 8192 i)))) / Real.log 2

theorem h55_val (f0 : Finite (mat a0)) (f1 : Finite (mat a1)) (f3 : Finite (bias a3)) (h : Fin 16) (i : Fin 8192) :
    (h55 a0 a1 a3 (ix3 h 0 i) : EReal) = (lseOf a0 a1 a2 a4 a3 h i.val : EReal) := by
  obtain ⟨h31, -, h36⟩ := row_val (a2 := a2) (a4 := a4) f0 f1 f3 h i
  have hL := (hd a0 a1 a2 a4 a3 h.val).L_pos i.isLt
  have hE := Real.exp_pos (0 - top a0 a1 a3 h i)
  refine (h55_apply a0 a1 a3 h i).trans ?_
  have e1 : Fin.ofNat 8192 i.val = i := Fin.ext (Nat.mod_eq_of_lt i.isLt)
  rw [h31, h36, Ideal.log_coe, if_neg (not_le.2 (mul_pos hL hE)), log_two, ← EReal.coe_add, div_real _ log2_ne]
  unfold lseOf
  rw [e1, zero_sub]

/-- With those logarithms the powers of two are the softmax. -/
theorem logs_val (h : Fin 16) : Logs (hd a0 a1 a2 a4 a3 h.val) (lseOf a0 a1 a2 a4 a3 h) := fun i _ hi hy =>
  Head.pow_eq_P _ hy hi _ _ rfl

end Cert.KernelIdeal.Bwd
-- ==== Proof.Heads.lean ====
/- The grid's points, head after head: what each finds is its head's numbers, and what it leaves is the head's gradients,
   those of the keys and values complete at their own block, those of the queries up to the block reached. -/
module

public import proofs.«01_k».proof.Proof.HostVal

@[expose] public section

set_option maxRecDepth 16384

noncomputable section

namespace Cert.KernelIdeal.Bwd

open Idealize.ShloMosaic Cert.KernelIdeal.Gen Cert.Model

variable (m : (ℓ : Loc nD τ sig) → Buf (Elt Ideal) ℓ)

/-- Every argument but the gate's gradient holds numbers. -/
structure Numbers (c : Dev nD) : Prop where
  f0 : Finite (mat (arg0 m c))
  f1 : Finite (mat (arg1 m c))
  f2 : Finite (mat (arg2 m c))
  f3 : Finite (bias (arg3 m c))
  f4 : Finite (mat (arg4 m c))

/-- Head `h` of the launch's arguments. -/
abbrev hdAt (c : Dev nD) (h : ℕ) : Head := hd (arg0 m c) (arg1 m c) (arg2 m c) (arg4 m c) (arg3 m c) h

/-- The head of a grid point. -/
abbrev headIx (t : Fin cfg0.N) : Fin 16 := ⟨t.val / 8, by have := pt_lt t; omega⟩

variable {m}

/-- A column of a head. -/
theorem col_lt (t : Fin cfg0.N) (d : Fin 128) : 128 * (t.val / 8) + d.val < 2048 := by
  have := pt_lt t
  omega

theorem col_eq (t : Fin cfg0.N) (d : Fin 128) : 128 * (t.val / 8) + d.val = (headIx t).val * 128 + d.val := by
  show 128 * (t.val / 8) + d.val = t.val / 8 * 128 + d.val
  omega

theorem reads_k {c : Dev nD} (f : Numbers m c) (t : Fin cfg0.N) (r : Fin 1024) (d : Fin 128) :
    ((inp m c t).k (ix2 r d) : EReal) = (((hdAt m c (headIx t).val).K (1024 * (t.val % 8) + r.val) d.val : ℝ) : EReal) := by
  refine (iblk0 m c t r d).trans ((congrFun (found_v8 m c) _).trans ?_)
  have hc : (⟨2048 + 128 * (t.val / 8) + d.val, by have := pt_lt t; omega⟩ : Fin 6144)
      = ⟨2048 + (⟨128 * (t.val / 8) + d.val, col_lt t d⟩ : Fin 2048).val, by have := pt_lt t; show 2048 + (128 * (t.val / 8) + d.val) < 6144; omega⟩ :=
    Fin.ext (Nat.add_assoc _ _ _)
  rw [hc]
  refine (h8_k _ _ _ _ ⟨128 * (t.val / 8) + d.val, col_lt t d⟩ _).trans ?_
  exact mat_entry f.f1 _ _ rfl (col_eq t d)

theorem reads_v {c : Dev nD} (f : Numbers m c) (t : Fin cfg0.N) (r : Fin 1024) (d : Fin 128) :
    ((inp m c t).v (ix2 r d) : EReal) = (((hdAt m c (headIx t).val).V (1024 * (t.val % 8) + r.val) d.val : ℝ) : EReal) := by
  refine (iblk1 m c t r d).trans ((congrFun (found_v8 m c) _).trans ?_)
  have hc : (⟨4096 + 128 * (t.val / 8) + d.val, by have := pt_lt t; omega⟩ : Fin 6144)
      = ⟨4096 + (⟨128 * (t.val / 8) + d.val, col_lt t d⟩ : Fin 2048).val, by have := pt_lt t; show 4096 + (128 * (t.val / 8) + d.val) < 6144; omega⟩ :=
    Fin.ext (Nat.add_assoc _ _ _)
  rw [hc]
  refine (h8_v _ _ _ _ ⟨128 * (t.val / 8) + d.val, col_lt t d⟩ _).trans ?_
  exact mat_entry f.f2 _ _ rfl (col_eq t d)

theorem reads_c {c : Dev nD} (f : Numbers m c) (t : Fin cfg0.N) (r : Fin 1024) (d : Fin 128) :
    ((inp m c t).c (ix2 r d) : EReal) = (((hdAt m c (headIx t).val).C (1024 * (t.val % 8) + r.val) / Real.log 2 : ℝ) : EReal) := by
  refine (iblk6 m c t r d).trans ((congrFun (found_v13 m c) _).trans ?_)
  refine (h13_apply _ _ _ (by have := pt_lt t; show (128 * (t.val / 8) + d.val) / 128 < 16; omega)).trans ?_
  rw [log_two, bias_entry f.f3 _ _ (h' := (headIx t).val) (j' := 1024 * (t.val % 8) + r.val)
    (by show (128 * (t.val / 8) + d.val) / 128 = t.val / 8; omega) rfl, div_real _ log2_ne]
  rfl

theorem reads_q {c : Dev nD} (f : Numbers m c) (t : Fin cfg0.N) (i : Fin 8192) (d : Fin 128) :
    ((inp m c t).q (ix2 i d) : EReal) = ((qf (hdAt m c (headIx t).val) i.val d.val : ℝ) : EReal) := by
  refine (iblk2 m c t i d).trans ((congrFun (found_v8 m c) _).trans ?_)
  refine (h8_q _ _ _ _ ⟨128 * (t.val / 8) + d.val, col_lt t d⟩ _).trans ?_
  have e : scaleW = (((hdAt m c (headIx t).val).sc : ℝ) : EReal) := scale_eq
  rw [log_two, e, mat_entry f.f0 _ _ (i' := i.val) (j' := (headIx t).val * 128 + d.val) rfl (col_eq t d), ← EReal.coe_mul, div_real _ log2_ne]
  rfl

theorem reads_g {c : Dev nD} (f : Numbers m c) (t : Fin cfg0.N) (i : Fin 8192) (d : Fin 128) :
    ((inp m c t).dout (ix2 i d) : EReal) = (((hdAt m c (headIx t).val).G i.val d.val : ℝ) : EReal) := by
  refine (iblk3 m c t i d).trans ((congrFun (found_v53 m c) _).trans ?_)
  refine (h53_apply _ _ _).trans ?_
  exact mat_entry f.f4 _ _ rfl (col_eq t d)

theorem reads_l {c : Dev nD} (f : Numbers m c) (t : Fin cfg0.N) (i : Fin 8192) :
    ((inp m c t).lse (ix3 0 0 i) : EReal)
      = (lseOf (arg0 m c) (arg1 m c) (arg2 m c) (arg4 m c) (arg3 m c) (headIx t) i.val : EReal) := by
  refine (iblk4 m c t i).trans ((congrFun (found_v55 m c) _).trans ?_)
  exact h55_val f.f0 f.f1 f.f3 (headIx t) i

theorem reads_dl {c : Dev nD} (f : Numbers m c) (t : Fin cfg0.N) (i : Fin 8192) :
    ((inp m c t).dl (ix3 0 0 i) : EReal) = (((hdAt m c (headIx t).val).Dl i.val : ℝ) : EReal) := by
  refine (iblk5 m c t i).trans ((congrFun (found_v56 m c) _).trans ?_)
  exact h56_val f.f0 f.f1 f.f2 f.f3 f.f4 (headIx t) i

/-- A grid point reads its head's numbers, its key block's first row being `1024` times its place in the head. -/
theorem reads {c : Dev nD} (f : Numbers m c) (t : Fin cfg0.N) :
    Reads (hdAt m c (headIx t).val) (lseOf (arg0 m c) (arg1 m c) (arg2 m c) (arg4 m c) (arg3 m c) (headIx t)) (1024 * (t.val % 8)) (inp m c t) where
  keys := ⟨reads_k f t, reads_v f t, reads_c f t⟩
  q := reads_q f t
  g := reads_g f t
  l := reads_l f t
  dl := reads_dl f t

/-- The gate's gradient passes through. -/
theorem gat_val (c : Dev nD) (t : Fin cfg0.N) (i : Fin 8192) (d : Fin 128) :
    (gat m c t (ix2 i d) : EReal) = arg5 m c (ix2 i ⟨128 * (t.val / 8) + d.val, col_lt t d⟩) :=
  (iblk7 m c t i d).trans ((congrFun (found_v54 m c) _).trans (h54_apply _ _ _))

/-- After each grid point: the carried accumulators up to its key block, and its key block's own gradients. -/
theorem points {c : Dev nD} (f : Numbers m c) : ∀ (n : ℕ) (hn : n < cfg0.N),
    Kept (hdAt m c (headIx ⟨n, hn⟩).val) (1024 * (n % 8) + 1024) (stAt m c (n + 1))
      ∧ Done (hdAt m c (headIx ⟨n, hn⟩).val) (1024 * (n % 8)) (stAt m c (n + 1)) := by
  intro n
  induction n with
  | zero =>
    intro hn
    have e := stAt_succ m c ⟨0, hn⟩
    have e1 := coord1 ⟨0, hn⟩
    rw [show stAt m c (0 + 1) = _ from e]
    have h := point_acc (logs_val (a0 := arg0 m c) (a1 := arg1 m c) (a2 := arg2 m c) (a4 := arg4 m c) (a3 := arg3 m c) (headIx ⟨0, hn⟩))
      (grid0.coords ⟨0, hn⟩) (by rw [e1]; exact reads f ⟨0, hn⟩) (by rw [e1]; exact Nat.mod_lt _ (by norm_num)) (trips_eq ⟨0, hn⟩)
      (by rw [e1]; exact cond1_iff ⟨0, hn⟩) (stAt m c 0) (fun h => absurd (by rw [e1]; rfl) h)
    rw [e1] at h
    exact h
  | succ n ih =>
    intro hn
    have e := stAt_succ m c ⟨n + 1, hn⟩
    have e1 := coord1 ⟨n + 1, hn⟩
    rw [show stAt m c (n + 1 + 1) = _ from e]
    have h := point_acc (logs_val (a0 := arg0 m c) (a1 := arg1 m c) (a2 := arg2 m c) (a4 := arg4 m c) (a3 := arg3 m c) (headIx ⟨n + 1, hn⟩))
      (grid0.coords ⟨n + 1, hn⟩) (by rw [e1]; exact reads f ⟨n + 1, hn⟩) (by rw [e1]; exact Nat.mod_lt _ (by norm_num)) (trips_eq ⟨n + 1, hn⟩)
      (by rw [e1]; exact cond1_iff ⟨n + 1, hn⟩) (stAt m c (n + 1)) (fun h => by
        rw [e1] at h ⊢
        have h' : (n + 1) % 8 ≠ 0 := h
        have k := (ih (by omega)).1
        have eh : (headIx ⟨n, by omega⟩).val = (headIx ⟨n + 1, hn⟩).val := by show n / 8 = (n + 1) / 8; omega
        have er : 1024 * (n % 8) + 1024 = 1024 * ((n + 1) % 8) := by omega
        rw [eh, er] at k
        exact k)
    rw [e1] at h
    exact h

end Cert.KernelIdeal.Bwd
-- ==== Proof.Result.lean ====
/- The three results as numbers of the arguments: the stacked gradients, the bias's gradient at the keys, and at the
   queries. -/
module

public import proofs.«01_k».proof.Proof.Soft

@[expose] public section

noncomputable section

namespace Cert.Model

open Finset

/-- One head's four gradients: of the queries, the keys, the values, and the gate's, which passes through. -/
def slots (A : Head) (gate : EReal) (s i d : ℕ) : EReal :=
  if s = 0 then (((∑ y ∈ range 8192, A.K y d * A.D i y) * A.sc : ℝ) : EReal)
  else if s = 1 then (((∑ y ∈ range 8192, A.D y i * A.Q y d) * A.sc : ℝ) : EReal)
  else if s = 2 then ((∑ y ∈ range 8192, A.P y i * A.G y d : ℝ) : EReal)
  else gate

/-- The bias's gradient at a key, with the sign it enters the logits with. -/
def keySum (A : Head) (y : ℕ) : EReal := ((0 - ∑ i ∈ range 8192, A.D i y : ℝ) : EReal)

/-- The bias's gradient at a query. -/
def querySum (A : Head) (i : ℕ) : EReal := ((∑ y ∈ range 8192, A.D i y : ℝ) : EReal)

end Cert.Model
-- ==== Proof.Outs.lean ====
/- The blocks a grid point stores, entry by entry, and the gradients' block filled from point to point. -/
module

public import proofs.«01_k».proof.Proof.Heads
public import proofs.«01_k».proof.Proof.Result

@[expose] public section

set_option maxRecDepth 16384

noncomputable section

namespace Cert.KernelIdeal.Bwd

open Idealize.ShloMosaic Cert.KernelIdeal.Gen VecWindow Cert.Model Finset

/-- An index of the gradients' block. -/
abbrev at4 (s : Fin 4) (r : Fin 8192) (d : Fin 128) : S4x8192x128.Idx := ix3 s r d
/-- An index of a block of 1024 rows. -/
abbrev at1 (r : Fin 1024) (d : Fin 128) : S1x1024x128.Idx := ix3 0 r d

/-- A 1024-row block put at rows `e …` of slot `s`, read inside. -/
theorem put_row_in (x : Vec Ideal S4x8192x128 .bf16) {off : Fin 3 → ℕ} (s : Fin 4) (e : ℕ) (hoff : off = ![s.val, e, 0])
    (w : Vec Ideal S1x1024x128 .bf16) (r : Fin 8192) (r' : Fin 1024) (hr : r.val = e + r'.val) (d : Fin 128) :
    put x off S1x1024x128.size w (at4 s r d) = w (at1 r' d) := by
  subst hoff
  refine put_inside (sh := S4x8192x128) (size := S1x1024x128.size) x w (at4 s r d) (at1 r' d) fun a => ?_
  match a with
  | ⟨0, _⟩ => rfl
  | ⟨1, _⟩ => exact hr
  | ⟨2, _⟩ => exact (Nat.zero_add _).symm

/-- … at another row -/
theorem put_row_off (x : Vec Ideal S4x8192x128 .bf16) {off : Fin 3 → ℕ} (s : Fin 4) (e : ℕ) (hoff : off = ![s.val, e, 0])
    (w : Vec Ideal S1x1024x128 .bf16) (s' : Fin 4) (r : Fin 8192) (hr : r.val < e ∨ e + 1024 ≤ r.val) (d : Fin 128) :
    put x off S1x1024x128.size w (at4 s' r d) = x (at4 s' r d) := by
  subst hoff
  exact put_outside (sh := S4x8192x128) (size := S1x1024x128.size) x w (at4 s' r d) 1 hr

/-- … and in another slot. -/
theorem put_slot_off (x : Vec Ideal S4x8192x128 .bf16) {off : Fin 3 → ℕ} (s : Fin 4) (e : ℕ) (hoff : off = ![s.val, e, 0])
    (w : Vec Ideal S1x1024x128 .bf16) (s' : Fin 4) (hs : s'.val ≠ s.val) (r : Fin 8192) (d : Fin 128) :
    put x off S1x1024x128.size w (at4 s' r d) = x (at4 s' r d) := by
  subst hoff
  refine put_outside (sh := S4x8192x128) (size := S1x1024x128.size) x w (at4 s' r d) 0 ?_
  show s'.val < s.val ∨ s.val + 1 ≤ s'.val
  omega

theorem off13_eq : ∀ i : grid0.Coords, k0_off13 i = ![(1 : Fin 4).val, 1024 * (i 1).val, 0] := by decide +kernel
theorem off14_eq : ∀ i : grid0.Coords, k0_off14 i = ![(2 : Fin 4).val, 1024 * (i 1).val, 0] := by decide +kernel

/-- The key and value gradients' rows of earlier points stay. -/
theorem outKV_old (i : grid0.Coords) (s : St Ideal) (y : Vec Ideal S4x8192x128 .bf16) (o : Fin 4) (r : Fin 8192) (hr : r.val < 1024 * (i 1).val)
    (d : Fin 128) : outKV i s y (at4 o r d) = y (at4 o r d) :=
  (put_row_off _ 2 _ (off14_eq i) _ o r (.inl hr) d).trans (put_row_off _ 1 _ (off13_eq i) _ o r (.inl hr) d)

theorem outKV_k (i : grid0.Coords) (s : St Ideal) (y : Vec Ideal S4x8192x128 .bf16) (r : Fin 8192) (r' : Fin 1024)
    (hr : r.val = 1024 * (i 1).val + r'.val) (d : Fin 128) :
    (outKV i s y (at4 1 r d) : EReal) = s.dk (ix2 r' d) * ((Real.log 2 : ℝ) : EReal) :=
  ((put_slot_off _ 2 _ (off14_eq i) _ 1 (by decide) r d).trans (put_row_in _ 1 _ (off13_eq i) _ r r' hr d)).trans (pay53_apply _ r' d)

theorem outKV_v (i : grid0.Coords) (s : St Ideal) (y : Vec Ideal S4x8192x128 .bf16) (r : Fin 8192) (r' : Fin 1024)
    (hr : r.val = 1024 * (i 1).val + r'.val) (d : Fin 128) :
    (outKV i s y (at4 2 r d) : EReal) = s.dv (ix2 r' d) :=
  (put_row_in _ 2 _ (off14_eq i) _ r r' hr d).trans (pay1_apply _ r' d)

/-- One more block of query rows. -/
theorem q_step (T : Fin 8192 → Fin 128 → EReal) (e : ℕ) (he : e + 1024 ≤ 8192) (x : Vec Ideal S4x8192x128 .bf16) {off : Fin 3 → ℕ}
    (hoff : off = ![(0 : Fin 4).val, e, 0]) (w : Vec Ideal S1x1024x128 .bf16)
    (hx : ∀ (r : Fin 8192) (d : Fin 128), r.val < e → (x (at4 0 r d) : EReal) = T r d)
    (hw : ∀ (r : Fin 1024) (d : Fin 128), (w (at1 r d) : EReal) = T ⟨e + r.val, by omega⟩ d) :
    ∀ (r : Fin 8192) (d : Fin 128), r.val < e + 1024 → (put x off S1x1024x128.size w (at4 0 r d) : EReal) = T r d := by
  intro r d hr
  by_cases h : r.val < e
  · exact (put_row_off x 0 e hoff w 0 r (.inl h) d).trans (hx r d h)
  · refine (put_row_in x 0 e hoff w r ⟨r.val - e, by omega⟩ (by show r.val = e + (r.val - e); omega) d).trans ((hw _ d).trans ?_)
    exact congrArg (fun z => T z d) (Fin.ext (by show e + (r.val - e) = r.val; omega))

/-- A block of the transposed query gradient. -/
theorem q_block (s : St Ideal) (e : ℕ) (he : e + 1024 ≤ 8192) {off : Fin 2 → ℕ} (hoff : off = ![0, e])
    (inb : ∀ a, off a + S128x1024.size a ≤ S128x8192.size a) (r : Fin 1024) (d : Fin 128) :
    (k0_pay19 (F := Ideal) (window s.dq off S128x1024.size inb) (ix3 0 r d) : EReal) = s.dq (ix2 d (⟨e + r.val, by omega⟩ : Fin 8192)) * scaleW := by
  refine (pay19_apply _ r d).trans (congrArg (· * scaleW) ?_)
  subst hoff
  refine window_at (sh := S128x8192) s.dq inb (ix2 d r : S128x1024.Idx) (ix2 d (⟨e + r.val, by omega⟩ : Fin 8192) : S128x8192.Idx) fun a => ?_
  match a with
  | ⟨0, _⟩ => exact (Nat.zero_add _).symm
  | ⟨1, _⟩ => rfl

/-- The last slot is the gate's gradient. -/
theorem outQ_g (s : St Ideal) (g : Vec Ideal S8192x128 .bf16) (y : Vec Ideal S4x8192x128 .bf16) (r : Fin 8192) (d : Fin 128) :
    (outQ s g y (at4 3 r d) : EReal) = g (ix2 r d) := by
  refine Eq.trans ?_ (pay3_apply g r d)
  unfold outQ
  refine put_inside (sh := S4x8192x128) (size := S1x8192x128.size) _ _ (at4 3 r d) (ix3 0 r d : S1x8192x128.Idx) fun a => ?_
  match a with
  | ⟨0, _⟩ => rfl
  | ⟨1, _⟩ => exact (Nat.zero_add _).symm
  | ⟨2, _⟩ => exact (Nat.zero_add _).symm

theorem put_gate_off (x : Vec Ideal S4x8192x128 .bf16) (w : Vec Ideal S1x8192x128 .bf16) (s' : Fin 4) (hs : s'.val < 3) (r : Fin 8192) (d : Fin 128) :
    put x ![3, 0, 0] S1x8192x128.size w (at4 s' r d) = x (at4 s' r d) :=
  put_outside (sh := S4x8192x128) (size := S1x8192x128.size) x w (at4 s' r d) 0 (.inl hs)

/-- The key and value slots stay. -/
theorem outQ_kv (s : St Ideal) (g : Vec Ideal S8192x128 .bf16) (y : Vec Ideal S4x8192x128 .bf16) (o : Fin 4) (h0 : o.val ≠ (0 : Fin 4).val) (h3 : o.val < 3)
    (r : Fin 8192) (d : Fin 128) : outQ s g y (at4 o r d) = y (at4 o r d) := by
  unfold outQ
  refine (put_gate_off _ _ o h3 r d).trans ?_
  refine (put_slot_off _ 0 7168 rfl _ o h0 r d).trans ?_
  refine (put_slot_off _ 0 6144 rfl _ o h0 r d).trans ?_
  refine (put_slot_off _ 0 5120 rfl _ o h0 r d).trans ?_
  refine (put_slot_off _ 0 4096 rfl _ o h0 r d).trans ?_
  refine (put_slot_off _ 0 3072 rfl _ o h0 r d).trans ?_
  refine (put_slot_off _ 0 2048 rfl _ o h0 r d).trans ?_
  refine (put_slot_off _ 0 1024 rfl _ o h0 r d).trans ?_
  exact put_slot_off _ 0 0 rfl _ o h0 r d

/-- The first slot is the query gradient, transposed and scaled. -/
theorem outQ_q (s : St Ideal) (g : Vec Ideal S8192x128 .bf16) (y : Vec Ideal S4x8192x128 .bf16) (r : Fin 8192) (d : Fin 128) :
    (outQ s g y (at4 0 r d) : EReal) = s.dq (ix2 d r) * scaleW := by
  unfold outQ
  refine (put_gate_off _ _ 0 (by decide) r d).trans ?_
  refine q_step (fun r d => s.dq (ix2 d r) * scaleW) 7168 (by norm_num) _ rfl _ ?_
    (fun r d => (congrFun (pay26_eq _) _).trans (q_block s 7168 (by norm_num) rfl _ r d)) r d (by omega)
  refine q_step (fun r d => s.dq (ix2 d r) * scaleW) 6144 (by norm_num) _ rfl _ ?_
    (fun r d => (congrFun (pay25_eq _) _).trans (q_block s 6144 (by norm_num) rfl _ r d))
  refine q_step (fun r d => s.dq (ix2 d r) * scaleW) 5120 (by norm_num) _ rfl _ ?_
    (fun r d => (congrFun (pay24_eq _) _).trans (q_block s 5120 (by norm_num) rfl _ r d))
  refine q_step (fun r d => s.dq (ix2 d r) * scaleW) 4096 (by norm_num) _ rfl _ ?_
    (fun r d => (congrFun (pay23_eq _) _).trans (q_block s 4096 (by norm_num) rfl _ r d))
  refine q_step (fun r d => s.dq (ix2 d r) * scaleW) 3072 (by norm_num) _ rfl _ ?_
    (fun r d => (congrFun (pay22_eq _) _).trans (q_block s 3072 (by norm_num) rfl _ r d))
  refine q_step (fun r d => s.dq (ix2 d r) * scaleW) 2048 (by norm_num) _ rfl _ ?_
    (fun r d => (congrFun (pay21_eq _) _).trans (q_block s 2048 (by norm_num) rfl _ r d))
  refine q_step (fun r d => s.dq (ix2 d r) * scaleW) 1024 (by norm_num) _ rfl _ ?_
    (fun r d => (congrFun (pay20_eq _) _).trans (q_block s 1024 (by norm_num) rfl _ r d))
  exact q_step (fun r d => s.dq (ix2 d r) * scaleW) 0 (by norm_num) _ rfl _ (fun r d h => absurd h (Nat.not_lt_zero _))
    (fun r d => q_block s 0 (by norm_num) rfl _ r d)

end Cert.KernelIdeal.Bwd
-- ==== Proof.Arrays.lean ====
/- The three result arrays after the run. -/
module

public import proofs.«01_k».proof.Proof.Outs
public import Idealize.ShloMosaic.Lib.Pipeline.ArrRel

@[expose] public section

set_option maxRecDepth 16384

noncomputable section

namespace Cert.KernelIdeal.Bwd

open Idealize.ShloMosaic Idealize.ShloMosaic.TcCoe Idealize.SL.Sem Cert.KernelIdeal.Gen VecWindow Cert.Model Finset

variable {m : (ℓ : Loc nD τ sig) → Buf (Elt Ideal) ℓ}

theorem fetch8 : ∀ t : Fin cfg0.N, (cfg0.win 8).fetch t = false :=
  (by decide +kernel : ∀ t : Fin grid0.N, win0_8.fetch t = false)

/-- The key gradient, whose queries were scaled to base two. -/
theorem key_value {A : Head} {s : St Ideal} {a : ℕ} (h : Done A a s) (r : Fin 1024) (d : Fin 128) (gate : EReal) :
    (s.dk (ix2 r d) * ((Real.log 2 : ℝ) : EReal) : EReal) = slots A gate 1 (a + r.val) d.val := by
  rw [h.dk r d, ← EReal.coe_mul]
  unfold slots
  rw [if_neg (by decide), if_pos rfl]
  congr 1
  rw [sum_mul, sum_mul]
  refine sum_congr rfl fun i _ => ?_
  unfold qf
  have := log2_ne
  field_simp

theorem value_value {A : Head} {s : St Ideal} {a : ℕ} (h : Done A a s) (r : Fin 1024) (d : Fin 128) (gate : EReal) :
    (s.dv (ix2 r d) : EReal) = slots A gate 2 (a + r.val) d.val := by
  rw [h.dv r d]
  rfl

theorem query_value {A : Head} {s : St Ideal} (h : Kept A 8192 s) (hs : A.sc = scaleE.toReal) (i : Fin 8192) (d : Fin 128) (gate : EReal) :
    (s.dq (ix2 d i) * scaleW : EReal) = slots A gate 0 i.val d.val := by
  rw [h.dq d i, show scaleW = ((A.sc : ℝ) : EReal) by rw [hs]; exact scale_eq, ← EReal.coe_mul]
  rfl

/-- A point's own rows. -/
theorem fresh {c : Dev nD} (f : Numbers m c) (gate : EReal) (t : Fin cfg0.N) (g : Vec Ideal S8192x128 .bf16) (Y : Vec Ideal S4x8192x128 .bf16) (o : Fin 4)
    (ho : o.val = 1 ∨ o.val = 2) (r : Fin 8192) (d : Fin 128) :
    (out10 (grid0.coords t) (stAt m c (t.val + 1)) g Y (at4 o r d) : EReal) = outKV (grid0.coords t) (stAt m c (t.val + 1)) Y (at4 o r d)
      ∧ (1024 * (t.val % 8) ≤ r.val → r.val < 1024 * (t.val % 8) + 1024 →
        (outKV (grid0.coords t) (stAt m c (t.val + 1)) Y (at4 o r d) : EReal) = slots (hdAt m c (headIx t).val) gate o.val r.val d.val)
      ∧ (r.val < 1024 * (t.val % 8) → outKV (grid0.coords t) (stAt m c (t.val + 1)) Y (at4 o r d) = Y (at4 o r d)) := by
  have hd := (points f t.val t.isLt).2
  refine ⟨?_, fun hr hr' => ?_, fun hr => ?_⟩
  · unfold out10
    split
    · exact outQ_kv _ _ _ o (by show o.val ≠ 0; omega) (by omega) r d
    · rfl
  · have e : r.val = 1024 * (t.val % 8) + (⟨r.val - 1024 * (t.val % 8), by omega⟩ : Fin 1024).val := by
      show r.val = 1024 * (t.val % 8) + (r.val - 1024 * (t.val % 8)); omega
    have e' : r.val = 1024 * (grid0.coords t 1).val + (⟨r.val - 1024 * (t.val % 8), by omega⟩ : Fin 1024).val := by
      rw [coord1 t]; exact e
    rw [e]
    rcases ho with ho | ho
    · obtain rfl : o = 1 := Fin.ext ho
      exact (outKV_k _ _ _ r _ e' d).trans (key_value hd _ d gate)
    · obtain rfl : o = 2 := Fin.ext ho
      exact (outKV_v _ _ _ r _ e' d).trans (value_value hd _ d gate)
  · exact outKV_old _ _ _ o r (by rw [coord1 t]; exact hr) d

/-- After each point of a head the key and value slots hold the gradients of the rows reached. -/
theorem filled {c : Dev nD} (f : Numbers m c) (gate : EReal) : ∀ (n : ℕ) (hn : n < cfg0.N) (X : (cfg0.win 8).block.Idx → Elt Ideal (cfg0.win 8).elt)
    (_ : (rdat m c).Leaves 8 ⟨n, hn⟩ X) (o : Fin 4) (_ : o.val = 1 ∨ o.val = 2) (r : Fin 8192) (_ : r.val < 1024 * (n % 8) + 1024) (d : Fin 128),
    (X (at4 o r d) : EReal) = slots (hdAt m c (headIx ⟨n, hn⟩).val) gate o.val r.val d.val := by
  intro n
  induction n with
  | zero =>
    intro hn X hX o ho r hr d
    obtain ⟨Y, -, hY⟩ := hX
    have e : X = out10 (grid0.coords ⟨0, hn⟩) (stAt m c (0 + 1)) (gat m c ⟨0, hn⟩) Y := hY
    have k := fresh f gate ⟨0, hn⟩ (gat m c ⟨0, hn⟩) Y o ho r d
    rw [e]
    exact k.1.trans (k.2.1 (Nat.zero_le _) hr)
  | succ n ih =>
    intro hn X hX o ho r hr d
    obtain ⟨Y, hF, hY⟩ := hX
    have e : X = out10 (grid0.coords ⟨n + 1, hn⟩) (stAt m c (n + 1 + 1)) (gat m c ⟨n + 1, hn⟩) Y := hY
    have k := fresh f gate ⟨n + 1, hn⟩ (gat m c ⟨n + 1, hn⟩) Y o ho r d
    rw [e]
    refine k.1.trans ?_
    by_cases hr' : 1024 * ((n + 1) % 8) ≤ r.val
    · exact k.2.1 hr' hr
    · refine (k.2.2 (Nat.lt_of_not_le hr')).trans ?_
      have hn8 : (n + 1) % 8 ≠ 0 := fun h0 => hr' (by rw [h0]; exact Nat.zero_le _)
      have hL := ((rdat m c).finds_of_pos (fetch8 ⟨n + 1, hn⟩) (Nat.succ_ne_zero n) Y).1 hF
      have hL' : (rdat m c).Leaves 8 ⟨n, Nat.lt_of_succ_lt hn⟩ Y := hL.resolve_left fun hf => by
        have h7 := (flush0_8 ⟨n, Nat.lt_of_succ_lt hn⟩).1 hf
        have h7' : n % 8 = 7 := h7
        omega
      have v := ih (Nat.lt_of_succ_lt hn) Y hL' o ho r (by omega) d
      have eh : (headIx ⟨n, Nat.lt_of_succ_lt hn⟩).val = (headIx ⟨n + 1, hn⟩).val := by show n / 8 = (n + 1) / 8; omega
      rw [eh] at v
      exact v

theorem head_eq (t : Fin cfg0.N) (d : Fin 128) : (t.val / 8 * 128 + d.val) / 128 = (headIx t).val := by
  show (t.val / 8 * 128 + d.val) / 128 = t.val / 8
  omega

theorem lane_eq (t : Fin cfg0.N) (d : Fin 128) : (t.val / 8 * 128 + d.val) % 128 = d.val := by omega

/-- The gradients' block when it is written back. -/
theorem block8 {c : Dev nD} (f : Numbers m c) (t : Fin cfg0.N) (ht : t.val % 8 = 7) (X : (cfg0.win 8).block.Idx → Elt Ideal (cfg0.win 8).elt)
    (hX : (rdat m c).Leaves 8 t X) (o : Fin 4) (r : Fin 8192) (d : Fin 128) (gate : EReal)
    (hg : (arg5 m c (ix2 r ⟨128 * (t.val / 8) + d.val, col_lt t d⟩) : EReal) = gate) :
    (X (at4 o r d) : EReal) = slots (hdAt m c (headIx t).val) gate o.val r.val d.val := by
  by_cases ho : o.val = 1 ∨ o.val = 2
  · exact filled f gate t.val t.isLt X hX o ho r (by omega) d
  · obtain ⟨Y, -, hY⟩ := hX
    have e : X = out10 (grid0.coords t) (stAt m c (t.val + 1)) (gat m c t) Y := hY
    rw [e]
    unfold out10
    rw [if_pos ((cond2_iff t).2 ht)]
    have hk := (points f t.val t.isLt).1
    rw [show 1024 * (t.val % 8) + 1024 = 8192 by omega] at hk
    by_cases h0 : o.val = 0
    · obtain rfl : o = 0 := Fin.ext h0
      exact (outQ_q _ _ _ r d).trans (query_value hk rfl r d gate)
    · obtain rfl : o = 3 := Fin.ext (by show o.val = 3; omega)
      exact (outQ_g _ _ _ r d).trans ((gat_val c t r d).trans hg)

theorem final8 {c : Dev nD} (f : Numbers m c) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 8 cfg0.N
      = fun i : S4x8192x2048.Idx => slots (hdAt m c ((i 2).val / 128)) (arg5 m c (ix2 (i 1) (i 2))) (i 0).val (i 1).val ((i 2).val % 128) := by
  refine Pipeline.Dat.arrAt_eq_of_covers _ 8 _ (by decide +kernel) fun t hf y => ?_
  have h7 := (flush0_8 t).1 hf
  obtain ⟨o, r, d, rfl⟩ : ∃ (o : Fin 4) (r : Fin 8192) (d : Fin 128), y = ix3 o r d :=
    ⟨y 0, y 1, y 2, funext fun a => match a with | ⟨0, _⟩ => rfl | ⟨1, _⟩ => rfl | ⟨2, _⟩ => rfl⟩
  blk_simp [index8]
  have hb := block8 f t h7 (after 8 t) (hL 8 t hf) o r d (arg5 m c (ix2 ((win0_8.blk t).view.emb (ix3 o r d) 1) ((win0_8.blk t).view.emb (ix3 o r d) 2))) (by
    refine congrArg (arg5 m c) ?_
    blk_ext [index8])
  rw [head_eq t d, lane_eq t d]
  exact hb

theorem final9 {c : Dev nD} (f : Numbers m c) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 9 cfg0.N
      = fun i : S8192x2048.Idx => keySum (hdAt m c ((i 1).val / 128)) (i 0).val := by
  refine Pipeline.Dat.arrAt_eq_of_covers _ 9 _ (by decide +kernel) fun t hf y => ?_
  obtain ⟨r, d, rfl⟩ : ∃ (r : Fin 1024) (d : Fin 128), y = ix2 r d :=
    ⟨y 0, y 1, funext fun a => match a with | ⟨0, _⟩ => rfl | ⟨1, _⟩ => rfl⟩
  blk_simp [index9]
  obtain ⟨Y, -, hY⟩ := hL 9 t hf
  have e : after 9 t = k0_pay2 (stAt m c (t.val + 1)).dc := hY
  have hb : (after 9 t (ix2 r d) : EReal) = keySum (hdAt m c (headIx t).val) (1024 * (t.val % 8) + r.val) := by
    rw [e]
    refine (pay2_apply _ r d).trans ?_
    rw [(points f t.val t.isLt).2.dc r, ← EReal.coe_zero, ← EReal.coe_sub]
    rfl
  rw [head_eq t d, Nat.mul_comm (t.val % 8) 1024]
  exact hb

theorem final10 {c : Dev nD} (f : Numbers m c) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 10 cfg0.N
      = fun i : S16x1x8192.Idx => querySum (hdAt m c (i 0).val) (i 2).val := by
  refine Pipeline.Dat.arrAt_eq_of_covers _ 10 _ (by decide +kernel) fun t hf y => ?_
  have h7 := (flush0_10 t).1 hf
  obtain ⟨r, rfl⟩ : ∃ (r : Fin 8192), y = ix3 (0 : Fin 1) (0 : Fin 1) r :=
    ⟨y 2, funext fun a => match a with | ⟨0, _⟩ => Subsingleton.elim (α := Fin 1) _ _ | ⟨1, _⟩ => Subsingleton.elim (α := Fin 1) _ _ | ⟨2, _⟩ => rfl⟩
  blk_simp [index10]
  obtain ⟨Y, -, hY⟩ := hL 10 t hf
  have e : after 10 t = out12 (grid0.coords t) (stAt m c (t.val + 1)) Y := hY
  have hk := (points f t.val t.isLt).1
  rw [show 1024 * (t.val % 8) + 1024 = 8192 by omega] at hk
  have hb : (after 10 t (ix3 (0 : Fin 1) (0 : Fin 1) r) : EReal) = querySum (hdAt m c (headIx t).val) r.val := by
    rw [e]
    unfold out12
    rw [if_pos ((cond2_iff t).2 h7)]
    exact (pay4_apply _ r).trans (hk.rs r)
  exact hb

end Cert.KernelIdeal.Bwd
-- ==== Proof.Input.lean ====
/- The precondition read: every entry it speaks of is a number. -/
module

public import proofs.«01_k».proof.Defs
public import proofs.«01_k».proof.Proof.Heads
public import Idealize.ShloMosaic.Lib.ReduceAll

@[expose] public section

set_option maxRecDepth 16384

noncomputable section

namespace Cert.Pre_finite

open Idealize.ShloMosaic Cert.Model

/-- The shapes of the precondition fit. -/
theorem fits : Facts where
  bcast_S_S8192x2048 := by decide
  reducesTo_S8192x2048_S_d0_1 := by decide
  h_S_ := by decide
  bcast_S_S16x8192 := by decide
  reducesTo_S16x8192_S_d0_1 := by decide

theorem infinity_eq : Ideal.ofBits .f32 0x7F800000#32 = (⊤ : EReal) := by
  simp [Ideal.ofBits, Ideal.ieee]

/-- What is smaller than infinity in size is a number. -/
theorem number_of (x : EReal) (h : BitVec.ofBool (decide (max x (-x) < Ideal.ofBits .f32 0x7F800000#32)) = 1#1) : x = (x.toReal : EReal) := by
  rw [infinity_eq] at h
  by_cases hx : max x (-x) < ⊤
  · rw [max_lt_iff] at hx
    refine (EReal.coe_toReal hx.1.ne fun e => ?_).symm
    rw [e, EReal.neg_bot] at hx
    exact lt_irrefl _ hx.2
  · rw [decide_eq_false hx] at h
    exact absurd h (by decide)

theorem both (a b : BitVec 1) (h : IntOp.andi a b = 1#1) : a = 1#1 ∧ b = 1#1 := by
  revert h; revert a b; decide

instance : Subsingleton S_.Idx := ⟨fun a b => funext fun i => i.elim0⟩

section
variable [Facts]
open Facts

theorem matrix_of (x : FVec Ideal S8192x2048 .f32) (j : S_.Idx)
    (h : Host.reduce IntOp.andi (cmpf .olt (Host.absf x) (broadcastInDim S8192x2048 ![] bcast_S_S8192x2048 (constant S_ .f32 0x7F800000#32)))
      (constantI S_ 1 1#1) reducesTo_S8192x2048_S_d0_1 h_S_ j = 1#1) : Finite fun (i : Fin 8192) (d : Fin 2048) => (x (ix2 i d) : EReal) :=
  fun i d => number_of _ (Host.reduce_andi_all _ _ _ _ j h (ix2 i d))

theorem biases_of (x : FVec Ideal S16x8192 .f32) (j : S_.Idx)
    (h : Host.reduce IntOp.andi (cmpf .olt (Host.absf x) (broadcastInDim S16x8192 ![] bcast_S_S16x8192 (constant S_ .f32 0x7F800000#32)))
      (constantI S_ 1 1#1) reducesTo_S16x8192_S_d0_1 h_S_ j = 1#1) : Finite fun (i : Fin 16) (d : Fin 8192) => (x (ix2 i d) : EReal) :=
  fun i d => number_of _ (Host.reduce_andi_all _ _ _ _ j h (ix2 i d))

theorem all_of (x0 x1 x2 : FVec Ideal S8192x2048 .f32) (x3 : FVec Ideal S16x8192 .f32) (x4 x5 : FVec Ideal S8192x2048 .f32)
    (h : fn (F := Ideal) x0 x1 x2 x3 x4 x5 = fun _ => 1#1) :
    Finite (fun (i : Fin 8192) (d : Fin 2048) => (x0 (ix2 i d) : EReal)) ∧ Finite (fun (i : Fin 8192) (d : Fin 2048) => (x1 (ix2 i d) : EReal))
      ∧ Finite (fun (i : Fin 8192) (d : Fin 2048) => (x2 (ix2 i d) : EReal)) ∧ Finite (fun (i : Fin 16) (d : Fin 8192) => (x3 (ix2 i d) : EReal))
      ∧ Finite (fun (i : Fin 8192) (d : Fin 2048) => (x4 (ix2 i d) : EReal)) := by
  have j : S_.Idx := fun a => a.elim0
  have h' := congrFun h j
  obtain ⟨h', p4⟩ := both _ _ h'
  obtain ⟨h', p3⟩ := both _ _ h'
  obtain ⟨h', p2⟩ := both _ _ h'
  obtain ⟨p0, p1⟩ := both _ _ h'
  exact ⟨matrix_of x0 j p0, matrix_of x1 j p1, matrix_of x2 j p2, biases_of x3 j p3, matrix_of x4 j p4⟩

end

end Cert.Pre_finite

namespace Cert.KernelIdeal.Bwd

open Idealize.ShloMosaic

theorem numbers_of {m : (ℓ : Loc nD τ sig) → Buf (Elt Ideal) ℓ} (h : Cert.Pre_KernelIdeal_finite (hPre_finite := Cert.Pre_finite.fits) m)
    (c : Dev nD) : Numbers m c :=
  have ⟨f0, f1, f2, f3, f4⟩ := @Cert.Pre_finite.all_of Cert.Pre_finite.fits _ _ _ _ _ _ (h c)
  ⟨f0, f1, f2, f3, f4⟩

end Cert.KernelIdeal.Bwd
-- ==== Proof.RefRead.lean ====
/- The reference's arrays entry by entry: each stage's entry from the entries of the stages before. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Grad

open Idealize.ShloMosaic Cert.ReferenceIdeal.Gen Cert.ReferenceIdeal.Read

variable (a0 a1 a2 a4 a5 : FVec Ideal S8192x2048 .f32) (a3 : FVec Ideal S16x8192 .f32)

/-- The masked logits. -/
theorem logit_at (h : Fin 16) (i j : Fin 8192) :
    (val_main_v19_0 (F := Ideal) a0 a1 a3 (ix3 h i j) : EReal)
      = Scalar.select (IntOp.cmpi .sle (BitVec.ofNat 32 j.val) (BitVec.ofNat 32 i.val))
          ((∑ x : Fin 128, a0 (ix2 i ⟨h.val * 128 + x.val, by omega⟩) * a1 (ix2 j ⟨h.val * 128 + x.val, by omega⟩))
              * Ideal.ofBits .f32 0x3DB504F3#32 + (a3 (ix2 h i) - a3 (ix2 h j)))
          (Ideal.ofBits .f32 0xFF800000#32) := by
  pointwise [val_main_v19_0, val_main_call0_v2, val_main_call0_v0, val_main_v19_1, val_main_cst_0, val_main_v18, val_main_v17,
    val_main_v16, val_main_v15, val_main_v14, val_main_v13, val_main_v12, val_main_v11, val_main_v10, val_main_v9, val_main_v8,
    val_main_v7, val_main_v6, val_main_v5, val_main_cst, val_main_v4, val_main_v3, val_main_v2, val_main_v1, val_main_v0]
  rfl

/-- A row's maximum. -/
theorem top_at (h : Fin 16) (i : Fin 8192) :
    (val_main_v20 (F := Ideal) a0 a1 a3 (ix2 h i) : EReal)
      = Finset.univ.fold max (Ideal.ofBits .f32 0xFF800000#32) fun x : Fin 8192 => val_main_v19_0 (F := Ideal) a0 a1 a3 (ix3 h i x) := by
  pointwise [val_main_v20, val_main_cst_1]

/-- The exponentials, shifted by the row's shift. -/
theorem exp_at (h : Fin 16) (i j : Fin 8192) :
    (val_main_v40 (F := Ideal) a0 a1 a3 (ix3 h i j) : EReal)
      = Ideal.exp (val_main_v19_0 (F := Ideal) a0 a1 a3 (ix3 h i j) - val_main_v27 (F := Ideal) a0 a1 a3 (ix2 h i)) := by
  pointwise [val_main_v40, val_main_v39, val_main_v38, val_main_v37]

theorem max_of (x : FVec Ideal S16x8192 .f32) (k : S16x8192.Idx) :
    (maximumf (val_main_v26 (F := Ideal)) x k : EReal) = max (Ideal.ofBits .f32 0xFF800000#32) (x k) := by
  pointwise [val_main_v26, val_main_cst_3]

/-- The row's shift is its maximum. -/
theorem shift_at (h : Fin 16) (i : Fin 8192) :
    (val_main_v27 (F := Ideal) a0 a1 a3 (ix2 h i) : EReal)
      = max (Ideal.ofBits .f32 0xFF800000#32) (val_main_v20 (F := Ideal) a0 a1 a3 (ix2 h i)) := by
  unfold val_main_v27
  generalize val_main_v20 (F := Ideal) a0 a1 a3 = x
  exact max_of x (ix2 h i)

/-- Their row sums. -/
theorem sum_at (h : Fin 16) (i : Fin 8192) :
    (val_main_v41 (F := Ideal) a0 a1 a3 (ix2 h i) : EReal) = ∑ x : Fin 8192, val_main_v40 (F := Ideal) a0 a1 a3 (ix3 h i x) := by
  pointwise [val_main_v41, val_main_cst_9]

/-- The softmax. -/
theorem soft_at (h : Fin 16) (i j : Fin 8192) :
    (val_main_v44 (F := Ideal) a0 a1 a3 (ix3 h i j) : EReal)
      = Ideal.div (val_main_v40 (F := Ideal) a0 a1 a3 (ix3 h i j)) (val_main_v41 (F := Ideal) a0 a1 a3 (ix2 h i)) := by
  pointwise [val_main_v44, val_main_v43, val_main_v42]

/-- The gradient of the softmax. -/
theorem dsoft_at (h : Fin 16) (i j : Fin 8192) :
    (val_main_v57 (F := Ideal) a2 a4 (ix3 h i j) : EReal)
      = ∑ x : Fin 128, a4 (ix2 i ⟨h.val * 128 + x.val, by omega⟩) * a2 (ix2 j ⟨h.val * 128 + x.val, by omega⟩) := by
  pointwise [val_main_v57, val_main_v54, val_main_v53, val_main_v49, val_main_v48]

/-- The gradient of the values. -/
theorem dv_at (i : Fin 8192) (j : Fin 2048) (hj : j.val / 128 < 16) :
    (val_main_v59 (F := Ideal) a0 a1 a3 a4 (ix2 i j) : EReal)
      = ∑ x : Fin 8192, a4 (ix2 x j) * val_main_v44 (F := Ideal) a0 a1 a3 (ix3 ⟨j.val / 128, hj⟩ x i) := by
  pointwise [val_main_v59, val_main_v58, val_main_v56, val_main_v55, val_main_v54, val_main_v53]

/-- The terms of the row's sum. -/
theorem part_at (h : Fin 16) (i j : Fin 8192) :
    (val_main_v62 (F := Ideal) a0 a1 a2 a3 a4 (ix3 h i j) : EReal)
      = val_main_v57 (F := Ideal) a2 a4 (ix3 h i j)
          * Ideal.div (Ideal.ofBits .f32 0x3F800000#32)
              (val_main_v41 (F := Ideal) a0 a1 a3 (ix2 h i) * val_main_v41 (F := Ideal) a0 a1 a3 (ix2 h i))
          * val_main_v40 (F := Ideal) a0 a1 a3 (ix3 h i j) := by
  pointwise [val_main_v62, val_main_v61, val_main_v60, val_main_v47, val_main_v46, val_main_cst_10, val_main_v45, val_main_v42]

/-- The row's sum. -/
theorem parts_at (h : Fin 16) (i : Fin 8192) :
    (val_main_v63 (F := Ideal) a0 a1 a2 a3 a4 (ix2 h i) : EReal) = ∑ x : Fin 8192, val_main_v62 (F := Ideal) a0 a1 a2 a3 a4 (ix3 h i x) := by
  pointwise [val_main_v63, val_main_cst_11]

theorem column_of (x : FVec Ideal S16x8192 .f32) (h : Fin 16) (i : Fin 8192) (o : Fin 1) :
    shapeCast S16x8192x1 x shapeCasts_S16x8192_S16x8192x1 (ix3 h i o) = x (ix2 h i) :=
  shapeCast_apply x shapeCasts_S16x8192_S16x8192x1 (ix3 h i o) (ix2 h i) (by
    rewrite [Shape.rowMajor_val_two, Shape.rowMajor_val_three]
    show h.val * 8192 + i.val = (h.val * 8192 + i.val) * 1 + o.val
    omega)

theorem middle_of (x : FVec Ideal S16x8192 .f32) (h : Fin 16) (o : Fin 1) (i : Fin 8192) :
    shapeCast S16x1x8192 x shapeCasts_S16x8192_S16x1x8192 (ix3 h o i) = x (ix2 h i) :=
  shapeCast_apply x shapeCasts_S16x8192_S16x1x8192 (ix3 h o i) (ix2 h i) (by
    rewrite [Shape.rowMajor_val_two, Shape.rowMajor_val_three]
    show h.val * 8192 + i.val = (h.val * 1 + o.val) * 8192 + i.val
    omega)

theorem minus_of (x : FVec Ideal S16x8192x8192 .f32) (k : S16x8192x8192.Idx) : (Host.negf x k : EReal) = - x k := rfl

theorem neg_of (x : FVec Ideal S16x8192 .f32) (h : Fin 16) (i : Fin 8192) (o : Fin 1) :
    (Host.negf (shapeCast S16x8192x1 x shapeCasts_S16x8192_S16x8192x1) (ix3 h i o) : EReal) = - x (ix2 h i) := by
  rewrite [← column_of x h i o]
  rfl

/-- A sum over a last axis of one is its only entry. -/
theorem single_of (x : FVec Ideal S16x8192x1 .f32) (h : Fin 16) (i : Fin 8192) :
    (Host.reduceAdd x (constant S_ .f32 0x00000000#32) reducesTo_S16x8192x1_S16x8192_d2 h_S_ (ix2 h i) : EReal) = x (ix3 h i 0) := by
  have e : (Host.reduceAdd x (constant S_ .f32 0x00000000#32) reducesTo_S16x8192x1_S16x8192_d2 h_S_ (ix2 h i) : EReal)
      = ∑ o : Fin 1, x (ix3 h i o) := by
    pointwise []
  exact e.trans (Fin.sum_univ_one _)

theorem single_mid_of (x : FVec Ideal S16x1x8192 .f32) (h : Fin 16) (i : Fin 8192) :
    (Host.reduceAdd x (constant S_ .f32 0x00000000#32) reducesTo_S16x1x8192_S16x8192_d1 h_S_ (ix2 h i) : EReal) = x (ix3 h 0 i) := by
  have e : (Host.reduceAdd x (constant S_ .f32 0x00000000#32) reducesTo_S16x1x8192_S16x8192_d1 h_S_ (ix2 h i) : EReal)
      = ∑ o : Fin 1, x (ix3 h o i) := by
    pointwise []
  exact e.trans (Fin.sum_univ_one _)

theorem along_of (x : FVec Ideal S16x8192x1 .f32) (h : Fin 16) (i j : Fin 8192) :
    (broadcastInDim S16x8192x8192 ![0, 1] bcast_S16x8192_S16x8192x8192_0_1
      (Host.reduceAdd x (constant S_ .f32 0x00000000#32) reducesTo_S16x8192x1_S16x8192_d2 h_S_) (ix3 h i j) : EReal) = x (ix3 h i 0) := by
  refine Eq.trans ?_ (single_of x h i)
  generalize Host.reduceAdd x (constant S_ .f32 0x00000000#32) reducesTo_S16x8192x1_S16x8192_d2 h_S_ = y
  pointwise []

theorem third_of (x : FVec Ideal S16x8192 .f32) (h : Fin 16) (i : Fin 8192) :
    (shapeCast S16x1x8192 (Host.reduceAdd (shapeCast S16x8192x1 x shapeCasts_S16x8192_S16x8192x1) (constant S_ .f32 0x00000000#32)
      reducesTo_S16x8192x1_S16x8192_d2 h_S_) shapeCasts_S16x8192_S16x1x8192 (ix3 h 0 i) : EReal) = x (ix2 h i) :=
  (middle_of _ h 0 i).trans ((single_of _ h i).trans (column_of x h i 0))

theorem second_of (x : FVec Ideal S16x8192 .f32) (i : Fin 8192) (j : Fin 2048) (hj : j.val / 128 < 16) :
    (shapeCast S8192x2048 (broadcastInDim S8192x16x128 ![0, 1] bcast_S8192x16_S8192x16x128_0_1 (transpose S8192x16 [1, 0]
      (Host.reduceAdd (shapeCast S16x1x8192 x shapeCasts_S16x8192_S16x1x8192) (constant S_ .f32 0x00000000#32)
        reducesTo_S16x1x8192_S16x8192_d1 h_S_) transposes_S16x8192_S8192x16_1_0)) shapeCasts_S8192x16x128_S8192x2048 (ix2 i j) : EReal)
      = x (ix2 ⟨j.val / 128, hj⟩ i) := by
  refine Eq.trans ?_ ((single_mid_of _ ⟨j.val / 128, hj⟩ i).trans (middle_of x _ 0 i))
  generalize Host.reduceAdd (shapeCast S16x1x8192 x shapeCasts_S16x8192_S16x1x8192) (constant S_ .f32 0x00000000#32)
        reducesTo_S16x1x8192_S16x8192_d1 h_S_ = y
  pointwise []

/-- The row's sum with its sign, along the row. -/
theorem neg_at (h : Fin 16) (i : Fin 8192) (o : Fin 1) :
    (val_main_v65 (F := Ideal) a0 a1 a2 a3 a4 (ix3 h i o) : EReal) = - val_main_v63 (F := Ideal) a0 a1 a2 a3 a4 (ix2 h i) := by
  unfold val_main_v65 val_main_v64
  generalize val_main_v63 (F := Ideal) a0 a1 a2 a3 a4 = x
  exact neg_of x h i o

theorem negs_at (h : Fin 16) (i j : Fin 8192) :
    (val_main_v69 (F := Ideal) a0 a1 a2 a3 a4 (ix3 h i j) : EReal) = - val_main_v63 (F := Ideal) a0 a1 a2 a3 a4 (ix2 h i) := by
  refine Eq.trans ?_ (neg_at a0 a1 a2 a4 a3 h i 0)
  unfold val_main_v69 val_main_v68 val_main_cst_12
  generalize val_main_v65 (F := Ideal) a0 a1 a2 a3 a4 = x
  exact along_of x h i j

/-- The gradient of the logits, before the mask. -/
theorem grad_at (h : Fin 16) (i j : Fin 8192) :
    (val_main_v71 (F := Ideal) a0 a1 a2 a3 a4 (ix3 h i j) : EReal)
      = (Ideal.div (val_main_v57 (F := Ideal) a2 a4 (ix3 h i j)) (val_main_v41 (F := Ideal) a0 a1 a3 (ix2 h i))
          + val_main_v69 (F := Ideal) a0 a1 a2 a3 a4 (ix3 h i j)) * val_main_v40 (F := Ideal) a0 a1 a3 (ix3 h i j) := by
  pointwise [val_main_v71, val_main_v70, val_main_v67, val_main_v66, val_main_v42]

/-- The gradient of the logits. -/
theorem masked_at (h : Fin 16) (i j : Fin 8192) :
    (val_main_v72 (F := Ideal) a0 a1 a2 a3 a4 (ix3 h i j) : EReal)
      = Scalar.select (IntOp.cmpi .sle (BitVec.ofNat 32 j.val) (BitVec.ofNat 32 i.val))
          (val_main_v71 (F := Ideal) a0 a1 a2 a3 a4 (ix3 h i j)) (Ideal.ofBits .f32 0x00000000#32) := by
  pointwise [val_main_v72, val_main_call1_v0, val_main_call1_cst, val_main_v19_1, val_main_v18, val_main_v17,
    val_main_v16, val_main_v15, val_main_v14, val_main_v13]

/-- The gradient of the queries. -/
theorem dq_at (i : Fin 8192) (j : Fin 2048) (hj : j.val / 128 < 16) :
    (val_main_v87 (F := Ideal) a0 a1 a2 a3 a4 (ix2 i j) : EReal)
      = ∑ x : Fin 8192, val_main_v72 (F := Ideal) a0 a1 a2 a3 a4 (ix3 ⟨j.val / 128, hj⟩ i x) * Ideal.ofBits .f32 0x3DB504F3#32
          * a1 (ix2 x j) := by
  pointwise [val_main_v87, val_main_v86, val_main_v83, val_main_v81, val_main_v80, val_main_cst_17, val_main_v3, val_main_v2]

/-- The gradient of the keys. -/
theorem dk_at (i : Fin 8192) (j : Fin 2048) (hj : j.val / 128 < 16) :
    (val_main_v85 (F := Ideal) a0 a1 a2 a3 a4 (ix2 i j) : EReal)
      = ∑ x : Fin 8192, val_main_v72 (F := Ideal) a0 a1 a2 a3 a4 (ix3 ⟨j.val / 128, hj⟩ x i) * Ideal.ofBits .f32 0x3DB504F3#32
          * a0 (ix2 x j) := by
  pointwise [val_main_v85, val_main_v84, val_main_v82, val_main_v81, val_main_v80, val_main_cst_17, val_main_v1, val_main_v0]

/-- The row sums of the gradient of the logits. -/
theorem rows_at (h : Fin 16) (i : Fin 8192) :
    (val_main_v73 (F := Ideal) a0 a1 a2 a3 a4 (ix2 h i) : EReal) = ∑ x : Fin 8192, val_main_v72 (F := Ideal) a0 a1 a2 a3 a4 (ix3 h i x) := by
  pointwise [val_main_v73, val_main_cst_13]

/-- Its column sums, with their sign. -/
theorem columns_at (h : Fin 16) (i : Fin 8192) :
    (val_main_v76 (F := Ideal) a0 a1 a2 a3 a4 (ix2 h i) : EReal) = ∑ x : Fin 8192, val_main_v75 (F := Ideal) a0 a1 a2 a3 a4 (ix3 h x i) := by
  pointwise [val_main_v76, val_main_cst_14]

theorem minus_at (h : Fin 16) (i j : Fin 8192) :
    (val_main_v75 (F := Ideal) a0 a1 a2 a3 a4 (ix3 h i j) : EReal) = - val_main_v72 (F := Ideal) a0 a1 a2 a3 a4 (ix3 h i j) := by
  unfold val_main_v75
  generalize val_main_v72 (F := Ideal) a0 a1 a2 a3 a4 = x
  exact minus_of x (ix3 h i j)

/-- The third result. -/
theorem third_at (h : Fin 16) (i : Fin 8192) :
    (val_main_v97 (F := Ideal) a0 a1 a2 a3 a4 (ix3 h 0 i) : EReal) = val_main_v73 (F := Ideal) a0 a1 a2 a3 a4 (ix2 h i) := by
  unfold val_main_v97 val_main_v79 val_main_v74 val_main_cst_16
  generalize val_main_v73 (F := Ideal) a0 a1 a2 a3 a4 = x
  exact third_of x h i

/-- The second result. -/
theorem second_at (i : Fin 8192) (j : Fin 2048) (hj : j.val / 128 < 16) :
    (val_main_v96 (F := Ideal) a0 a1 a2 a3 a4 (ix2 i j) : EReal) = val_main_v76 (F := Ideal) a0 a1 a2 a3 a4 (ix2 ⟨j.val / 128, hj⟩ i) := by
  unfold val_main_v96 val_main_v95 val_main_v94 val_main_v78 val_main_v77 val_main_cst_15
  generalize val_main_v76 (F := Ideal) a0 a1 a2 a3 a4 = x
  exact second_of x i j hj

/-- The first result's four slots. -/
theorem first_q (i : Fin 8192) (j : Fin 2048) :
    (val_main_v93 (F := Ideal) a0 a1 a2 a3 a4 a5 (ix3 (0 : Fin 4) i j) : EReal) = val_main_v87 (F := Ideal) a0 a1 a2 a3 a4 (ix2 i j) := by
  pointwise [val_main_v93, val_main_v92, val_main_v91, val_main_v90, val_main_v89, val_main_v88]

theorem first_k (i : Fin 8192) (j : Fin 2048) :
    (val_main_v93 (F := Ideal) a0 a1 a2 a3 a4 a5 (ix3 (1 : Fin 4) i j) : EReal) = val_main_v85 (F := Ideal) a0 a1 a2 a3 a4 (ix2 i j) := by
  pointwise [val_main_v93, val_main_v92, val_main_v91, val_main_v90, val_main_v89, val_main_v88]

theorem first_v (i : Fin 8192) (j : Fin 2048) :
    (val_main_v93 (F := Ideal) a0 a1 a2 a3 a4 a5 (ix3 (2 : Fin 4) i j) : EReal) = val_main_v59 (F := Ideal) a0 a1 a3 a4 (ix2 i j) := by
  pointwise [val_main_v93, val_main_v92, val_main_v91, val_main_v90, val_main_v89, val_main_v88]

theorem first_g (i : Fin 8192) (j : Fin 2048) :
    (val_main_v93 (F := Ideal) a0 a1 a2 a3 a4 a5 (ix3 (3 : Fin 4) i j) : EReal) = a5 (ix2 i j) := by
  pointwise [val_main_v93, val_main_v92, val_main_v91, val_main_v90, val_main_v89, val_main_v88]

end Cert.ReferenceIdeal.Grad
-- ==== Proof.RefVal.lean ====
/- The reference's results as numbers: the same sums, over one head at a time, as the kernel's. -/
module

public import proofs.«01_k».proof.Proof.RefRead
public import proofs.«01_k».proof.Proof.Result

@[expose] public section

set_option maxRecDepth 16384

noncomputable section

namespace Cert.Model.Head

open Finset

/-- The gradient of the logits as the quotient's derivative gives it, whatever the row's shift `e`. -/
theorem D_of_quotient (A : Head) {i : ℕ} (hi : i < 8192) (j : ℕ) {e : ℝ} (he : 0 < e) :
    (A.dP i j / (A.L i * e) + -∑ y ∈ range 8192, A.dP i y * (1 / (A.L i * e * (A.L i * e))) * (A.w i y * e)) * (A.w i j * e) = A.D i j := by
  have hL := (A.L_pos hi).ne'
  have hs : ∑ y ∈ range 8192, A.dP i y * (1 / (A.L i * e * (A.L i * e))) * (A.w i y * e) = A.Dl i / (A.L i * e) := by
    unfold Dl P
    rw [sum_div]
    refine sum_congr rfl fun y _ => ?_
    field_simp
  rw [hs]
  unfold D P
  field_simp
  ring

end Cert.Model.Head

namespace Cert.ReferenceIdeal.Grad

open Idealize.ShloMosaic Cert.ReferenceIdeal.Gen Cert.ReferenceIdeal.Read Cert.Model

/-- A matrix as a function of row and column. -/
abbrev mat (a : FVec Ideal S8192x2048 .f32) : Fin 8192 → Fin 2048 → EReal := fun i j => a (ix2 i j)
/-- The biases as a function of head and key. -/
abbrev bias (a : FVec Ideal S16x8192 .f32) : Fin 16 → Fin 8192 → EReal := fun h j => a (ix2 h j)

variable {a0 a1 a2 a4 : FVec Ideal S8192x2048 .f32} {a3 : FVec Ideal S16x8192 .f32}

/-- Head `h` of the arguments. -/
abbrev hd (a0 a1 a2 a4 : FVec Ideal S8192x2048 .f32) (a3 : FVec Ideal S16x8192 .f32) (h : ℕ) : Head :=
  headOf (mat a0) (mat a1) (mat a2) (mat a4) (bias a3) h

theorem mat_entry {a : FVec Ideal S8192x2048 .f32} (f : Finite (mat a)) (i : Fin 8192) (j : Fin 2048) {i' j' : ℕ} (hi : i.val = i')
    (hj : j.val = j') : (a (ix2 i j) : EReal) = (entry (mat a) i' j' : EReal) := f.entry_eq i j hi hj

theorem bias_entry {a : FVec Ideal S16x8192 .f32} (f : Finite (bias a)) (h : Fin 16) (j : Fin 8192) {h' j' : ℕ} (hh : h.val = h')
    (hj : j.val = j') : (a (ix2 h j) : EReal) = (entry (bias a) h' j' : EReal) := f.entry_eq h j hh hj

theorem one_eq : Ideal.ofBits .f32 0x3F800000#32 = ((1 : ℝ) : EReal) := by
  simp [Ideal.ofBits, Ideal.ieee]
  rw [← EReal.coe_mul]; norm_num

theorem logit_val (f0 : Finite (mat a0)) (f1 : Finite (mat a1)) (f3 : Finite (bias a3)) (h : Fin 16) (i j : Fin 8192) :
    (val_main_v19_0 (F := Ideal) a0 a1 a3 (ix3 h i j) : EReal)
      = if j.val ≤ i.val then (((hd a0 a1 a2 a4 a3 h.val).z i.val j.val + (hd a0 a1 a2 a4 a3 h.val).C i.val : ℝ) : EReal) else ⊥ := by
  refine (logit_at a0 a1 a3 h i j).trans ?_
  rw [bottom_eq, WordCmp.cmpi_sle_ofNat (by omega) (by omega), dot_real (q := mat a0) (k := mat a1) (v := mat a2) (g := mat a4) (c := bias a3) f0 f1 h i j]
  have e : Ideal.ofBits .f32 0x3DB504F3#32 = (((hd a0 a1 a2 a4 a3 h.val).sc : ℝ) : EReal) := scale_eq
  rw [e, bias_entry f3 h j rfl rfl, bias_entry f3 h i rfl rfl, ← EReal.coe_mul, ← EReal.coe_sub, ← EReal.coe_add]
  by_cases hj : j.val ≤ i.val
  · rw [if_pos hj, decide_eq_true hj]
    refine congrArg Real.toEReal ?_
    unfold Head.z
    show _ + ((hd a0 a1 a2 a4 a3 h.val).C i.val - (hd a0 a1 a2 a4 a3 h.val).C j.val) = _
    ring
  · rw [if_neg hj, decide_eq_false hj]; rfl

/-- A row of exponentials and its sum, each the same positive multiple of the softmax's. -/
theorem row_val (f0 : Finite (mat a0)) (f1 : Finite (mat a1)) (f3 : Finite (bias a3)) (h : Fin 16) (i : Fin 8192) :
    ∃ e : ℝ, 0 < e
      ∧ (∀ j : Fin 8192, (val_main_v40 (F := Ideal) a0 a1 a3 (ix3 h i j) : EReal) = (((hd a0 a1 a2 a4 a3 h.val).w i.val j.val * e : ℝ) : EReal))
      ∧ (val_main_v41 (F := Ideal) a0 a1 a3 (ix2 h i) : EReal) = (((hd a0 a1 a2 a4 a3 h.val).L i.val * e : ℝ) : EReal) := by
  obtain ⟨M, hM, he, hs⟩ := soft_row (hd a0 a1 a2 a4 a3 h.val) i ((hd a0 a1 a2 a4 a3 h.val).C i.val)
    (fun j => val_main_v19_0 (F := Ideal) a0 a1 a3 (ix3 h i j)) (logit_val f0 f1 f3 h i)
  have e20 : (val_main_v20 (F := Ideal) a0 a1 a3 (ix2 h i) : EReal) = (M : EReal) := by
    refine (top_at a0 a1 a3 h i).trans ?_
    rw [bottom_eq]; exact hM
  have e27 : (val_main_v27 (F := Ideal) a0 a1 a3 (ix2 h i) : EReal) = (M : EReal) := by
    refine (shift_at a0 a1 a3 h i).trans ?_
    rw [bottom_eq, e20]; exact max_eq_right bot_le
  have e40 : ∀ j : Fin 8192, (val_main_v40 (F := Ideal) a0 a1 a3 (ix3 h i j) : EReal)
      = Ideal.exp (val_main_v19_0 (F := Ideal) a0 a1 a3 (ix3 h i j) - (M : EReal)) := fun j => by
    refine (exp_at a0 a1 a3 h i j).trans ?_
    rw [e27]
  refine ⟨Real.exp ((hd a0 a1 a2 a4 a3 h.val).C i.val - M), Real.exp_pos _, fun j => (e40 j).trans (he j), ?_⟩
  refine (sum_at a0 a1 a3 h i).trans (Eq.trans ?_ hs)
  exact Finset.sum_congr rfl fun j _ => e40 j

theorem soft_val (f0 : Finite (mat a0)) (f1 : Finite (mat a1)) (f3 : Finite (bias a3)) (h : Fin 16) (i j : Fin 8192) :
    (val_main_v44 (F := Ideal) a0 a1 a3 (ix3 h i j) : EReal) = (((hd a0 a1 a2 a4 a3 h.val).P i.val j.val : ℝ) : EReal) := by
  obtain ⟨e, he, hw, hL⟩ := row_val (a2 := a2) (a4 := a4) f0 f1 f3 h i
  refine (soft_at a0 a1 a3 h i j).trans ?_
  rw [hw j, hL, div_real _ (mul_pos ((hd a0 a1 a2 a4 a3 h.val).L_pos i.isLt) he).ne', mul_div_mul_right _ _ he.ne']
  rfl

theorem dsoft_val (f2 : Finite (mat a2)) (f4 : Finite (mat a4)) (h : Fin 16) (i j : Fin 8192) :
    (val_main_v57 (F := Ideal) a2 a4 (ix3 h i j) : EReal) = (((hd a0 a1 a2 a4 a3 h.val).dP i.val j.val : ℝ) : EReal) := by
  refine (dsoft_at a2 a4 h i j).trans ?_
  refine sum_fin_coe (fun d => (hd a0 a1 a2 a4 a3 h.val).G i.val d * (hd a0 a1 a2 a4 a3 h.val).V j.val d) fun x => ?_
  rw [mat_entry f4 i ⟨h.val * 128 + x.val, by omega⟩ rfl rfl, mat_entry f2 j ⟨h.val * 128 + x.val, by omega⟩ rfl rfl, ← EReal.coe_mul]
  rfl

/-- The gradient of the logits. -/
theorem grad_val (f0 : Finite (mat a0)) (f1 : Finite (mat a1)) (f2 : Finite (mat a2)) (f3 : Finite (bias a3)) (f4 : Finite (mat a4))
    (h : Fin 16) (i j : Fin 8192) :
    (val_main_v71 (F := Ideal) a0 a1 a2 a3 a4 (ix3 h i j) : EReal) = (((hd a0 a1 a2 a4 a3 h.val).D i.val j.val : ℝ) : EReal) := by
  obtain ⟨e, he, hw, hL⟩ := row_val (a2 := a2) (a4 := a4) f0 f1 f3 h i
  have hl := mul_pos ((hd a0 a1 a2 a4 a3 h.val).L_pos i.isLt) he
  have part : ∀ y : Fin 8192, (val_main_v62 (F := Ideal) a0 a1 a2 a3 a4 (ix3 h i y) : EReal)
      = (((hd a0 a1 a2 a4 a3 h.val).dP i.val y.val
          * (1 / ((hd a0 a1 a2 a4 a3 h.val).L i.val * e * ((hd a0 a1 a2 a4 a3 h.val).L i.val * e)))
          * ((hd a0 a1 a2 a4 a3 h.val).w i.val y.val * e) : ℝ) : EReal) := fun y => by
    refine (part_at a0 a1 a2 a4 a3 h i y).trans ?_
    rw [hw y, hL, dsoft_val (a0 := a0) (a1 := a1) (a3 := a3) f2 f4 h i y, one_eq, ← EReal.coe_mul, div_real _ (mul_pos hl hl).ne', ← EReal.coe_mul,
      ← EReal.coe_mul]
  have parts : (val_main_v63 (F := Ideal) a0 a1 a2 a3 a4 (ix2 h i) : EReal) = _ :=
    (parts_at a0 a1 a2 a4 a3 h i).trans (sum_fin_coe (fun y => (hd a0 a1 a2 a4 a3 h.val).dP i.val y
          * (1 / ((hd a0 a1 a2 a4 a3 h.val).L i.val * e * ((hd a0 a1 a2 a4 a3 h.val).L i.val * e)))
          * ((hd a0 a1 a2 a4 a3 h.val).w i.val y * e)) part)
  refine (grad_at a0 a1 a2 a4 a3 h i j).trans ?_
  rw [negs_at, parts, hw j, hL, dsoft_val (a0 := a0) (a1 := a1) (a3 := a3) f2 f4 h i j, div_real _ hl.ne', ← EReal.coe_neg, ← EReal.coe_add, ← EReal.coe_mul]
  exact congrArg Real.toEReal (Head.D_of_quotient _ i.isLt j.val he)

theorem masked_val (f0 : Finite (mat a0)) (f1 : Finite (mat a1)) (f2 : Finite (mat a2)) (f3 : Finite (bias a3)) (f4 : Finite (mat a4))
    (h : Fin 16) (i j : Fin 8192) :
    (val_main_v72 (F := Ideal) a0 a1 a2 a3 a4 (ix3 h i j) : EReal) = (((hd a0 a1 a2 a4 a3 h.val).D i.val j.val : ℝ) : EReal) := by
  refine (masked_at a0 a1 a2 a4 a3 h i j).trans ?_
  rw [WordCmp.cmpi_sle_ofNat (by omega) (by omega), Ideal.ofBits_zero_f32, grad_val f0 f1 f2 f3 f4 h i j]
  by_cases hj : j.val ≤ i.val
  · rw [decide_eq_true hj]; rfl
  · rw [decide_eq_false hj, Head.D_above _ (by omega)]; rfl

theorem head_lt (j : Fin 2048) : j.val / 128 < 16 := by have := j.isLt; omega

theorem column_split (j : Fin 2048) : j.val = j.val / 128 * 128 + j.val % 128 := by omega

/-- The first result's four slots. -/
theorem first_val (f0 : Finite (mat a0)) (f1 : Finite (mat a1)) (f2 : Finite (mat a2)) (f3 : Finite (bias a3)) (f4 : Finite (mat a4))
    (a5 : FVec Ideal S8192x2048 .f32) (s : Fin 4) (i : Fin 8192) (j : Fin 2048) :
    (val_main_v93 (F := Ideal) a0 a1 a2 a3 a4 a5 (ix3 s i j) : EReal)
      = slots (hd a0 a1 a2 a4 a3 (j.val / 128)) (a5 (ix2 i j)) s.val i.val (j.val % 128) := by
  have e : Ideal.ofBits .f32 0x3DB504F3#32 = (((hd a0 a1 a2 a4 a3 (j.val / 128)).sc : ℝ) : EReal) := scale_eq
  match s with
  | ⟨0, _⟩ =>
    refine (first_q a0 a1 a2 a4 a5 a3 i j).trans ((dq_at a0 a1 a2 a4 a3 i j (head_lt j)).trans ?_)
    unfold slots
    rw [if_pos rfl, Finset.sum_mul]
    refine sum_fin_coe (fun y => (hd a0 a1 a2 a4 a3 (j.val / 128)).K y (j.val % 128) * (hd a0 a1 a2 a4 a3 (j.val / 128)).D i.val y
      * (hd a0 a1 a2 a4 a3 (j.val / 128)).sc) fun y => ?_
    rw [masked_val f0 f1 f2 f3 f4, e, mat_entry f1 y j rfl (column_split j), ← EReal.coe_mul, ← EReal.coe_mul]
    refine congrArg Real.toEReal ?_
    show _ * (hd a0 a1 a2 a4 a3 (j.val / 128)).K y.val (j.val % 128) = _
    ring
  | ⟨1, _⟩ =>
    refine (first_k a0 a1 a2 a4 a5 a3 i j).trans ((dk_at a0 a1 a2 a4 a3 i j (head_lt j)).trans ?_)
    unfold slots
    rw [if_neg (show ¬ (_ : ℕ) = _ by simp), if_pos rfl, Finset.sum_mul]
    refine sum_fin_coe (fun y => (hd a0 a1 a2 a4 a3 (j.val / 128)).D y i.val * (hd a0 a1 a2 a4 a3 (j.val / 128)).Q y (j.val % 128)
      * (hd a0 a1 a2 a4 a3 (j.val / 128)).sc) fun y => ?_
    rw [masked_val f0 f1 f2 f3 f4, e, mat_entry f0 y j rfl (column_split j), ← EReal.coe_mul, ← EReal.coe_mul]
    refine congrArg Real.toEReal ?_
    show _ * (hd a0 a1 a2 a4 a3 (j.val / 128)).Q y.val (j.val % 128) = _
    ring
  | ⟨2, _⟩ =>
    refine (first_v a0 a1 a2 a4 a5 a3 i j).trans ((dv_at a0 a1 a4 a3 i j (head_lt j)).trans ?_)
    unfold slots
    rw [if_neg (show ¬ (_ : ℕ) = _ by simp), if_neg (show ¬ (_ : ℕ) = _ by simp), if_pos rfl]
    refine sum_fin_coe (fun y => (hd a0 a1 a2 a4 a3 (j.val / 128)).P y i.val * (hd a0 a1 a2 a4 a3 (j.val / 128)).G y (j.val % 128)) fun y => ?_
    rw [soft_val (a2 := a2) (a4 := a4) f0 f1 f3, mat_entry f4 y j rfl (column_split j), ← EReal.coe_mul, mul_comm]
    rfl
  | ⟨3, _⟩ =>
    refine (first_g a0 a1 a2 a4 a5 a3 i j).trans ?_
    unfold slots
    rw [if_neg (show ¬ (_ : ℕ) = _ by simp), if_neg (show ¬ (_ : ℕ) = _ by simp), if_neg (show ¬ (_ : ℕ) = _ by simp)]

/-- The bias's gradient at the keys. -/
theorem second_val (f0 : Finite (mat a0)) (f1 : Finite (mat a1)) (f2 : Finite (mat a2)) (f3 : Finite (bias a3)) (f4 : Finite (mat a4))
    (i : Fin 8192) (j : Fin 2048) :
    (val_main_v96 (F := Ideal) a0 a1 a2 a3 a4 (ix2 i j) : EReal) = keySum (hd a0 a1 a2 a4 a3 (j.val / 128)) i.val := by
  refine (second_at a0 a1 a2 a4 a3 i j (head_lt j)).trans ((columns_at a0 a1 a2 a4 a3 ⟨j.val / 128, head_lt j⟩ i).trans ?_)
  unfold keySum
  rw [zero_sub, ← Finset.sum_neg_distrib]
  refine sum_fin_coe (fun y => -(hd a0 a1 a2 a4 a3 (j.val / 128)).D y i.val) fun y => ?_
  rw [minus_at, masked_val f0 f1 f2 f3 f4, ← EReal.coe_neg]

/-- The bias's gradient at the queries. -/
theorem third_val (f0 : Finite (mat a0)) (f1 : Finite (mat a1)) (f2 : Finite (mat a2)) (f3 : Finite (bias a3)) (f4 : Finite (mat a4))
    (h : Fin 16) (i : Fin 8192) :
    (val_main_v97 (F := Ideal) a0 a1 a2 a3 a4 (ix3 h 0 i) : EReal) = querySum (hd a0 a1 a2 a4 a3 h.val) i.val := by
  refine (third_at a0 a1 a2 a4 a3 h i).trans ((rows_at a0 a1 a2 a4 a3 h i).trans ?_)
  unfold querySum
  exact sum_fin_coe (fun y => (hd a0 a1 a2 a4 a3 h.val).D i.val y) fun y => masked_val f0 f1 f2 f3 f4 h i y

end Cert.ReferenceIdeal.Grad
-- ==== Proof.lean ====
/-
  The claims of this certificate. Each program ends with its arguments as they were and its counters at zero; the named
  constant stands for the word that the program prints; and for inputs that are numbers the kernel's three results are
  the reference's. The calls that are a matrix product have theirs in Calls.lean, the optimiser's in Updates.lean, and the
  last three in Layer.lean and Normed.lean.
-/
module

public import proofs.«01_k».proof.Defs
public import proofs.«01_k».proof.Proof.Calls
public import proofs.«01_k».proof.Proof.Layer
public import proofs.«01_k».proof.Proof.Normed
public import proofs.«01_k».proof.Proof.Updates
public import proofs.«01_k».proof.Proof.KernelBody
public import proofs.«01_k».proof.Proof.Arrays
public import proofs.«01_k».proof.Proof.Input
public import proofs.«01_k».proof.Proof.RefVal
public import proofs.«01_k».proof.Proof.Gen.ReferenceIdeal.Run
public import proofs.«01_k».proof.Proof.Gen.ReferenceIdeal.Read

@[expose] public section

noncomputable section

namespace Cert.Proof

open Idealize.ShloMosaic Idealize.SL.Sem Cert.Calls

/-- The program as it is printed: it ends, its arguments as they were, its counters at zero. -/
theorem kernel_frame : Cert.quiescent_Kernel (hKernel := Cert.Kernel.Gen.facts) := fun m g _ =>
  (θ_run _ _ _).mono (fun r h => ⟨Cert.Kernel.Bwd.args_kept m r h.1, h.2⟩) (Cert.Kernel.Bwd.run m g)

/-- The same of the program with its constant named. -/
theorem ideal_frame : Cert.quiescent_KernelIdeal (hKernelIdeal := Cert.KernelIdeal.Gen.facts) := fun m g _ =>
  (θ_run _ _ _).mono (fun r h => ⟨Cert.KernelIdeal.Bwd.args_kept m r h.1, h.2⟩) (Cert.KernelIdeal.Bwd.run m g)

/-- The reference is host lines only: it leaves its arguments and never touches a counter. -/
theorem reference_frame : Cert.quiescent_ReferenceIdeal (hReferenceIdeal := Cert.ReferenceIdeal.Gen.facts) := fun m g _ =>
  (θ_run _ _ _).mono (fun r h => ⟨fun c => (h c).2.2.2, sem_eq_zero_of_no_sems (by decide) r.2⟩)
    (Cert.ReferenceIdeal.Value.run m g)

/-- The named constant's word is the f32 nearest to the logarithm of two. -/
theorem constant_kept : Cert.preserves_Kernel_KernelIdeal :=
  IdealRules.named_const.statement Cert.KernelIdeal.κ "ln2" .f32 0x3F317218#32 _ rfl

open Cert.Model

/-- The three results after the kernel's run. -/
theorem kernel_results {m : (ℓ : Loc Cert.KernelIdeal.nD Cert.KernelIdeal.τ Cert.KernelIdeal.sig) → Buf (Elt Ideal) ℓ} {c : Dev Cert.KernelIdeal.nD}
    (f : Cert.KernelIdeal.Bwd.Numbers m c) (r : PUnit × MemSt Cert.KernelIdeal.nD Cert.KernelIdeal.τ Cert.KernelIdeal.sig (Elt Ideal))
    (h : Pipeline.RDat.FramePost Cert.KernelIdeal.cfg0 (Cert.KernelIdeal.Bwd.rdat m) (Cert.KernelIdeal.Gen.V m) r) :
    r.2.mem ((c.tc : Thread Cert.KernelIdeal.nD Cert.KernelIdeal.τ).loc Cert.KernelIdeal.main_v57_0)
        = (fun i : Cert.KernelIdeal.S4x8192x2048.Idx => slots (Cert.KernelIdeal.Bwd.hdAt m c ((i 2).val / 128))
            (Cert.KernelIdeal.Bwd.arg5 m c (ix2 (i 1) (i 2))) (i 0).val (i 1).val ((i 2).val % 128))
      ∧ r.2.mem ((c.tc : Thread Cert.KernelIdeal.nD Cert.KernelIdeal.τ).loc Cert.KernelIdeal.main_v57_1)
        = (fun i : Cert.KernelIdeal.S8192x2048.Idx => keySum (Cert.KernelIdeal.Bwd.hdAt m c ((i 1).val / 128)) (i 0).val)
      ∧ r.2.mem ((c.tc : Thread Cert.KernelIdeal.nD Cert.KernelIdeal.τ).loc Cert.KernelIdeal.main_v57_2)
        = (fun i : Cert.KernelIdeal.S16x1x8192.Idx => querySum (Cert.KernelIdeal.Bwd.hdAt m c (i 0).val) (i 2).val) := by
  obtain ⟨after, hL, hA⟩ := h.exists_exact c
  exact ⟨(hA 8).trans (Cert.KernelIdeal.Bwd.final8 f after hL), (hA 9).trans (Cert.KernelIdeal.Bwd.final9 f after hL),
    (hA 10).trans (Cert.KernelIdeal.Bwd.final10 f after hL)⟩

section

open Cert.ReferenceIdeal Cert.ReferenceIdeal.Grad Cert.ReferenceIdeal.Read

variable {a0 a1 a2 a4 : FVec Ideal S8192x2048 .f32} {a3 : FVec Ideal S16x8192 .f32}

theorem reference_first (f0 : Finite (mat a0)) (f1 : Finite (mat a1)) (f2 : Finite (mat a2)) (f3 : Finite (bias a3)) (f4 : Finite (mat a4))
    (a5 : FVec Ideal S8192x2048 .f32) :
    val_main_v93 (F := Ideal) a0 a1 a2 a3 a4 a5
      = fun i : S4x8192x2048.Idx => slots (hd a0 a1 a2 a4 a3 ((i 2).val / 128)) (a5 (ix2 (i 1) (i 2))) (i 0).val (i 1).val ((i 2).val % 128) := by
  funext i
  obtain ⟨s, r, d, rfl⟩ : ∃ (s : Fin 4) (r : Fin 8192) (d : Fin 2048), i = ix3 s r d :=
    ⟨i 0, i 1, i 2, funext fun a => match a with | ⟨0, _⟩ => rfl | ⟨1, _⟩ => rfl | ⟨2, _⟩ => rfl⟩
  exact first_val f0 f1 f2 f3 f4 a5 s r d

theorem reference_second (f0 : Finite (mat a0)) (f1 : Finite (mat a1)) (f2 : Finite (mat a2)) (f3 : Finite (bias a3)) (f4 : Finite (mat a4)) :
    val_main_v96 (F := Ideal) a0 a1 a2 a3 a4 = fun i : S8192x2048.Idx => keySum (hd a0 a1 a2 a4 a3 ((i 1).val / 128)) (i 0).val := by
  funext i
  obtain ⟨r, d, rfl⟩ : ∃ (r : Fin 8192) (d : Fin 2048), i = ix2 r d :=
    ⟨i 0, i 1, funext fun a => match a with | ⟨0, _⟩ => rfl | ⟨1, _⟩ => rfl⟩
  exact second_val f0 f1 f2 f3 f4 r d

theorem reference_third (f0 : Finite (mat a0)) (f1 : Finite (mat a1)) (f2 : Finite (mat a2)) (f3 : Finite (bias a3)) (f4 : Finite (mat a4)) :
    val_main_v97 (F := Ideal) a0 a1 a2 a3 a4 = fun i : S16x1x8192.Idx => querySum (hd a0 a1 a2 a4 a3 (i 0).val) (i 2).val := by
  funext i
  obtain ⟨h, r, rfl⟩ : ∃ (h : Fin 16) (r : Fin 8192), i = ix3 h (0 : Fin 1) r :=
    ⟨i 0, i 2, funext fun a => match a with | ⟨0, _⟩ => rfl | ⟨1, _⟩ => Subsingleton.elim (α := Fin 1) _ _ | ⟨2, _⟩ => rfl⟩
  exact third_val f0 f1 f2 f3 f4 h r

end

/-- The kernel computes what the reference computes. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.fits) := fun m g m' g' hp hag => by
  have f : ∀ c, Cert.KernelIdeal.Bwd.Numbers m c := Cert.KernelIdeal.Bwd.numbers_of hp
  refine ⟨fun c => (fun i : Cert.KernelIdeal.S4x8192x2048.Idx => slots (Cert.KernelIdeal.Bwd.hdAt m c ((i 2).val / 128))
      (Cert.KernelIdeal.Bwd.arg5 m c (ix2 (i 1) (i 2))) (i 0).val (i 1).val ((i 2).val % 128)),
    fun c => (fun i : Cert.KernelIdeal.S8192x2048.Idx => keySum (Cert.KernelIdeal.Bwd.hdAt m c ((i 1).val / 128)) (i 0).val),
    fun c => (fun i : Cert.KernelIdeal.S16x1x8192.Idx => querySum (Cert.KernelIdeal.Bwd.hdAt m c (i 0).val) (i 2).val), ?_, ?_⟩
  · refine (θ_run _ _ _).mono (fun r h c => ?_) (Cert.KernelIdeal.Bwd.run m g)
    obtain ⟨h0, h1, h2⟩ := kernel_results (f c) r h.1
    exact ⟨h0, h1, h2, Cert.KernelIdeal.Bwd.args_kept m r h.1 c⟩
  · refine (θ_run _ _ _).mono (fun r h c => ?_) (Cert.ReferenceIdeal.Value.run m' g')
    obtain ⟨h0, h1, h2, hk⟩ := h c
    obtain ⟨e0, e1, e2, e3, e4, e5⟩ := hag c
    obtain ⟨f0, f1, f2, f3, f4⟩ := f c
    refine ⟨h0.trans ((Cert.ReferenceIdeal.Read.val_main_v93_eq m' c).trans ?_), h1.trans ((Cert.ReferenceIdeal.Read.val_main_v96_eq m' c).trans ?_),
      h2.trans ((Cert.ReferenceIdeal.Read.val_main_v97_eq m' c).trans ?_), hk⟩
    · rw [e0, e1, e2, e3, e4, e5]
      exact reference_first f0 f1 f2 f3 f4 _
    · rw [e0, e1, e2, e3, e4]
      exact reference_second f0 f1 f2 f3 f4
    · rw [e0, e1, e2, e3, e4]
      exact reference_third f0 f1 f2 f3 f4

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.fits,
    kernel_frame, ideal_frame, fun m g _ => ideal_frame m g trivial, reference_frame, fun m g _ => reference_frame m g trivial,
    printed_frame2, exact_frame2, plain_frame2, printed_frame3, exact_frame3, plain_frame3, printed_frame4, exact_frame4, plain_frame4,
    printed_frame5, exact_frame5, plain_frame5, printed_frame6, exact_frame6, plain_frame6, printed_frame7, exact_frame7, plain_frame7,
    printed_frame8, exact_frame8, plain_frame8, printed_frame9, exact_frame9, plain_frame9, printed_frame10, exact_frame10, plain_frame10,
    Updates.printed_frame11, Updates.exact_frame11, Updates.plain_frame11,
    Updates.printed_frame12, Updates.exact_frame12, Updates.plain_frame12,
    Updates.printed_frame13, Updates.exact_frame13, Updates.plain_frame13,
    Updates.printed_frame14, Updates.exact_frame14, Updates.plain_frame14,
    Updates.printed_frame15, Updates.exact_frame15, Updates.plain_frame15,
    Updates.printed_frame16, Updates.exact_frame16, Updates.plain_frame16,
    Updates.printed_frame17, Updates.exact_frame17, Updates.plain_frame17,
    Layer.printed_frame18, Layer.exact_frame18, Layer.plain_frame18,
    Layer.printed_frame19, Layer.exact_frame19, Layer.plain_frame19,
    Layer.printed_frame20, Layer.exact_frame20, Layer.plain_frame20,
    constant_kept, same_results, trivial, same2, trivial, same3, trivial, same4, trivial, same5, trivial, same6, trivial, same7, trivial, same8, trivial, same9, trivial, same10,
    trivial, Updates.same11, trivial, Updates.same12, trivial, Updates.same13, trivial, Updates.same14, trivial, Updates.same15, trivial, Updates.same16, trivial, Updates.same17,
    Layer.constant18, Layer.same18, trivial, Layer.same19, trivial, Layer.same20⟩

end Cert.Proof

end
